-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((Real.log 256)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_v52) = v2 c
          ∧ r.2.mem ((c.tc : Thread Cert.Reference5Ideal.nD Cert.Reference5Ideal.τ).loc Cert.Reference5Ideal.main_v54) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x1024 : Shape := ⟨2, ![16384, 1024]⟩
abbrev S16384x512 : Shape := ⟨2, ![16384, 512]⟩
abbrev S256x512 : Shape := ⟨2, ![256, 512]⟩
abbrev S8x15x31 : Shape := ⟨3, ![8, 15, 31]⟩
abbrev S1024x1024 : Shape := ⟨2, ![1024, 1024]⟩
abbrev S2x2x9x1024 : Shape := ⟨4, ![2, 2, 9, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_v13 : IVec S_ 1) (main_v16 : IVec S8x15x31 1) : IVec S_ 1 :=
  let main_c_5 : IVec S_ 1 := constantI S_ 1 1#1
  let main_v17 : IVec S_ 1 := (fun x v => Host.reduce IntOp.andi x v reducesTo_S8x15x31_S_d0_1_2 h_S_) main_v16 main_c_5
  let main_v18 : IVec S_ 1 := andi main_v13 main_v17
  main_v18

def fn {F : FTy → Type} [FloatOps F] (main_arg0 : FVec F S16384x1024 .f32) (main_arg1 : FVec F S16384x512 .f32) (main_arg2 : FVec F S16384x512 .f32) (main_arg3 : FVec F S16384x512 .f32) (main_arg4 : FVec F S256x512 .f32) (main_arg5 : FVec F S256x512 .f32) (main_arg6 : FVec F S8x15x31 .f32) (main_arg7 : FVec F S16384x512 .f32) (main_arg8 : FVec F S1024x1024 .f32) (main_arg9 : FVec F S2x2x9x1024 .f32) : IVec S_ 1 :=
  let main_v0 : FVec F S16384x512 .f32 := Host.absf main_arg1
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg2
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S8x15x31 .f32 := Host.absf main_arg6
  let main_cst_4 : FVec F S_ .f32 := constant S_ .f32 0x7F800000#32
  let main_v15 : FVec F S8x15x31 .f32 := broadcastInDim S8x15x31 ![] bcast_S_S8x15x31 main_cst_4
  let main_v16 : IVec S8x15x31 1 := cmpf .olt main_v14 main_v15
  fn_part1 (F := F) main_v13 main_v16
-- ==== Kernel.lean ====
abbrev S16384x1024 : Shape := ⟨2, ![16384, 1024]⟩
abbrev S16384x512 : Shape := ⟨2, ![16384, 512]⟩
abbrev S256x512 : Shape := ⟨2, ![256, 512]⟩
abbrev S8x15x31 : Shape := ⟨3, ![8, 15, 31]⟩
abbrev S1024x1024 : Shape := ⟨2, ![1024, 1024]⟩
abbrev S2x2x9x1024 : Shape := ⟨4, ![2, 2, 9, 1024]⟩
abbrev S8x14x31 : Shape := ⟨3, ![8, 14, 31]⟩
abbrev S_ : Shape := ⟨0, ![]⟩
abbrev S8x14x33 : Shape := ⟨3, ![8, 14, 33]⟩
abbrev S8x14x16 : Shape := ⟨3, ![8, 14, 16]⟩
abbrev S8x14x15 : Shape := ⟨3, ![8, 14, 15]⟩
abbrev S8x14x128 : Shape := ⟨3, ![8, 14, 128]⟩
abbrev S3x8x256x768 : Shape := ⟨4, ![3, 8, 256, 768]⟩
abbrev S1x14x128 : Shape := ⟨3, ![1, 14, 128]⟩
abbrev S3x1x256x768 : Shape := ⟨4, ![3, 1, 256, 768]⟩
abbrev S64x128 : Shape := ⟨2, ![64, 128]⟩
abbrev S1x1x128 : Shape := ⟨3, ![1, 1, 128]⟩
abbrev S1x128 : Shape := ⟨2, ![1, 128]⟩
abbrev S1x1x64x128 : Shape := ⟨4, ![1, 1, 64, 128]⟩
abbrev S512x1024 : Shape := ⟨2, ![512, 1024]⟩
abbrev S512x512 : Shape := ⟨2, ![512, 512]⟩
abbrev S1x8x256x768 : Shape := ⟨4, ![1, 8, 256, 768]⟩
abbrev S1x1x9x1024 : Shape := ⟨4, ![1, 1, 9, 1024]⟩
abbrev S1x256 : Shape := ⟨2, ![1, 256]⟩
abbrev S256x256 : Shape := ⟨2, ![256, 256]⟩
abbrev S1024x256 : Shape := ⟨2, ![1024, 256]⟩
abbrev S1x1x256x256 : Shape := ⟨4, ![1, 1, 256, 256]⟩
abbrev S256 : Shape := ⟨1, ![256]⟩
abbrev S256x1 : Shape := ⟨2, ![256, 1]⟩
abbrev S256x1024 : Shape := ⟨2, ![256, 1024]⟩
abbrev S1x1x1x1024 : Shape := ⟨4, ![1, 1, 1, 1024]⟩
abbrev S1x1024 : Shape := ⟨2, ![1, 1024]⟩

abbrev nBuf : Space → Nat
  | .hbm => 25
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S256x512, .f32⟩
  | .hbm, ⟨5, _⟩ => ⟨S256x512, .f32⟩
  | .hbm, ⟨6, _⟩ => ⟨S8x15x31, .f32⟩
  | .hbm, ⟨7, _⟩ => ⟨S16384x512, .f32⟩
  | .hbm, ⟨8, _⟩ => ⟨S1024x1024, .f32⟩
  | .hbm, ⟨9, _⟩ => ⟨S2x2x9x1024, .f32⟩
  | .hbm, ⟨10, _⟩ => ⟨S8x14x31, .f32⟩
  | .hbm, ⟨11, _⟩ => ⟨S8x14x31, .f32⟩
  | .hbm, ⟨12, _⟩ => ⟨S_, .f32⟩
  | .hbm, ⟨13, _⟩ => ⟨S8x14x33, .f32⟩
  | .hbm, ⟨14, _⟩ => ⟨S8x14x16, .f32⟩
  | .hbm, ⟨15, _⟩ => ⟨S8x14x15, .f32⟩
  | .hbm, ⟨16, _⟩ => ⟨S8x14x128, .f32⟩
  | .hbm, ⟨17, _⟩ => ⟨S3x8x256x768, .f32⟩
  | .hbm, ⟨18, _⟩ => ⟨S16384x512, .bf16⟩
  | .hbm, ⟨19, _⟩ => ⟨S16384x512, .bf16⟩
  | .hbm, ⟨20, _⟩ => ⟨S256x512, .bf16⟩
  | .hbm, ⟨21, _⟩ => ⟨S256x512, .bf16⟩
  | .hbm, ⟨22, _⟩ => ⟨S16384x512, .bf16⟩
  | .hbm, ⟨23, _⟩ => ⟨S1024x1024, .bf16⟩
  | .hbm, ⟨24, _⟩ => ⟨S16384x1024, .f32⟩
  | .local _ .vmem, ⟨0, _⟩ => ⟨S1x14x128, .f32⟩
  | .local _ .vmem, ⟨1, _⟩ => ⟨S1x14x128, .f32⟩
  | .local _ .vmem, ⟨2, _⟩ => ⟨S3x1x256x768, .f32⟩
  | .local _ .vmem, ⟨3, _⟩ => ⟨S3x1x256x768, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S256x512, .bf16⟩
  | .local _ .vmem, ⟨9, _⟩ => ⟨S256x512, .bf16⟩
  | .local _ .vmem, ⟨10, _⟩ => ⟨S512x512, .bf16⟩
  | .local _ .vmem, ⟨11, _⟩ => ⟨S512x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S512x512, .bf16⟩
  | .local _ .vmem, ⟨17, _⟩ => ⟨S512x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S1x8x256x768, .f32⟩
  | .local _ .vmem, ⟨23, _⟩ => ⟨S1x8x256x768, .f32⟩
  | .local _ .vmem, ⟨24, _⟩ => ⟨S1x8x256x768, .f32⟩
  | .local _ .vmem, ⟨25, _⟩ => ⟨S1x8x256x768, .f32⟩
  | .local _ .vmem, ⟨26, _⟩ => ⟨S512x512, .bf16⟩
  | .local _ .vmem, ⟨27, _⟩ => ⟨S512x512, .bf16⟩
  | .local _ .vmem, ⟨28, _⟩ => ⟨S1024x1024, .bf16⟩
  | .local _ .vmem, ⟨29, _⟩ => ⟨S1x1x9x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg15_0 : Ref sig .tc := ⟨.vmem, 30, rfl⟩
abbrev cc1_stg15_1 : Ref sig .tc := ⟨.vmem, 31, rfl⟩
abbrev cc1_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25
abbrev cc1_sem12_0 : DmaSem sig := 26
abbrev cc1_sem12_1 : DmaSem sig := 27
abbrev cc1_sem13_0 : DmaSem sig := 28
abbrev cc1_sem14_0 : DmaSem sig := 29
abbrev cc1_sem15_0 : DmaSem sig := 30
abbrev cc1_sem15_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x14x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![v2.toNat, c0_i32.toNat]

def cc1_transform_5 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![v2.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let c0_i32 : BitVec 32 := 0#32
  let v0 : BitVec 1 := Scalar.cmpi .eq arg0 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc1_transform_11 (i : grid1.Coords) : Fin 4 → Nat :=
  let arg0 : BitVec 32 := BitVec.ofNat 32 (i 0).val
  let c31_i32 : BitVec 32 := 31#32
  let v0 : BitVec 1 := Scalar.cmpi .eq arg0 c31_i32
  let c2_i32 : BitVec 32 := 2#32
  let c1_i32 : BitVec 32 := 1#32
  let v1 : BitVec 32 := Scalar.select v0 c2_i32 c1_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S256x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x8x256x768 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x8x256x768 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1024x1024 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1x9x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S512x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.log 256)⁻¹ : ℝ) : EReal)
  | _ => none
-- ==== ReferenceIdeal.lean ====
abbrev S16384x1024 : Shape := ⟨2, ![16384, 1024]⟩
abbrev S16384x512 : Shape := ⟨2, ![16384, 512]⟩
abbrev S256x512 : Shape := ⟨2, ![256, 512]⟩
abbrev S8x15x31 : Shape := ⟨3, ![8, 15, 31]⟩
abbrev S1024x1024 : Shape := ⟨2, ![1024, 1024]⟩
abbrev S2x2x9x1024 : Shape := ⟨4, ![2, 2, 9, 1024]⟩
abbrev S256x64x8x64 : Shape := ⟨4, ![256, 64, 8, 64]⟩
abbrev S256x8x64 : Shape := ⟨3, ![256, 8, 64]⟩
abbrev S256 : Shape := ⟨1, ![256]⟩
abbrev S_ : Shape := ⟨0, ![]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S256x8x64x8x64 : Shape := ⟨5, ![256, 8, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S256x1x8x1 : Shape := ⟨4, ![256, 1, 8, 1]⟩
abbrev S1x64x1x64 : Shape := ⟨4, ![1, 64, 1, 64]⟩
abbrev S256x64x8x64x1 : Shape := ⟨5, ![256, 64, 8, 64, 1]⟩
abbrev S256x64x8x64x2 : Shape := ⟨5, ![256, 64, 8, 64, 2]⟩
abbrev S8x256x64x8x64 : Shape := ⟨5, ![8, 256, 64, 8, 64]⟩
abbrev S64x1x64 : Shape := ⟨3, ![64, 1, 64]⟩
abbrev S8x256x64x512 : Shape := ⟨4, ![8, 256, 64, 512]⟩
abbrev S8x256x64x256 : Shape := ⟨4, ![8, 256, 64, 256]⟩
abbrev S8x256x64x768 : Shape := ⟨4, ![8, 256, 64, 768]⟩
abbrev S8x256x64 : Shape := ⟨3, ![8, 256, 64]⟩
abbrev S8x256x64x1 : Shape := ⟨4, ![8, 256, 64, 1]⟩
abbrev S256x8x64x64 : Shape := ⟨4, ![256, 8, 64, 64]⟩
abbrev S8x64x256x64 : Shape := ⟨4, ![8, 64, 256, 64]⟩
abbrev S1x1x1x1024 : Shape := ⟨4, ![1, 1, 1, 1024]⟩
abbrev S1024 : Shape := ⟨1, ![1024]⟩
abbrev S1x1024 : Shape := ⟨2, ![1, 1024]⟩

abbrev nBuf : Space → Nat
  | .hbm => 169
  | .vmem => 0
  | .smem => 0
  | _ => 0

abbrev hbmTy0_0 (i : Nat) : BufTy := match i % 128 with
  | 0 => ⟨S16384x1024, .f32⟩
  | 1 => ⟨S16384x512, .f32⟩
  | 2 => ⟨S16384x512, .f32⟩
  | 3 => ⟨S16384x512, .f32⟩
  | 4 => ⟨S256x512, .f32⟩
  | 5 => ⟨S256x512, .f32⟩
  | 6 => ⟨S8x15x31, .f32⟩
  | 7 => ⟨S16384x512, .f32⟩
  | 8 => ⟨S1024x1024, .f32⟩
  | 9 => ⟨S2x2x9x1024, .f32⟩
  | 10 => ⟨S256x64x8x64, .f32⟩
  | 11 => ⟨S256x64x8x64, .f32⟩
  | 12 => ⟨S256x64x8x64, .f32⟩
  | 13 => ⟨S256x8x64, .f32⟩
  | 14 => ⟨S256x8x64, .f32⟩
  | 15 => ⟨S256, .i32⟩
  | 16 => ⟨S_, .i32⟩
  | 17 => ⟨S256, .i32⟩
  | 18 => ⟨S256, .i32⟩
  | 19 => ⟨S_, .i32⟩
  | 20 => ⟨S_, .i32⟩
  | 21 => ⟨S_, .i32⟩
  | 22 => ⟨S256, .i32⟩
  | 23 => ⟨S256, .i32⟩
  | 24 => ⟨S_, .i32⟩
  | 25 => ⟨S256, .i32⟩
  | 26 => ⟨S256, .i32⟩
  | 27 => ⟨S256x1, .i32⟩
  | 28 => ⟨S8, .i32⟩
  | 29 => ⟨S1x8, .i32⟩
  | 30 => ⟨S256x8, .i32⟩
  | 31 => ⟨S256x8, .i32⟩
  | 32 => ⟨S256x8, .i32⟩
  | 33 => ⟨S_, .i32⟩
  | 34 => ⟨S256x8, .i32⟩
  | 35 => ⟨S256x8, .i1⟩
  | 36 => ⟨S_, .i32⟩
  | 37 => ⟨S256x8, .i32⟩
  | 38 => ⟨S256x8, .i32⟩
  | 39 => ⟨S256x8, .i32⟩
  | 40 => ⟨S256x8x1, .i32⟩
  | 41 => ⟨S256x8x64x8x64, .f32⟩
  | 42 => ⟨S_, .i32⟩
  | 43 => ⟨S256x8, .i32⟩
  | 44 => ⟨S256x8, .i1⟩
  | 45 => ⟨S_, .i32⟩
  | 46 => ⟨S256x8, .i32⟩
  | 47 => ⟨S256x8, .i32⟩
  | 48 => ⟨S256x8, .i32⟩
  | 49 => ⟨S256x8x1, .i32⟩
  | 50 => ⟨S256x8x64x8x64, .f32⟩
  | 51 => ⟨S64, .i32⟩
  | 52 => ⟨S_, .i32⟩
  | 53 => ⟨S64, .i32⟩
  | 54 => ⟨S64, .i32⟩
  | 55 => ⟨S_, .i32⟩
  | 56 => ⟨S_, .i32⟩
  | 57 => ⟨S_, .i32⟩
  | 58 => ⟨S64, .i32⟩
  | 59 => ⟨S64, .i32⟩
  | 60 => ⟨S_, .i32⟩
  | 61 => ⟨S64, .i32⟩
  | 62 => ⟨S64, .i32⟩
  | 63 => ⟨S1x64, .i32⟩
  | 64 => ⟨S64x1, .i32⟩
  | 65 => ⟨S64x64, .i32⟩
  | 66 => ⟨S64x64, .i32⟩
  | 67 => ⟨S64x64, .i1⟩
  | 68 => ⟨S1x64, .i32⟩
  | 69 => ⟨S64x1, .i32⟩
  | 70 => ⟨S_, .i32⟩
  | 71 => ⟨S64x1, .i32⟩
  | 72 => ⟨S64x1, .i32⟩
  | 73 => ⟨S64x64, .i32⟩
  | 74 => ⟨S64x64, .i32⟩
  | 75 => ⟨S64x64, .i1⟩
  | 76 => ⟨S64x64, .i1⟩
  | 77 => ⟨S256x1, .i32⟩
  | 78 => ⟨S256x8, .i32⟩
  | 79 => ⟨S256x8, .i32⟩
  | 80 => ⟨S_, .i32⟩
  | 81 => ⟨S256x8, .i32⟩
  | 82 => ⟨S256x8, .i32⟩
  | 83 => ⟨S1x64, .i32⟩
  | 84 => ⟨S64x1, .i32⟩
  | 85 => ⟨S64x64, .i32⟩
  | 86 => ⟨S64x64, .i32⟩
  | 87 => ⟨S64x64, .i32⟩
  | 88 => ⟨S_, .i32⟩
  | 89 => ⟨S64x64, .i32⟩
  | 90 => ⟨S64x64, .i32⟩
  | 91 => ⟨S_, .i32⟩
  | 92 => ⟨S_, .i32⟩
  | 93 => ⟨S_, .i32⟩
  | 94 => ⟨S64x64, .i32⟩
  | 95 => ⟨S64x64, .i32⟩
  | 96 => ⟨S_, .i32⟩
  | 97 => ⟨S64x64, .i32⟩
  | 98 => ⟨S64x64, .i32⟩
  | 99 => ⟨S256x1x8x1, .i32⟩
  | 100 => ⟨S1x64x1x64, .i32⟩
  | 101 => ⟨S_, .i32⟩
  | 102 => ⟨S256x1x8x1, .i32⟩
  | 103 => ⟨S256x1x8x1, .i1⟩
  | 104 => ⟨S_, .i32⟩
  | 105 => ⟨S256x1x8x1, .i32⟩
  | 106 => ⟨S256x1x8x1, .i32⟩
  | 107 => ⟨S256x1x8x1, .i32⟩
  | 108 => ⟨S_, .i32⟩
  | 109 => ⟨S1x64x1x64, .i32⟩
  | 110 => ⟨S1x64x1x64, .i1⟩
  | 111 => ⟨S_, .i32⟩
  | 112 => ⟨S1x64x1x64, .i32⟩
  | 113 => ⟨S1x64x1x64, .i32⟩
  | 114 => ⟨S1x64x1x64, .i32⟩
  | 115 => ⟨S256x64x8x64, .i32⟩
  | 116 => ⟨S256x64x8x64, .i32⟩
  | 117 => ⟨S256x64x8x64x1, .i32⟩
  | 118 => ⟨S256x64x8x64x1, .i32⟩
  | 119 => ⟨S256x64x8x64x2, .i32⟩
  | 120 => ⟨S8x256x64x8x64, .f32⟩
  | 121 => ⟨S8x256x64x8x64, .f32⟩
  | 122 => ⟨S_, .f32⟩
  | 123 => ⟨S8x256x64x8x64, .f32⟩
  | 124 => ⟨S8x256x64x8x64, .f32⟩
  | 125 => ⟨S8x256x64x8x64, .f32⟩
  | 126 => ⟨S64x1x64, .i1⟩
  | 127 => ⟨S_, .f32⟩
  | _ => ⟨S16384x1024, .f32⟩

abbrev hbmTy0_1 (i : Nat) : BufTy := match i % 128 with
  | 0 => ⟨S_, .f32⟩
  | 1 => ⟨S8x256x64x8x64, .i1⟩
  | 2 => ⟨S8x256x64x8x64, .f32⟩
  | 3 => ⟨S8x256x64x8x64, .f32⟩
  | 4 => ⟨S8x256x64x512, .f32⟩
  | 5 => ⟨S8x256x64x256, .f32⟩
  | 6 => ⟨S_, .f32⟩
  | 7 => ⟨S8x256x64x256, .f32⟩
  | 8 => ⟨S8x256x64x256, .f32⟩
  | 9 => ⟨S8x256x64x768, .f32⟩
  | 10 => ⟨S_, .f32⟩
  | 11 => ⟨S8x256x64, .f32⟩
  | 12 => ⟨S_, .f32⟩
  | 13 => ⟨S8x256x64, .f32⟩
  | 14 => ⟨S8x256x64, .f32⟩
  | 15 => ⟨S8x256x64x1, .f32⟩
  | 16 => ⟨S8x256x64x768, .f32⟩
  | 17 => ⟨S8x256x64x768, .f32⟩
  | 18 => ⟨S8x256x64x768, .f32⟩
  | 19 => ⟨S_, .f32⟩
  | 20 => ⟨S8x256x64, .f32⟩
  | 21 => ⟨S8x256x64x1, .f32⟩
  | 22 => ⟨S8x256x64x768, .f32⟩
  | 23 => ⟨S8x256x64x768, .f32⟩
  | 24 => ⟨S8x256x64x512, .f32⟩
  | 25 => ⟨S8x256x64x8x64, .f32⟩
  | 26 => ⟨S256x8x64x64, .f32⟩
  | 27 => ⟨S256x64x8x64, .f32⟩
  | 28 => ⟨S8x256x64x256, .f32⟩
  | 29 => ⟨S8x64x256x64, .f32⟩
  | 30 => ⟨S256x64x8x64, .f32⟩
  | 31 => ⟨S256x64x8x64, .f32⟩
  | 32 => ⟨S16384x512, .f32⟩
  | 33 => ⟨S16384x1024, .f32⟩
  | 34 => ⟨S16384x1024, .f32⟩
  | 35 => ⟨S1x1x1x1024, .f32⟩
  | 36 => ⟨S1024, .f32⟩
  | 37 => ⟨S1x1024, .f32⟩
  | 38 => ⟨S16384x1024, .f32⟩
  | 39 => ⟨S16384x1024, .f32⟩
  | 40 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_c_8 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_c_13 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_c_14 : Ref sig .tc := ⟨.hbm, 101, rfl⟩
abbrev main_v61 : Ref sig .tc := ⟨.hbm, 102, rfl⟩
abbrev main_v62 : Ref sig .tc := ⟨.hbm, 103, rfl⟩
abbrev main_c_15 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_16 : Ref sig .tc := ⟨.hbm, 108, rfl⟩
abbrev main_v66 : Ref sig .tc := ⟨.hbm, 109, rfl⟩
abbrev main_v67 : Ref sig .tc := ⟨.hbm, 110, rfl⟩
abbrev main_c_17 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_18 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_19 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_20 : Ref sig .tc := ⟨.hbm, 138, rfl⟩
abbrev main_v88 : Ref sig .tc := ⟨.hbm, 139, rfl⟩
abbrev main_cst_21 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_22 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩

abbrev nD : Nat := 1
abbrev τ : Topo := Topo.v7x

variable {F : FTy → Type} [FloatOps F]
-- ==== Kernel2.lean ====
abbrev S16384x1024 : Shape := ⟨2, ![16384, 1024]⟩
abbrev S2x2x9x1024 : Shape := ⟨4, ![2, 2, 9, 1024]⟩
abbrev S2x3x1024 : Shape := ⟨3, ![2, 3, 1024]⟩
abbrev S1024x5632 : Shape := ⟨2, ![1024, 5632]⟩
abbrev S2816x1024 : Shape := ⟨2, ![2816, 1024]⟩
abbrev S1024 : Shape := ⟨1, ![1024]⟩
abbrev S2x3x1x1024 : Shape := ⟨4, ![2, 3, 1, 1024]⟩
abbrev S1x1024 : Shape := ⟨2, ![1, 1024]⟩
abbrev S1024x1024 : Shape := ⟨2, ![1024, 1024]⟩
abbrev S512x1024 : Shape := ⟨2, ![512, 1024]⟩
abbrev S1x1x9x1024 : Shape := ⟨4, ![1, 1, 9, 1024]⟩
abbrev S1x1x1x1024 : Shape := ⟨4, ![1, 1, 1, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S2x2x9x1024, .f32⟩
  | .hbm, ⟨2, _⟩ => ⟨S2x3x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x3x1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x1x9x1024, .f32⟩
  | .local _ .vmem, ⟨5, _⟩ => ⟨S1x1x1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  ![v2.toNat, c0_i32.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S2x2x9x1024 : Shape := ⟨4, ![2, 2, 9, 1024]⟩
abbrev S2x3x1024 : Shape := ⟨3, ![2, 3, 1024]⟩
abbrev S1024x5632 : Shape := ⟨2, ![1024, 5632]⟩
abbrev S2816x1024 : Shape := ⟨2, ![2816, 1024]⟩
abbrev S1024 : Shape := ⟨1, ![1024]⟩
abbrev S1x1x9x1024 : Shape := ⟨4, ![1, 1, 9, 1024]⟩
abbrev S9x1024 : Shape := ⟨2, ![9, 1024]⟩
abbrev S1x1x1024 : Shape := ⟨3, ![1, 1, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x2x9x1024, .f32⟩
  | .hbm, ⟨2, _⟩ => ⟨S2x3x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1x9x1024, .f32⟩
  | .hbm, ⟨7, _⟩ => ⟨S9x1024, .f32⟩
  | .hbm, ⟨8, _⟩ => ⟨S1x1x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x5632, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S_, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x1024, .f32⟩
  | .hbm, ⟨53, _⟩ => ⟨S1x1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel3.lean ====
abbrev S16384x1024 : Shape := ⟨2, ![16384, 1024]⟩
abbrev S2x2x9x1024 : Shape := ⟨4, ![2, 2, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S2x3x1x1024 : Shape := ⟨4, ![2, 3, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1024x1024 : Shape := ⟨2, ![1024, 1024]⟩
abbrev S512x1024 : Shape := ⟨2, ![512, 1024]⟩
abbrev S1x1x9x1024 : Shape := ⟨4, ![1, 1, 9, 1024]⟩
abbrev S1x1x1x1024 : Shape := ⟨4, ![1, 1, 1, 1024]⟩
abbrev S1x1x1024x512 : Shape := ⟨4, ![1, 1, 1024, 512]⟩
abbrev S1x1x176x1024 : Shape := ⟨4, ![1, 1, 176, 1024]⟩
abbrev S1024x512 : Shape := ⟨2, ![1024, 512]⟩
abbrev S176x1024 : Shape := ⟨2, ![176, 1024]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 15
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S2x2x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S2x3x1x1024, .f32⟩
  | .hbm, ⟨6, _⟩ => ⟨S1x1x1024x5632, .f32⟩
  | .hbm, ⟨7, _⟩ => ⟨S1024x5632, .f32⟩
  | .hbm, ⟨8, _⟩ => ⟨S1024x5632, .bf16⟩
  | .hbm, ⟨9, _⟩ => ⟨S1x1x2816x1024, .f32⟩
  | .hbm, ⟨10, _⟩ => ⟨S2816x1024, .f32⟩
  | .hbm, ⟨11, _⟩ => ⟨S2816x1024, .bf16⟩
  | .hbm, ⟨12, _⟩ => ⟨S16384x1024, .f32⟩
  | .hbm, ⟨13, _⟩ => ⟨S1024x5632, .bf16⟩
  | .hbm, ⟨14, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x1x9x1024, .f32⟩
  | .local _ .vmem, ⟨5, _⟩ => ⟨S1x1x1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1x1024x512, .f32⟩
  | .local _ .vmem, ⟨9, _⟩ => ⟨S1x1x1024x512, .f32⟩
  | .local _ .vmem, ⟨10, _⟩ => ⟨S1x1x176x1024, .f32⟩
  | .local _ .vmem, ⟨11, _⟩ => ⟨S1x1x176x1024, .f32⟩
  | .local _ .vmem, ⟨12, _⟩ => ⟨S1024x1024, .f32⟩
  | .local _ .vmem, ⟨13, _⟩ => ⟨S1024x1024, .f32⟩
  | .local _ .vmem, ⟨14, _⟩ => ⟨S1024x512, .bf16⟩
  | .local _ .vmem, ⟨15, _⟩ => ⟨S1024x512, .bf16⟩
  | .local _ .vmem, ⟨16, _⟩ => ⟨S176x1024, .bf16⟩
  | .local _ .vmem, ⟨17, _⟩ => ⟨S176x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  ![v2.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c10_i32 : BitVec 32 := 10#32
  let v0 : BitVec 32 := Scalar.minsi arg0 c10_i32
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, v0.toNat]

def cc0_transform_7 (i : grid0.Coords) : Fin 4 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S2x2x9x1024 : Shape := ⟨4, ![2, 2, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1x9x1024 : Shape := ⟨4, ![1, 1, 9, 1024]⟩
abbrev S9x1024 : Shape := ⟨2, ![9, 1024]⟩
abbrev S_ : Shape := ⟨0, ![]⟩
abbrev S16384 : Shape := ⟨1, ![16384]⟩
abbrev S16384x1 : Shape := ⟨2, ![16384, 1]⟩
abbrev S1x1x1024 : Shape := ⟨3, ![1, 1, 1024]⟩
abbrev S1024 : Shape := ⟨1, ![1024]⟩
abbrev S1x1024 : Shape := ⟨2, ![1, 1024]⟩
abbrev S1x1x1024x5632 : Shape := ⟨4, ![1, 1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x1x2816x1024 : Shape := ⟨4, ![1, 1, 2816, 1024]⟩
abbrev S2816x1024 : Shape := ⟨2, ![2816, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x2x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1x1x9x1024, .f32⟩
  | .hbm, ⟨6, _⟩ => ⟨S9x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1x1024, .f32⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1x1024x5632, .f32⟩
  | .hbm, ⟨39, _⟩ => ⟨S1024x5632, .f32⟩
  | .hbm, ⟨40, _⟩ => ⟨S16384x5632, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S1x1x2816x1024, .f32⟩
  | .hbm, ⟨54, _⟩ => ⟨S2816x1024, .f32⟩
  | .hbm, ⟨55, _⟩ => ⟨S16384x1024, .f32⟩
  | .hbm, ⟨56, _⟩ => ⟨S1x1024, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S1x1x1024x5632, .f32⟩
  | .hbm, ⟨66, _⟩ => ⟨S1024x5632, .f32⟩
  | .hbm, ⟨67, _⟩ => ⟨S1024x5632, .bf16⟩
  | .hbm, ⟨68, _⟩ => ⟨S1x1x2816x1024, .f32⟩
  | .hbm, ⟨69, _⟩ => ⟨S2816x1024, .f32⟩
  | .hbm, ⟨70, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel4.lean ====
abbrev S16384x1024 : Shape := ⟨2, ![16384, 1024]⟩
abbrev S2x2x9x1024 : Shape := ⟨4, ![2, 2, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S2x3x1x1024 : Shape := ⟨4, ![2, 3, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1024x1024 : Shape := ⟨2, ![1024, 1024]⟩
abbrev S512x1024 : Shape := ⟨2, ![512, 1024]⟩
abbrev S1x1x9x1024 : Shape := ⟨4, ![1, 1, 9, 1024]⟩
abbrev S1x1x1x1024 : Shape := ⟨4, ![1, 1, 1, 1024]⟩
abbrev S1x1x1024x512 : Shape := ⟨4, ![1, 1, 1024, 512]⟩
abbrev S1x1x176x1024 : Shape := ⟨4, ![1, 1, 176, 1024]⟩
abbrev S1024x512 : Shape := ⟨2, ![1024, 512]⟩
abbrev S176x1024 : Shape := ⟨2, ![176, 1024]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 15
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S2x2x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S2x3x1x1024, .f32⟩
  | .hbm, ⟨6, _⟩ => ⟨S1x1x1024x5632, .f32⟩
  | .hbm, ⟨7, _⟩ => ⟨S1024x5632, .f32⟩
  | .hbm, ⟨8, _⟩ => ⟨S1024x5632, .bf16⟩
  | .hbm, ⟨9, _⟩ => ⟨S1x1x2816x1024, .f32⟩
  | .hbm, ⟨10, _⟩ => ⟨S2816x1024, .f32⟩
  | .hbm, ⟨11, _⟩ => ⟨S2816x1024, .bf16⟩
  | .hbm, ⟨12, _⟩ => ⟨S16384x1024, .f32⟩
  | .hbm, ⟨13, _⟩ => ⟨S1024x5632, .bf16⟩
  | .hbm, ⟨14, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x1x9x1024, .f32⟩
  | .local _ .vmem, ⟨5, _⟩ => ⟨S1x1x1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1x1024x512, .f32⟩
  | .local _ .vmem, ⟨9, _⟩ => ⟨S1x1x1024x512, .f32⟩
  | .local _ .vmem, ⟨10, _⟩ => ⟨S1x1x176x1024, .f32⟩
  | .local _ .vmem, ⟨11, _⟩ => ⟨S1x1x176x1024, .f32⟩
  | .local _ .vmem, ⟨12, _⟩ => ⟨S1024x1024, .f32⟩
  | .local _ .vmem, ⟨13, _⟩ => ⟨S1024x1024, .f32⟩
  | .local _ .vmem, ⟨14, _⟩ => ⟨S1024x512, .bf16⟩
  | .local _ .vmem, ⟨15, _⟩ => ⟨S1024x512, .bf16⟩
  | .local _ .vmem, ⟨16, _⟩ => ⟨S176x1024, .bf16⟩
  | .local _ .vmem, ⟨17, _⟩ => ⟨S176x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  ![v2.toNat, c0_i32.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c10_i32 : BitVec 32 := 10#32
  let v0 : BitVec 32 := Scalar.minsi arg0 c10_i32
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, v0.toNat]

def cc0_transform_7 (i : grid0.Coords) : Fin 4 → Nat :=
  let arg0 : BitVec 32 := BitVec.ofNat 32 (i 0).val
  let c15_i32 : BitVec 32 := 15#32
  let v0 : BitVec 32 := Scalar.minsi arg0 c15_i32
  let c1_i32 : BitVec 32 := 1#32
  let c1_i32_0 : BitVec 32 := 1#32
  let c0_i32 : BitVec 32 := 0#32
  let c0_i32_1 : BitVec 32 := 0#32
  ![c1_i32.toNat, c1_i32_0.toNat, v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x1024 : Shape := ⟨2, ![16384, 1024]⟩
abbrev S2x2x9x1024 : Shape := ⟨4, ![2, 2, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1x9x1024 : Shape := ⟨4, ![1, 1, 9, 1024]⟩
abbrev S9x1024 : Shape := ⟨2, ![9, 1024]⟩
abbrev S_ : Shape := ⟨0, ![]⟩
abbrev S16384 : Shape := ⟨1, ![16384]⟩
abbrev S16384x1 : Shape := ⟨2, ![16384, 1]⟩
abbrev S1x1x1024 : Shape := ⟨3, ![1, 1, 1024]⟩
abbrev S1024 : Shape := ⟨1, ![1024]⟩
abbrev S1x1024 : Shape := ⟨2, ![1, 1024]⟩
abbrev S1x1x1024x5632 : Shape := ⟨4, ![1, 1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x1x2816x1024 : Shape := ⟨4, ![1, 1, 2816, 1024]⟩
abbrev S2816x1024 : Shape := ⟨2, ![2816, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x2x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1x1x9x1024, .f32⟩
  | .hbm, ⟨6, _⟩ => ⟨S9x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1x1024, .f32⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1x1024x5632, .f32⟩
  | .hbm, ⟨39, _⟩ => ⟨S1024x5632, .f32⟩
  | .hbm, ⟨40, _⟩ => ⟨S16384x5632, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S1x1x2816x1024, .f32⟩
  | .hbm, ⟨54, _⟩ => ⟨S2816x1024, .f32⟩
  | .hbm, ⟨55, _⟩ => ⟨S16384x1024, .f32⟩
  | .hbm, ⟨56, _⟩ => ⟨S1x1024, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S1x1x1024x5632, .f32⟩
  | .hbm, ⟨66, _⟩ => ⟨S1024x5632, .f32⟩
  | .hbm, ⟨67, _⟩ => ⟨S1024x5632, .bf16⟩
  | .hbm, ⟨68, _⟩ => ⟨S1x1x2816x1024, .f32⟩
  | .hbm, ⟨69, _⟩ => ⟨S2816x1024, .f32⟩
  | .hbm, ⟨70, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel5.lean ====
abbrev S16384x1024 : Shape := ⟨2, ![16384, 1024]⟩
abbrev S2x2x9x1024 : Shape := ⟨4, ![2, 2, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1024x2048 : Shape := ⟨3, ![1, 1024, 2048]⟩
abbrev S2x3x1x1024 : Shape := ⟨4, ![2, 3, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1024x2048 : Shape := ⟨2, ![1024, 2048]⟩
abbrev S1024x1024 : Shape := ⟨2, ![1024, 1024]⟩
abbrev S512x1024 : Shape := ⟨2, ![512, 1024]⟩
abbrev S1x1x9x1024 : Shape := ⟨4, ![1, 1, 9, 1024]⟩
abbrev S1x1x1x1024 : Shape := ⟨4, ![1, 1, 1, 1024]⟩
abbrev S1x1x1024x512 : Shape := ⟨4, ![1, 1, 1024, 512]⟩
abbrev S1x1x176x1024 : Shape := ⟨4, ![1, 1, 176, 1024]⟩
abbrev S1x1024x128 : Shape := ⟨3, ![1, 1024, 128]⟩
abbrev S1024x512 : Shape := ⟨2, ![1024, 512]⟩
abbrev S176x1024 : Shape := ⟨2, ![176, 1024]⟩
abbrev S1024x128 : Shape := ⟨2, ![1024, 128]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 17
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S2x2x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1x1024x2048, .f32⟩
  | .hbm, ⟨6, _⟩ => ⟨S2x3x1x1024, .f32⟩
  | .hbm, ⟨7, _⟩ => ⟨S1x1x1024x5632, .f32⟩
  | .hbm, ⟨8, _⟩ => ⟨S1024x5632, .f32⟩
  | .hbm, ⟨9, _⟩ => ⟨S1024x5632, .bf16⟩
  | .hbm, ⟨10, _⟩ => ⟨S1x1x2816x1024, .f32⟩
  | .hbm, ⟨11, _⟩ => ⟨S2816x1024, .f32⟩
  | .hbm, ⟨12, _⟩ => ⟨S2816x1024, .bf16⟩
  | .hbm, ⟨13, _⟩ => ⟨S16384x1024, .f32⟩
  | .hbm, ⟨14, _⟩ => ⟨S1024x5632, .bf16⟩
  | .hbm, ⟨15, _⟩ => ⟨S2816x1024, .bf16⟩
  | .hbm, ⟨16, _⟩ => ⟨S1024x2048, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x1x9x1024, .f32⟩
  | .local _ .vmem, ⟨5, _⟩ => ⟨S1x1x1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1x1024x512, .f32⟩
  | .local _ .vmem, ⟨9, _⟩ => ⟨S1x1x1024x512, .f32⟩
  | .local _ .vmem, ⟨10, _⟩ => ⟨S1x1x176x1024, .f32⟩
  | .local _ .vmem, ⟨11, _⟩ => ⟨S1x1x176x1024, .f32⟩
  | .local _ .vmem, ⟨12, _⟩ => ⟨S1x1024x128, .f32⟩
  | .local _ .vmem, ⟨13, _⟩ => ⟨S1x1024x128, .f32⟩
  | .local _ .vmem, ⟨14, _⟩ => ⟨S1024x1024, .f32⟩
  | .local _ .vmem, ⟨15, _⟩ => ⟨S1024x1024, .f32⟩
  | .local _ .vmem, ⟨16, _⟩ => ⟨S1024x512, .bf16⟩
  | .local _ .vmem, ⟨17, _⟩ => ⟨S1024x512, .bf16⟩
  | .local _ .vmem, ⟨18, _⟩ => ⟨S176x1024, .bf16⟩
  | .local _ .vmem, ⟨19, _⟩ => ⟨S176x1024, .bf16⟩
  | .local _ .vmem, ⟨20, _⟩ => ⟨S1024x128, .bf16⟩
  | .local _ .vmem, ⟨21, _⟩ => ⟨S1024x128, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  ![v2.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c10_i32 : BitVec 32 := 10#32
  let v0 : BitVec 32 := Scalar.minsi arg0 c10_i32
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, v0.toNat]

def cc0_transform_7 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c1_i32 : BitVec 32 := 1#32
  let c0_i32_0 : BitVec 32 := 0#32
  let c0_i32_1 : BitVec 32 := 0#32
  ![c0_i32.toNat, c1_i32.toNat, v0.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S16384x1024 : Shape := ⟨2, ![16384, 1024]⟩
abbrev S2x2x9x1024 : Shape := ⟨4, ![2, 2, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1024x2048 : Shape := ⟨3, ![1, 1024, 2048]⟩
abbrev S1x1x9x1024 : Shape := ⟨4, ![1, 1, 9, 1024]⟩
abbrev S9x1024 : Shape := ⟨2, ![9, 1024]⟩
abbrev S_ : Shape := ⟨0, ![]⟩
abbrev S16384 : Shape := ⟨1, ![16384]⟩
abbrev S16384x1 : Shape := ⟨2, ![16384, 1]⟩
abbrev S1x1x1024 : Shape := ⟨3, ![1, 1, 1024]⟩
abbrev S1024 : Shape := ⟨1, ![1024]⟩
abbrev S1x1024 : Shape := ⟨2, ![1, 1024]⟩
abbrev S1x1x1024x5632 : Shape := ⟨4, ![1, 1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x1x2816x1024 : Shape := ⟨4, ![1, 1, 2816, 1024]⟩
abbrev S2816x1024 : Shape := ⟨2, ![2816, 1024]⟩
abbrev S1024x2048 : Shape := ⟨2, ![1024, 2048]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x2x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1x1024x2048, .f32⟩
  | .hbm, ⟨6, _⟩ => ⟨S1x1x9x1024, .f32⟩
  | .hbm, ⟨7, _⟩ => ⟨S9x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1x1024, .f32⟩
  | .hbm, ⟨22, _⟩ => ⟨S1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1x1024x5632, .f32⟩
  | .hbm, ⟨40, _⟩ => ⟨S1024x5632, .f32⟩
  | .hbm, ⟨41, _⟩ => ⟨S16384x5632, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S_, .f32⟩
  | .hbm, ⟨47, _⟩ => ⟨S16384x2816, .f32⟩
  | .hbm, ⟨48, _⟩ => ⟨S16384x2816, .f32⟩
  | .hbm, ⟨49, _⟩ => ⟨S_, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S1x1x2816x1024, .f32⟩
  | .hbm, ⟨55, _⟩ => ⟨S2816x1024, .f32⟩
  | .hbm, ⟨56, _⟩ => ⟨S16384x1024, .f32⟩
  | .hbm, ⟨57, _⟩ => ⟨S1x1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S1x1x1024x5632, .f32⟩
  | .hbm, ⟨67, _⟩ => ⟨S1024x5632, .f32⟩
  | .hbm, ⟨68, _⟩ => ⟨S1024x5632, .bf16⟩
  | .hbm, ⟨69, _⟩ => ⟨S1x1x2816x1024, .f32⟩
  | .hbm, ⟨70, _⟩ => ⟨S2816x1024, .f32⟩
  | .hbm, ⟨71, _⟩ => ⟨S2816x1024, .bf16⟩
  | .hbm, ⟨72, _⟩ => ⟨S1024x2048, .f32⟩
  | .hbm, ⟨73, _⟩ => ⟨S1024x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Proof.AttnMath.lean ====
module

public import Idealize.ShloMosaic.Lib.Pointwise

/-!
# Softmax in base two and in base e

The kernel takes the softmax of the scores over a block of keys that contains the reference's keys, in base two, and divides
once at the end; the reference divides every weight. Keys outside the reference's set have score −∞, so their weight is 0.
-/

@[expose] public section

noncomputable section

namespace Cert.Attn

open Idealize.ShloMosaic

/-- log₂ e. -/
abbrev L2E : EReal := (((Real.log 2)⁻¹ : ℝ) : EReal)

theorem log2_pos : (0 : ℝ) < (Real.log 2)⁻¹ := inv_pos.mpr (Real.log_pos (by norm_num))

theorem L2E_bot : L2E * ⊥ = ⊥ := EReal.coe_mul_bot_of_pos log2_pos

theorem exp2_scale (x : EReal) (hx : x ≠ ⊤) (M : ℝ) : Ideal.exp2 (L2E * x - L2E * (M : EReal)) = Ideal.exp (x - M) := by
  induction x with
  | top => exact absurd rfl hx
  | bot => rw [L2E_bot, EReal.bot_sub, EReal.bot_sub]; rfl
  | coe x =>
    rw [← EReal.coe_mul, ← EReal.coe_mul, ← EReal.coe_sub, ← EReal.coe_sub, Ideal.exp2_coe, Ideal.exp_coe]
    congr 1
    show (2 : ℝ) ^ ((Real.log 2)⁻¹ * x - (Real.log 2)⁻¹ * M) = _
    rw [Real.rpow_def_of_pos (by norm_num)]
    congr 1
    have := (Real.log_pos (by norm_num : (1 : ℝ) < 2)).ne'
    field_simp

theorem exp_nonneg_real (x : EReal) (hx : x ≠ ⊤) : ∃ r : ℝ, 0 ≤ r ∧ Ideal.exp x = (r : EReal) := by
  induction x with
  | top => exact absurd rfl hx
  | bot => exact ⟨0, le_rfl, rfl⟩
  | coe x => exact ⟨Real.exp x, (Real.exp_pos x).le, rfl⟩

theorem sum_coe {κ : Type} (s : Finset κ) (f : κ → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem sum_mul_coe {κ : Type} (s : Finset κ) (f : κ → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem softmax {ι κ : Type} [Fintype ι] [Fintype κ] (e : κ → ι) (he : Function.Injective e)
    (a : ι → EReal) (b : κ → EReal) (ha : ∀ k, a (e k) = L2E * b k) (hoff : ∀ i, i ∉ Set.range e → a i = ⊥)
    (hb : ∀ k, b k ≠ ⊤) (hb0 : ∃ k, b k ≠ ⊥) (u : ι → EReal) (w : κ → EReal) (hu : ∀ k, u (e k) = w k) :
    (∑ i, Ideal.exp2 (a i - Finset.univ.sup a) * u i) * Ideal.div 1 (∑ i, Ideal.exp2 (a i - Finset.univ.sup a))
      = ∑ k, Ideal.div (Ideal.exp (b k - Finset.univ.sup b)) (∑ k, Ideal.exp (b k - Finset.univ.sup b)) * w k := by
  classical
  obtain ⟨k0, hk0⟩ := hb0
  obtain ⟨km, -, hkm⟩ := Finset.exists_max_image Finset.univ b ⟨k0, Finset.mem_univ _⟩
  have hsb : Finset.univ.sup b = b km :=
    le_antisymm (Finset.sup_le hkm) (Finset.le_sup (Finset.mem_univ km))
  have hkmb : b km ≠ ⊥ := fun h => hk0 (le_bot_iff.mp (h ▸ hkm k0 (Finset.mem_univ _)))
  obtain ⟨M, hM⟩ : ∃ M : ℝ, b km = (M : EReal) := ⟨(b km).toReal, (EReal.coe_toReal (hb km) hkmb).symm⟩
  have hsa : Finset.univ.sup a = L2E * b km := by
    refine le_antisymm (Finset.sup_le fun i _ => ?_) ((ha km) ▸ Finset.le_sup (Finset.mem_univ (e km)))
    by_cases hi : i ∈ Set.range e
    · obtain ⟨k, rfl⟩ := hi
      rw [ha k]
      exact mul_le_mul_of_nonneg_left (hkm k (Finset.mem_univ _)) (EReal.coe_nonneg.mpr log2_pos.le)
    · rw [hoff i hi]; exact bot_le
  rw [hsa, hsb, hM]
  have hp : ∀ k, Ideal.exp2 (a (e k) - L2E * (M : EReal)) = Ideal.exp (b k - M) := fun k => by
    rw [ha k, exp2_scale _ (hb k)]
  have hz : ∀ i, i ∉ Set.range e → Ideal.exp2 (a i - L2E * (M : EReal)) = 0 := fun i hi => by
    rw [hoff i hi, EReal.bot_sub]; rfl
  rw [← Fintype.sum_of_injective e he (fun k => Ideal.exp (b k - M) * w k) (fun i => Ideal.exp2 (a i - L2E * (M : EReal)) * u i)
      (fun i hi => by rw [hz i hi, zero_mul]) (fun k => by rw [hp k, hu k]),
    ← Fintype.sum_of_injective e he (fun k => Ideal.exp (b k - M)) (fun i => Ideal.exp2 (a i - L2E * (M : EReal)))
      (fun i hi => hz i hi) (fun k => (hp k).symm)]
  have hr : ∀ k, ∃ r : ℝ, 0 ≤ r ∧ Ideal.exp (b k - M) = (r : EReal) := fun k =>
    exp_nonneg_real _ (by
      have := hb k
      generalize b k = x at this
      induction x with
      | top => exact absurd rfl this
      | bot => rw [EReal.bot_sub]; exact bot_ne_top
      | coe x => rw [← EReal.coe_sub]; exact EReal.coe_ne_top _)
  choose r hr0 hr using hr
  have hD : (∑ k, Ideal.exp (b k - M)) = ((∑ k, r k : ℝ) : EReal) := by
    rw [← sum_coe]; exact Finset.sum_congr rfl fun k _ => hr k
  have hpos : 0 < ∑ k, r k := by
    refine lt_of_lt_of_le ?_ (Finset.single_le_sum (fun k _ => hr0 k) (Finset.mem_univ km))
    have := hr km
    rw [hM, ← EReal.coe_sub, Ideal.exp_coe] at this
    rw [← EReal.coe_eq_coe_iff.mp this]; exact Real.exp_pos _
  have hne : ((∑ k, r k : ℝ) : EReal) ≠ 0 := by
    rw [← EReal.coe_zero]; exact fun h => hpos.ne' (EReal.coe_eq_coe_iff.mp h)
  have hdiv : ∀ x : EReal, Ideal.div x ((∑ k, r k : ℝ) : EReal) = x * (((∑ k, r k)⁻¹ : ℝ) : EReal) := fun x => by
    unfold Ideal.div; rw [if_neg hne, EReal.coe_inv]
  rw [hD, hdiv, one_mul, sum_mul_coe _ _ _ (inv_pos.mpr hpos).le]
  refine Finset.sum_congr rfl fun k _ => ?_
  rw [hdiv, mul_assoc, mul_comm (w k), ← mul_assoc]

/-- A score in base two is log₂ e times the score in base e, for finite queries, keys and bias. -/
theorem score {n : ℕ} (q k : Fin n → ℝ) (r : ℝ) :
    (∑ d, ((q d : EReal) * (((Real.log 256)⁻¹ : ℝ) : EReal)) * (k d : EReal)) + (r : EReal) * L2E
      = L2E * ((∑ d, (q d : EReal) * (k d : EReal)) * (((1 / 8 : ℝ)) : EReal) + (r : EReal)) := by
  simp only [← EReal.coe_mul, sum_coe, ← EReal.coe_add]
  congr 1
  have h : Real.log 256 = 8 * Real.log 2 := by
    rw [show (256 : ℝ) = 2 ^ 8 by norm_num, Real.log_pow]; norm_num
  have h2 := (Real.log_pos (by norm_num : (1 : ℝ) < 2)).ne'
  rw [h, mul_add, Finset.sum_mul, Finset.mul_sum, mul_comm r]
  congr 1
  refine Finset.sum_congr rfl fun d _ => ?_
  field_simp

/-- The same for a context key, which has no bias. -/
theorem score_ctx {n : ℕ} (q k : Fin n → ℝ) :
    (∑ d, ((q d : EReal) * (((Real.log 256)⁻¹ : ℝ) : EReal)) * (k d : EReal))
      = L2E * ((∑ d, (q d : EReal) * (k d : EReal)) * (((1 / 8 : ℝ)) : EReal)) := by
  have := score q k 0
  rw [EReal.coe_zero, zero_mul, add_zero, add_zero] at this
  exact this

end Cert.Attn
-- ==== Proof.AttnMask.lean ====
module

public import proofs.«01_k».proof.Proof.Gen.KernelIdeal.Frame
public import proofs.«01_k».proof.Proof.AttnMath
public import Idealize.ShloMosaic.Lib.Pipeline.ValueKit
public import Idealize.ShloMosaic.Lib.Pipeline.ReadBack
public import Idealize.ShloMosaic.Lib.Pointwise

/-!
# The bias tables

The first call lays the relative position bias out as one 256 × 768 table per head and kind of block: a query's row against
three blocks of keys, with −∞ at the keys outside the query's window.
-/

@[expose] public section

set_option maxRecDepth 16384

noncomputable section

namespace Cert.KernelIdeal.Tab

open Cert.KernelIdeal Cert.KernelIdeal.Gen Idealize.ShloMosaic Idealize.ShloMosaic.TcCoe Idealize.SL.Sem
open Idealize.ShloMosaic.Pipeline (Dat)
open Cert.Attn

/-- Column `k` is in the window of column `q`. -/
def colok (q k : ℕ) : Prop := min 48 (q - 8) ≤ k ∧ k < min 48 (q - 8) + 16
instance (q k : ℕ) : Decidable (colok q k) := inferInstanceAs (Decidable (_ ∧ _))

/-- Row `J` of the three blocks of keys is in the window of row `a` of the block, for each kind of block. -/
def win (kd a J : ℕ) : Prop :=
  (if kd = 0 then 4 else if kd = 1 then a else 0) ≤ J ∧ J < (if kd = 0 then 4 else if kd = 1 then a else 0) + 8
instance (kd a J : ℕ) : Decidable (win kd a J) := inferInstanceAs (Decidable (_ ∧ _))

/-- The table of one head from its 14 rings. -/
def T (x0 : Vec Ideal S1x14x128 .f32) : S3x1x256x768.Idx → EReal := fun y =>
  if win (y 0).val ((y 2).val / 64) ((y 3).val / 64) ∧ colok ((y 2).val % 64) ((y 3).val % 64) then
    x0 (ix3 (0 : Fin 1) (⟨min 13 (2 * ((y 3).val / 128) + 3 - (y 2).val / 64), by omega⟩ : Fin 14)
      (⟨((y 3).val % 128 + 128 - (y 2).val % 64) % 128, by omega⟩ : Fin 128)) * L2E
  else ⊥

set_option maxHeartbeats 4000000 in
theorem colmask_at : ∀ (q : Fin 64) (l : Fin 128), k0_pay3 (ix2 q l) = if colok q.val (l.val % 64) then 1#1 else 0#1 := by
  decide +kernel

theorem halfmask_at : ∀ (q : Fin 64) (l : Fin 128), k0_pay2 (ix2 q l) = if 64 ≤ l.val then 1#1 else 0#1 := by
  decide +kernel

end Cert.KernelIdeal.Tab
-- ==== Proof.AttnTab.lean ====
module

public import proofs.«01_k».proof.Proof.Gen.KernelIdeal.Frame
public import proofs.«01_k».proof.Proof.AttnMask
public import Idealize.ShloMosaic.Lib.Pipeline.ValueKit
public import Idealize.ShloMosaic.Lib.Pipeline.ReadBack
public import Idealize.ShloMosaic.Lib.Pointwise

/-!
# The bias tables

The first call lays the relative position bias out as one 256 × 768 table per head and kind of block: a query's row against
three blocks of keys, with −∞ at the keys outside the query's window.
-/

@[expose] public section

set_option maxRecDepth 16384

noncomputable section

namespace Cert.KernelIdeal.Tab

open Cert.KernelIdeal Cert.KernelIdeal.Gen Idealize.ShloMosaic Idealize.ShloMosaic.TcCoe Idealize.SL.Sem
open Idealize.ShloMosaic.Pipeline (Dat)
open Cert.Attn

theorem ring_at (v : Vec Ideal S1x1x128 .f32) (q : Fin 64) (l : Fin 128) :
    k0_pay5 (F := Ideal) v (ix2 q l)
      = if colok q.val (l.val % 64) then v (ix3 (0 : Fin 1) (0 : Fin 1) ⟨(l.val + 128 - q.val) % 128, by omega⟩) * L2E else ⊥ := by
  have h := colmask_at q l
  unfold k0_pay5 k0_pay4
  pointwise []
  rw [h]
  have hq : q.val % 128 = q.val := by omega
  simp only [hq]
  by_cases hc : colok q.val (l.val % 64)
  · rw [if_pos hc, if_pos hc]; rfl
  · rw [if_neg hc, if_neg hc]; rfl

theorem mask_at (y : S64x128.Idx) : k0_pay4 (F := Ideal) y = ⊥ := rfl

/-- The ring of a row, loaded from the block. -/
theorem ring_ld (X : Vec Ideal S1x14x128 .f32) (r : ℕ) (hr : r < 14) (inb) (l : Fin 128) :
    View.ld X (Rect.unit (s := S1x14x128) ![0, r, 0] S1x1x128.size inb) (ix3 (0 : Fin 1) (0 : Fin 1) l)
      = X (ix3 (0 : Fin 1) (⟨r, hr⟩ : Fin 14) l) := by
  show X _ = _
  congr 1
  funext k
  fin_cases k <;> apply Fin.ext <;> simp [ix3]

theorem emb_T (X : Vec Ideal S1x14x128 .f32) (kd a l : ℕ) (inb) (x : S1x1x64x128.Idx) (ha : a % 64 = 0) (hl : l % 128 = 0) :
    T X ((Rect.unit (s := S3x1x256x768) ![kd, 0, a, l] S1x1x64x128.size inb).emb x)
      = if win kd (a / 64) (l / 64 + (x 3).val / 64) ∧ colok (x 2).val ((x 3).val % 64) then
          X (ix3 (0 : Fin 1) (⟨min 13 (2 * (l / 128) + 3 - a / 64), by omega⟩ : Fin 14)
            (⟨((x 3).val + 128 - (x 2).val) % 128, by omega⟩ : Fin 128)) * L2E
        else ⊥ := by
  have h2 : (x 2).val < 64 := (x 2).isLt
  have h3 : (x 3).val < 128 := (x 3).isLt
  have h0 : (x 0).val < 1 := (x 0).isLt
  unfold T
  have e0 : (((Rect.unit (s := S3x1x256x768) ![kd, 0, a, l] S1x1x64x128.size inb).emb x) 0).val = kd + 1 * (x 0).val := rfl
  have e2 : (((Rect.unit (s := S3x1x256x768) ![kd, 0, a, l] S1x1x64x128.size inb).emb x) 2).val = a + 1 * (x 2).val := rfl
  have e3 : (((Rect.unit (s := S3x1x256x768) ![kd, 0, a, l] S1x1x64x128.size inb).emb x) 3).val = l + 1 * (x 3).val := rfl
  simp only [e0, e2, e3]
  have g0 : kd + 1 * (x 0).val = kd := by omega
  have g1 : (a + 1 * (x 2).val) / 64 = a / 64 := by omega
  have g2 : (a + 1 * (x 2).val) % 64 = (x 2).val := by omega
  have g3 : (l + 1 * (x 3).val) / 64 = l / 64 + (x 3).val / 64 := by omega
  have g4 : (l + 1 * (x 3).val) % 64 = (x 3).val % 64 := by omega
  have g5 : (l + 1 * (x 3).val) / 128 = l / 128 := by omega
  have g6 : (l + 1 * (x 3).val) % 128 = (x 3).val := by omega
  simp only [g0, g1, g2, g3, g4, g5, g6]

theorem piece_mask (X : Vec Ideal S1x14x128 .f32) (kd a l : ℕ) (inb) (hs) (ha : a % 64 = 0) (hl : l % 128 = 0)
    (h1 : ¬ win kd (a / 64) (l / 64)) (h2 : ¬ win kd (a / 64) (l / 64 + 1)) (x : S1x1x64x128.Idx) :
    shapeCast S1x1x64x128 (k0_pay4 (F := Ideal)) hs x
      = T X ((Rect.unit (s := S3x1x256x768) ![kd, 0, a, l] S1x1x64x128.size inb).emb x) := by
  rw [emb_T X kd a l inb x ha hl, if_neg]
  · rfl
  · have h3 : (x 3).val < 128 := (x 3).isLt
    rintro ⟨hw, -⟩
    rcases (by omega : (x 3).val / 64 = 0 ∨ (x 3).val / 64 = 1) with h | h <;> rw [h] at hw
    · exact h1 hw
    · exact h2 hw

/-- The tile of a ring, its columns' halves kept or masked. -/
theorem piece_core (X : Vec Ideal S1x14x128 .f32) (kd a l r : ℕ) (inb) (hr : r < 14) (ha : a % 64 = 0) (hl : l % 128 = 0)
    (hre : r = 2 * (l / 128) + 3 - a / 64) (x : S1x1x64x128.Idx) (w : EReal)
    (hw : w = if win kd (a / 64) (l / 64 + (x 3).val / 64) ∧ colok (x 2).val ((x 3).val % 64) then
          X (ix3 (0 : Fin 1) (⟨r, hr⟩ : Fin 14) (⟨((x 3).val + 128 - (x 2).val) % 128, by omega⟩ : Fin 128)) * L2E
        else ⊥) :
    w = T X ((Rect.unit (s := S3x1x256x768) ![kd, 0, a, l] S1x1x64x128.size inb).emb x) := by
  rw [emb_T X kd a l inb x ha hl, hw]
  have : (⟨r, hr⟩ : Fin 14) = ⟨min 13 (2 * (l / 128) + 3 - a / 64), by omega⟩ := Fin.ext (by show r = min 13 (2 * (l / 128) + 3 - a / 64); omega)
  rw [this]

theorem piece_full (X : Vec Ideal S1x14x128 .f32) (kd a l r : ℕ) (inb) (inb') (hs) (hr : r < 14) (ha : a % 64 = 0) (hl : l % 128 = 0)
    (hre : r = 2 * (l / 128) + 3 - a / 64)
    (h1 : win kd (a / 64) (l / 64)) (h2 : win kd (a / 64) (l / 64 + 1)) (x : S1x1x64x128.Idx) :
    shapeCast S1x1x64x128 (k0_pay5 (F := Ideal) (View.ld X (Rect.unit (s := S1x14x128) ![0, r, 0] S1x1x128.size inb'))) hs x
      = T X ((Rect.unit (s := S3x1x256x768) ![kd, 0, a, l] S1x1x64x128.size inb).emb x) := by
  refine piece_core X kd a l r inb hr ha hl hre x _ ?_
  idx_vars x
  generalize hw : k0_pay5 (F := Ideal) (View.ld X (Rect.unit (s := S1x14x128) ![0, r, 0] S1x1x128.size inb')) = w
  pointwise []
  rw [← hw, ring_at, ring_ld X r hr inb']
  have hx : x3.val < 128 := x3.isLt
  have hwin : win kd (a / 64) (l / 64 + x3.val / 64) := by
    rcases (by omega : x3.val / 64 = 0 ∨ x3.val / 64 = 1) with h | h <;> rw [h]
    · exact h1
    · exact h2
  simp only [hwin, true_and]

/-- Only the right half of the tile is in the window. -/
theorem piece_right (X : Vec Ideal S1x14x128 .f32) (kd a l r : ℕ) (inb) (inb') (hs) (hr : r < 14) (ha : a % 64 = 0) (hl : l % 128 = 0)
    (hre : r = 2 * (l / 128) + 3 - a / 64)
    (h1 : ¬ win kd (a / 64) (l / 64)) (h2 : win kd (a / 64) (l / 64 + 1)) (x : S1x1x64x128.Idx) :
    shapeCast S1x1x64x128 (select k0_pay2 (k0_pay5 (F := Ideal) (View.ld X (Rect.unit (s := S1x14x128) ![0, r, 0] S1x1x128.size inb')))
        (k0_pay4 (F := Ideal))) hs x
      = T X ((Rect.unit (s := S3x1x256x768) ![kd, 0, a, l] S1x1x64x128.size inb).emb x) := by
  refine piece_core X kd a l r inb hr ha hl hre x _ ?_
  idx_vars x
  generalize hw : k0_pay5 (F := Ideal) (View.ld X (Rect.unit (s := S1x14x128) ![0, r, 0] S1x1x128.size inb')) = w
  have hm := halfmask_at x2 x3
  pointwise []
  rw [hm, ← hw, ring_at, ring_ld X r hr inb', mask_at]
  have hx : x3.val < 128 := x3.isLt
  rcases (by omega : x3.val / 64 = 0 ∨ x3.val / 64 = 1) with h | h <;> rw [h]
  · rw [if_neg (by omega : ¬ 64 ≤ x3.val)]
    simp only [add_zero, h1, false_and, if_false]; rfl
  · rw [if_pos (by omega : 64 ≤ x3.val)]
    simp only [h2, true_and]; rfl

/-- Only the left half of the tile is in the window. -/
theorem piece_left (X : Vec Ideal S1x14x128 .f32) (kd a l r : ℕ) (inb) (inb') (hs) (hr : r < 14) (ha : a % 64 = 0) (hl : l % 128 = 0)
    (hre : r = 2 * (l / 128) + 3 - a / 64)
    (h1 : win kd (a / 64) (l / 64)) (h2 : ¬ win kd (a / 64) (l / 64 + 1)) (x : S1x1x64x128.Idx) :
    shapeCast S1x1x64x128 (select k0_pay2 (k0_pay4 (F := Ideal))
        (k0_pay5 (F := Ideal) (View.ld X (Rect.unit (s := S1x14x128) ![0, r, 0] S1x1x128.size inb')))) hs x
      = T X ((Rect.unit (s := S3x1x256x768) ![kd, 0, a, l] S1x1x64x128.size inb).emb x) := by
  refine piece_core X kd a l r inb hr ha hl hre x _ ?_
  idx_vars x
  generalize hw : k0_pay5 (F := Ideal) (View.ld X (Rect.unit (s := S1x14x128) ![0, r, 0] S1x1x128.size inb')) = w
  have hm := halfmask_at x2 x3
  pointwise []
  rw [hm, ← hw, ring_at, ring_ld X r hr inb', mask_at]
  have hx : x3.val < 128 := x3.isLt
  rcases (by omega : x3.val / 64 = 0 ∨ x3.val / 64 = 1) with h | h <;> rw [h]
  · rw [if_neg (by omega : ¬ 64 ≤ x3.val)]
    simp only [add_zero, h1, true_and]; rfl
  · rw [if_pos (by omega : 64 ≤ x3.val)]
    simp only [h2, false_and, if_false]; rfl

end Cert.KernelIdeal.Tab
-- ==== Proof.AttnTab2.lean ====
module

public import proofs.«01_k».proof.Proof.Gen.KernelIdeal.Frame
public import proofs.«01_k».proof.Proof.AttnTab
public import Idealize.ShloMosaic.Lib.Pipeline.ValueKit
public import Idealize.ShloMosaic.Lib.Pipeline.ReadBack
public import Idealize.ShloMosaic.Lib.Pointwise

/-!
# The bias tables, store by store
-/

@[expose] public section

set_option maxRecDepth 16384

noncomputable section

namespace Cert.KernelIdeal.Tab

open Cert.KernelIdeal Cert.KernelIdeal.Gen Idealize.ShloMosaic Idealize.ShloMosaic.TcCoe Idealize.SL.Sem
open Idealize.ShloMosaic.Pipeline (Dat)
open Cert.Attn

set_option maxHeartbeats 4000000 in
theorem out_eq (X : Vec Ideal S1x14x128 .f32) (y : S3x1x256x768.Idx) : out0_1 X y = T X y := by
  unfold out0_1
  refine View.canon_apply_of_pieces (Val := Elt Ideal) (e := .f32) (T X) _ ?_ y ?_
  · refine List.forall_mem_cons.mpr ⟨?_, ?_⟩; · intro x; exact piece_mask X 2 192 640 inb_S3x1x256x768_S1x1x64x128_2_0_192_640 shapeCasts_S64x128_S1x1x64x128 (by decide) (by decide) (by decide) (by decide) x
    refine List.forall_mem_cons.mpr ⟨?_, ?_⟩; · intro x; exact piece_mask X 2 192 512 inb_S3x1x256x768_S1x1x64x128_2_0_192_512 shapeCasts_S64x128_S1x1x64x128 (by decide) (by decide) (by decide) (by decide) x
    refine List.forall_mem_cons.mpr ⟨?_, ?_⟩; · intro x; exact piece_full X 2 192 384 6 inb_S3x1x256x768_S1x1x64x128_2_0_192_384 inb_S1x14x128_S1x1x128_0_6_0 shapeCasts_S64x128_S1x1x64x128 (by decide) (by decide) (by decide) (by decide) (by decide) (by decide) x
    refine List.forall_mem_cons.mpr ⟨?_, ?_⟩; · intro x; exact piece_full X 2 192 256 4 inb_S3x1x256x768_S1x1x64x128_2_0_192_256 inb_S1x14x128_S1x1x128_0_4_0 shapeCasts_S64x128_S1x1x64x128 (by decide) (by decide) (by decide) (by decide) (by decide) (by decide) x
    refine List.forall_mem_cons.mpr ⟨?_, ?_⟩; · intro x; exact piece_full X 2 192 128 2 inb_S3x1x256x768_S1x1x64x128_2_0_192_128 inb_S1x14x128_S1x1x128_0_2_0 shapeCasts_S64x128_S1x1x64x128 (by decide) (by decide) (by decide) (by decide) (by decide) (by decide) x
    refine List.forall_mem_cons.mpr ⟨?_, ?_⟩; · intro x; exact piece_full X 2 192 0 0 inb_S3x1x256x768_S1x1x64x128_2_0_192_0 inb_S1x14x128_S1x1x128_0_0_0 shapeCasts_S64x128_S1x1x64x128 (by decide) (by decide) (by decide) (by decide) (by decide) (by decide) x
    refine List.forall_mem_cons.mpr ⟨?_, ?_⟩; · intro x; exact piece_mask X 2 128 640 inb_S3x1x256x768_S1x1x64x128_2_0_128_640 shapeCasts_S64x128_S1x1x64x128 (by decide) (by decide) (by decide) (by decide) x
    refine List.forall_mem_cons.mpr ⟨?_, ?_⟩; · intro x; exact piece_mask X 2 128 512 inb_S3x1x256x768_S1x1x64x128_2_0_128_512 shapeCasts_S64x128_S1x1x64x128 (by decide) (by decide) (by decide) (by decide) x
    refine List.forall_mem_cons.mpr ⟨?_, ?_⟩; · intro x; exact piece_full X 2 128 384 7 inb_S3x1x256x768_S1x1x64x128_2_0_128_384 inb_S1x14x128_S1x1x128_0_7_0 shapeCasts_S64x128_S1x1x64x128 (by decide) (by decide) (by decide) (by decide) (by decide) (by decide) x
    refine List.forall_mem_cons.mpr ⟨?_, ?_⟩; · intro x; exact piece_full X 2 128 256 5 inb_S3x1x256x768_S1x1x64x128_2_0_128_256 inb_S1x14x128_S1x1x128_0_5_0 shapeCasts_S64x128_S1x1x64x128 (by decide) (by decide) (by decide) (by decide) (by decide) (by decide) x
    refine List.forall_mem_cons.mpr ⟨?_, ?_⟩; · intro x; exact piece_full X 2 128 128 3 inb_S3x1x256x768_S1x1x64x128_2_0_128_128 inb_S1x14x128_S1x1x128_0_3_0 shapeCasts_S64x128_S1x1x64x128 (by decide) (by decide) (by decide) (by decide) (by decide) (by decide) x
    refine List.forall_mem_cons.mpr ⟨?_, ?_⟩; · intro x; exact piece_full X 2 128 0 1 inb_S3x1x256x768_S1x1x64x128_2_0_128_0 inb_S1x14x128_S1x1x128_0_1_0 shapeCasts_S64x128_S1x1x64x128 (by decide) (by decide) (by decide) (by decide) (by decide) (by decide) x
    refine List.forall_mem_cons.mpr ⟨?_, ?_⟩; · intro x; exact piece_mask X 2 64 640 inb_S3x1x256x768_S1x1x64x128_2_0_64_640 shapeCasts_S64x128_S1x1x64x128 (by decide) (by decide) (by decide) (by decide) x
    refine List.forall_mem_cons.mpr ⟨?_, ?_⟩; · intro x; exact piece_mask X 2 64 512 inb_S3x1x256x768_S1x1x64x128_2_0_64_512 shapeCasts_S64x128_S1x1x64x128 (by decide) (by decide) (by decide) (by decide) x
    refine List.forall_mem_cons.mpr ⟨?_, ?_⟩; · intro x; exact piece_full X 2 64 384 8 inb_S3x1x256x768_S1x1x64x128_2_0_64_384 inb_S1x14x128_S1x1x128_0_8_0 shapeCasts_S64x128_S1x1x64x128 (by decide) (by decide) (by decide) (by decide) (by decide) (by decide) x
    refine List.forall_mem_cons.mpr ⟨?_, ?_⟩; · intro x; exact piece_full X 2 64 256 6 inb_S3x1x256x768_S1x1x64x128_2_0_64_256 inb_S1x14x128_S1x1x128_0_6_0 shapeCasts_S64x128_S1x1x64x128 (by decide) (by decide) (by decide) (by decide) (by decide) (by decide) x
    refine List.forall_mem_cons.mpr ⟨?_, ?_⟩; · intro x; exact piece_full X 2 64 128 4 inb_S3x1x256x768_S1x1x64x128_2_0_64_128 inb_S1x14x128_S1x1x128_0_4_0 shapeCasts_S64x128_S1x1x64x128 (by decide) (by decide) (by decide) (by decide) (by decide) (by decide) x
    refine List.forall_mem_cons.mpr ⟨?_, ?_⟩; · intro x; exact piece_full X 2 64 0 2 inb_S3x1x256x768_S1x1x64x128_2_0_64_0 inb_S1x14x128_S1x1x128_0_2_0 shapeCasts_S64x128_S1x1x64x128 (by decide) (by decide) (by decide) (by decide) (by decide) (by decide) x
    refine List.forall_mem_cons.mpr ⟨?_, ?_⟩; · intro x; exact piece_mask X 2 0 640 inb_S3x1x256x768_S1x1x64x128_2_0_0_640 shapeCasts_S64x128_S1x1x64x128 (by decide) (by decide) (by decide) (by decide) x
    refine List.forall_mem_cons.mpr ⟨?_, ?_⟩; · intro x; exact piece_mask X 2 0 512 inb_S3x1x256x768_S1x1x64x128_2_0_0_512 shapeCasts_S64x128_S1x1x64x128 (by decide) (by decide) (by decide) (by decide) x
    refine List.forall_mem_cons.mpr ⟨?_, ?_⟩; · intro x; exact piece_full X 2 0 384 9 inb_S3x1x256x768_S1x1x64x128_2_0_0_384 inb_S1x14x128_S1x1x128_0_9_0 shapeCasts_S64x128_S1x1x64x128 (by decide) (by decide) (by decide) (by decide) (by decide) (by decide) x
    refine List.forall_mem_cons.mpr ⟨?_, ?_⟩; · intro x; exact piece_full X 2 0 256 7 inb_S3x1x256x768_S1x1x64x128_2_0_0_256 inb_S1x14x128_S1x1x128_0_7_0 shapeCasts_S64x128_S1x1x64x128 (by decide) (by decide) (by decide) (by decide) (by decide) (by decide) x
    refine List.forall_mem_cons.mpr ⟨?_, ?_⟩; · intro x; exact piece_full X 2 0 128 5 inb_S3x1x256x768_S1x1x64x128_2_0_0_128 inb_S1x14x128_S1x1x128_0_5_0 shapeCasts_S64x128_S1x1x64x128 (by decide) (by decide) (by decide) (by decide) (by decide) (by decide) x
    refine List.forall_mem_cons.mpr ⟨?_, ?_⟩; · intro x; exact piece_full X 2 0 0 3 inb_S3x1x256x768_S1x1x64x128_2_0_0_0 inb_S1x14x128_S1x1x128_0_3_0 shapeCasts_S64x128_S1x1x64x128 (by decide) (by decide) (by decide) (by decide) (by decide) (by decide) x
    refine List.forall_mem_cons.mpr ⟨?_, ?_⟩; · intro x; exact piece_left X 1 192 640 10 inb_S3x1x256x768_S1x1x64x128_1_0_192_640 inb_S1x14x128_S1x1x128_0_10_0 shapeCasts_S64x128_S1x1x64x128 (by decide) (by decide) (by decide) (by decide) (by decide) (by decide) x
    refine List.forall_mem_cons.mpr ⟨?_, ?_⟩; · intro x; exact piece_full X 1 192 512 8 inb_S3x1x256x768_S1x1x64x128_1_0_192_512 inb_S1x14x128_S1x1x128_0_8_0 shapeCasts_S64x128_S1x1x64x128 (by decide) (by decide) (by decide) (by decide) (by decide) (by decide) x
    refine List.forall_mem_cons.mpr ⟨?_, ?_⟩; · intro x; exact piece_full X 1 192 384 6 inb_S3x1x256x768_S1x1x64x128_1_0_192_384 inb_S1x14x128_S1x1x128_0_6_0 shapeCasts_S64x128_S1x1x64x128 (by decide) (by decide) (by decide) (by decide) (by decide) (by decide) x
    refine List.forall_mem_cons.mpr ⟨?_, ?_⟩; · intro x; exact piece_full X 1 192 256 4 inb_S3x1x256x768_S1x1x64x128_1_0_192_256 inb_S1x14x128_S1x1x128_0_4_0 shapeCasts_S64x128_S1x1x64x128 (by decide) (by decide) (by decide) (by decide) (by decide) (by decide) x
    refine List.forall_mem_cons.mpr ⟨?_, ?_⟩; · intro x; exact piece_right X 1 192 128 2 inb_S3x1x256x768_S1x1x64x128_1_0_192_128 inb_S1x14x128_S1x1x128_0_2_0 shapeCasts_S64x128_S1x1x64x128 (by decide) (by decide) (by decide) (by decide) (by decide) (by decide) x
    refine List.forall_mem_cons.mpr ⟨?_, ?_⟩; · intro x; exact piece_mask X 1 192 0 inb_S3x1x256x768_S1x1x64x128_1_0_192_0 shapeCasts_S64x128_S1x1x64x128 (by decide) (by decide) (by decide) (by decide) x
    refine List.forall_mem_cons.mpr ⟨?_, ?_⟩; · intro x; exact piece_mask X 1 128 640 inb_S3x1x256x768_S1x1x64x128_1_0_128_640 shapeCasts_S64x128_S1x1x64x128 (by decide) (by decide) (by decide) (by decide) x
    refine List.forall_mem_cons.mpr ⟨?_, ?_⟩; · intro x; exact piece_full X 1 128 512 9 inb_S3x1x256x768_S1x1x64x128_1_0_128_512 inb_S1x14x128_S1x1x128_0_9_0 shapeCasts_S64x128_S1x1x64x128 (by decide) (by decide) (by decide) (by decide) (by decide) (by decide) x
    refine List.forall_mem_cons.mpr ⟨?_, ?_⟩; · intro x; exact piece_full X 1 128 384 7 inb_S3x1x256x768_S1x1x64x128_1_0_128_384 inb_S1x14x128_S1x1x128_0_7_0 shapeCasts_S64x128_S1x1x64x128 (by decide) (by decide) (by decide) (by decide) (by decide) (by decide) x
    refine List.forall_mem_cons.mpr ⟨?_, ?_⟩; · intro x; exact piece_full X 1 128 256 5 inb_S3x1x256x768_S1x1x64x128_1_0_128_256 inb_S1x14x128_S1x1x128_0_5_0 shapeCasts_S64x128_S1x1x64x128 (by decide) (by decide) (by decide) (by decide) (by decide) (by decide) x
    refine List.forall_mem_cons.mpr ⟨?_, ?_⟩; · intro x; exact piece_full X 1 128 128 3 inb_S3x1x256x768_S1x1x64x128_1_0_128_128 inb_S1x14x128_S1x1x128_0_3_0 shapeCasts_S64x128_S1x1x64x128 (by decide) (by decide) (by decide) (by decide) (by decide) (by decide) x
    refine List.forall_mem_cons.mpr ⟨?_, ?_⟩; · intro x; exact piece_mask X 1 128 0 inb_S3x1x256x768_S1x1x64x128_1_0_128_0 shapeCasts_S64x128_S1x1x64x128 (by decide) (by decide) (by decide) (by decide) x
    refine List.forall_mem_cons.mpr ⟨?_, ?_⟩; · intro x; exact piece_mask X 1 64 640 inb_S3x1x256x768_S1x1x64x128_1_0_64_640 shapeCasts_S64x128_S1x1x64x128 (by decide) (by decide) (by decide) (by decide) x
    refine List.forall_mem_cons.mpr ⟨?_, ?_⟩; · intro x; exact piece_left X 1 64 512 10 inb_S3x1x256x768_S1x1x64x128_1_0_64_512 inb_S1x14x128_S1x1x128_0_10_0 shapeCasts_S64x128_S1x1x64x128 (by decide) (by decide) (by decide) (by decide) (by decide) (by decide) x
    refine List.forall_mem_cons.mpr ⟨?_, ?_⟩; · intro x; exact piece_full X 1 64 384 8 inb_S3x1x256x768_S1x1x64x128_1_0_64_384 inb_S1x14x128_S1x1x128_0_8_0 shapeCasts_S64x128_S1x1x64x128 (by decide) (by decide) (by decide) (by decide) (by decide) (by decide) x
    refine List.forall_mem_cons.mpr ⟨?_, ?_⟩; · intro x; exact piece_full X 1 64 256 6 inb_S3x1x256x768_S1x1x64x128_1_0_64_256 inb_S1x14x128_S1x1x128_0_6_0 shapeCasts_S64x128_S1x1x64x128 (by decide) (by decide) (by decide) (by decide) (by decide) (by decide) x
    refine List.forall_mem_cons.mpr ⟨?_, ?_⟩; · intro x; exact piece_full X 1 64 128 4 inb_S3x1x256x768_S1x1x64x128_1_0_64_128 inb_S1x14x128_S1x1x128_0_4_0 shapeCasts_S64x128_S1x1x64x128 (by decide) (by decide) (by decide) (by decide) (by decide) (by decide) x
    refine List.forall_mem_cons.mpr ⟨?_, ?_⟩; · intro x; exact piece_right X 1 64 0 2 inb_S3x1x256x768_S1x1x64x128_1_0_64_0 inb_S1x14x128_S1x1x128_0_2_0 shapeCasts_S64x128_S1x1x64x128 (by decide) (by decide) (by decide) (by decide) (by decide) (by decide) x
    refine List.forall_mem_cons.mpr ⟨?_, ?_⟩; · intro x; exact piece_mask X 1 0 640 inb_S3x1x256x768_S1x1x64x128_1_0_0_640 shapeCasts_S64x128_S1x1x64x128 (by decide) (by decide) (by decide) (by decide) x
    refine List.forall_mem_cons.mpr ⟨?_, ?_⟩; · intro x; exact piece_mask X 1 0 512 inb_S3x1x256x768_S1x1x64x128_1_0_0_512 shapeCasts_S64x128_S1x1x64x128 (by decide) (by decide) (by decide) (by decide) x
    refine List.forall_mem_cons.mpr ⟨?_, ?_⟩; · intro x; exact piece_full X 1 0 384 9 inb_S3x1x256x768_S1x1x64x128_1_0_0_384 inb_S1x14x128_S1x1x128_0_9_0 shapeCasts_S64x128_S1x1x64x128 (by decide) (by decide) (by decide) (by decide) (by decide) (by decide) x
    refine List.forall_mem_cons.mpr ⟨?_, ?_⟩; · intro x; exact piece_full X 1 0 256 7 inb_S3x1x256x768_S1x1x64x128_1_0_0_256 inb_S1x14x128_S1x1x128_0_7_0 shapeCasts_S64x128_S1x1x64x128 (by decide) (by decide) (by decide) (by decide) (by decide) (by decide) x
    refine List.forall_mem_cons.mpr ⟨?_, ?_⟩; · intro x; exact piece_full X 1 0 128 5 inb_S3x1x256x768_S1x1x64x128_1_0_0_128 inb_S1x14x128_S1x1x128_0_5_0 shapeCasts_S64x128_S1x1x64x128 (by decide) (by decide) (by decide) (by decide) (by decide) (by decide) x
    refine List.forall_mem_cons.mpr ⟨?_, ?_⟩; · intro x; exact piece_full X 1 0 0 3 inb_S3x1x256x768_S1x1x64x128_1_0_0_0 inb_S1x14x128_S1x1x128_0_3_0 shapeCasts_S64x128_S1x1x64x128 (by decide) (by decide) (by decide) (by decide) (by decide) (by decide) x
    refine List.forall_mem_cons.mpr ⟨?_, ?_⟩; · intro x; exact piece_full X 0 192 640 10 inb_S3x1x256x768_S1x1x64x128_0_0_192_640 inb_S1x14x128_S1x1x128_0_10_0 shapeCasts_S64x128_S1x1x64x128 (by decide) (by decide) (by decide) (by decide) (by decide) (by decide) x
    refine List.forall_mem_cons.mpr ⟨?_, ?_⟩; · intro x; exact piece_full X 0 192 512 8 inb_S3x1x256x768_S1x1x64x128_0_0_192_512 inb_S1x14x128_S1x1x128_0_8_0 shapeCasts_S64x128_S1x1x64x128 (by decide) (by decide) (by decide) (by decide) (by decide) (by decide) x
    refine List.forall_mem_cons.mpr ⟨?_, ?_⟩; · intro x; exact piece_full X 0 192 384 6 inb_S3x1x256x768_S1x1x64x128_0_0_192_384 inb_S1x14x128_S1x1x128_0_6_0 shapeCasts_S64x128_S1x1x64x128 (by decide) (by decide) (by decide) (by decide) (by decide) (by decide) x
    refine List.forall_mem_cons.mpr ⟨?_, ?_⟩; · intro x; exact piece_full X 0 192 256 4 inb_S3x1x256x768_S1x1x64x128_0_0_192_256 inb_S1x14x128_S1x1x128_0_4_0 shapeCasts_S64x128_S1x1x64x128 (by decide) (by decide) (by decide) (by decide) (by decide) (by decide) x
    refine List.forall_mem_cons.mpr ⟨?_, ?_⟩; · intro x; exact piece_mask X 0 192 128 inb_S3x1x256x768_S1x1x64x128_0_0_192_128 shapeCasts_S64x128_S1x1x64x128 (by decide) (by decide) (by decide) (by decide) x
    refine List.forall_mem_cons.mpr ⟨?_, ?_⟩; · intro x; exact piece_mask X 0 192 0 inb_S3x1x256x768_S1x1x64x128_0_0_192_0 shapeCasts_S64x128_S1x1x64x128 (by decide) (by decide) (by decide) (by decide) x
    refine List.forall_mem_cons.mpr ⟨?_, ?_⟩; · intro x; exact piece_full X 0 128 640 11 inb_S3x1x256x768_S1x1x64x128_0_0_128_640 inb_S1x14x128_S1x1x128_0_11_0 shapeCasts_S64x128_S1x1x64x128 (by decide) (by decide) (by decide) (by decide) (by decide) (by decide) x
    refine List.forall_mem_cons.mpr ⟨?_, ?_⟩; · intro x; exact piece_full X 0 128 512 9 inb_S3x1x256x768_S1x1x64x128_0_0_128_512 inb_S1x14x128_S1x1x128_0_9_0 shapeCasts_S64x128_S1x1x64x128 (by decide) (by decide) (by decide) (by decide) (by decide) (by decide) x
    refine List.forall_mem_cons.mpr ⟨?_, ?_⟩; · intro x; exact piece_full X 0 128 384 7 inb_S3x1x256x768_S1x1x64x128_0_0_128_384 inb_S1x14x128_S1x1x128_0_7_0 shapeCasts_S64x128_S1x1x64x128 (by decide) (by decide) (by decide) (by decide) (by decide) (by decide) x
    refine List.forall_mem_cons.mpr ⟨?_, ?_⟩; · intro x; exact piece_full X 0 128 256 5 inb_S3x1x256x768_S1x1x64x128_0_0_128_256 inb_S1x14x128_S1x1x128_0_5_0 shapeCasts_S64x128_S1x1x64x128 (by decide) (by decide) (by decide) (by decide) (by decide) (by decide) x
    refine List.forall_mem_cons.mpr ⟨?_, ?_⟩; · intro x; exact piece_mask X 0 128 128 inb_S3x1x256x768_S1x1x64x128_0_0_128_128 shapeCasts_S64x128_S1x1x64x128 (by decide) (by decide) (by decide) (by decide) x
    refine List.forall_mem_cons.mpr ⟨?_, ?_⟩; · intro x; exact piece_mask X 0 128 0 inb_S3x1x256x768_S1x1x64x128_0_0_128_0 shapeCasts_S64x128_S1x1x64x128 (by decide) (by decide) (by decide) (by decide) x
    refine List.forall_mem_cons.mpr ⟨?_, ?_⟩; · intro x; exact piece_full X 0 64 640 12 inb_S3x1x256x768_S1x1x64x128_0_0_64_640 inb_S1x14x128_S1x1x128_0_12_0 shapeCasts_S64x128_S1x1x64x128 (by decide) (by decide) (by decide) (by decide) (by decide) (by decide) x
    refine List.forall_mem_cons.mpr ⟨?_, ?_⟩; · intro x; exact piece_full X 0 64 512 10 inb_S3x1x256x768_S1x1x64x128_0_0_64_512 inb_S1x14x128_S1x1x128_0_10_0 shapeCasts_S64x128_S1x1x64x128 (by decide) (by decide) (by decide) (by decide) (by decide) (by decide) x
    refine List.forall_mem_cons.mpr ⟨?_, ?_⟩; · intro x; exact piece_full X 0 64 384 8 inb_S3x1x256x768_S1x1x64x128_0_0_64_384 inb_S1x14x128_S1x1x128_0_8_0 shapeCasts_S64x128_S1x1x64x128 (by decide) (by decide) (by decide) (by decide) (by decide) (by decide) x
    refine List.forall_mem_cons.mpr ⟨?_, ?_⟩; · intro x; exact piece_full X 0 64 256 6 inb_S3x1x256x768_S1x1x64x128_0_0_64_256 inb_S1x14x128_S1x1x128_0_6_0 shapeCasts_S64x128_S1x1x64x128 (by decide) (by decide) (by decide) (by decide) (by decide) (by decide) x
    refine List.forall_mem_cons.mpr ⟨?_, ?_⟩; · intro x; exact piece_mask X 0 64 128 inb_S3x1x256x768_S1x1x64x128_0_0_64_128 shapeCasts_S64x128_S1x1x64x128 (by decide) (by decide) (by decide) (by decide) x
    refine List.forall_mem_cons.mpr ⟨?_, ?_⟩; · intro x; exact piece_mask X 0 64 0 inb_S3x1x256x768_S1x1x64x128_0_0_64_0 shapeCasts_S64x128_S1x1x64x128 (by decide) (by decide) (by decide) (by decide) x
    refine List.forall_mem_cons.mpr ⟨?_, ?_⟩; · intro x; exact piece_full X 0 0 640 13 inb_S3x1x256x768_S1x1x64x128_0_0_0_640 inb_S1x14x128_S1x1x128_0_13_0 shapeCasts_S64x128_S1x1x64x128 (by decide) (by decide) (by decide) (by decide) (by decide) (by decide) x
    refine List.forall_mem_cons.mpr ⟨?_, ?_⟩; · intro x; exact piece_full X 0 0 512 11 inb_S3x1x256x768_S1x1x64x128_0_0_0_512 inb_S1x14x128_S1x1x128_0_11_0 shapeCasts_S64x128_S1x1x64x128 (by decide) (by decide) (by decide) (by decide) (by decide) (by decide) x
    refine List.forall_mem_cons.mpr ⟨?_, ?_⟩; · intro x; exact piece_full X 0 0 384 9 inb_S3x1x256x768_S1x1x64x128_0_0_0_384 inb_S1x14x128_S1x1x128_0_9_0 shapeCasts_S64x128_S1x1x64x128 (by decide) (by decide) (by decide) (by decide) (by decide) (by decide) x
    refine List.forall_mem_cons.mpr ⟨?_, ?_⟩; · intro x; exact piece_full X 0 0 256 7 inb_S3x1x256x768_S1x1x64x128_0_0_0_256 inb_S1x14x128_S1x1x128_0_7_0 shapeCasts_S64x128_S1x1x64x128 (by decide) (by decide) (by decide) (by decide) (by decide) (by decide) x
    refine List.forall_mem_cons.mpr ⟨?_, ?_⟩; · intro x; exact piece_mask X 0 0 128 inb_S3x1x256x768_S1x1x64x128_0_0_0_128 shapeCasts_S64x128_S1x1x64x128 (by decide) (by decide) (by decide) (by decide) x
    refine List.forall_mem_cons.mpr ⟨?_, ?_⟩; · intro x; exact piece_mask X 0 0 0 inb_S3x1x256x768_S1x1x64x128_0_0_0_0 shapeCasts_S64x128_S1x1x64x128 (by decide) (by decide) (by decide) (by decide) x
    exact List.forall_mem_nil _
  · exact cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y

end Cert.KernelIdeal.Tab
-- ==== Proof.AttnArr.lean ====
module

public import proofs.«01_k».proof.Proof.AttnTab2
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Arr

open Cert.KernelIdeal Cert.KernelIdeal.Gen Cert.KernelIdeal.Tab Idealize.ShloMosaic Idealize.ShloMosaic.TcCoe Idealize.SL.Sem
open Idealize.ShloMosaic.Pipeline (Dat)
open Cert.Attn

section Region
variable (V : (c : Dev nD) → (b : Ref sig .tc) → Buf (Elt Ideal) ((c : Thread nD τ).loc b))

theorem idx0 : ∀ t : Fin cfg0.N, win0_0.index t = ![t.val, 0, 0] ∧ win0_1.index t = ![0, t.val, 0, 0] :=
  (by decide +kernel : ∀ t : Fin grid0.N, _)

/-- The ring of a head and a row of biases. -/
def rg (c : Dev nD) (h : Fin 8) (a : Fin 14) (l : Fin 128) : EReal := V c main_v5 (ix3 h a l)

/-- One entry of the tables: the ring's entry, scaled, inside the window, and `-∞` outside. -/
def tabD (c : Dev nD) (a : Fin 3) (h : Fin 8) (r : Fin 256) (n : Fin 768) : EReal :=
  if win a.val (r.val / 64) (n.val / 64) ∧ colok (r.val % 64) (n.val % 64) then
    rg V c h (⟨min 13 (2 * (n.val / 128) + 3 - r.val / 64), by omega⟩ : Fin 14)
      (⟨(n.val % 128 + 128 - r.val % 64) % 128, by omega⟩ : Fin 128) * Attn.L2E
  else ⊥

theorem tab_arr (c : Dev nD) : (dat0 V c).arrAt 1 cfg0.N = fun y : S3x8x256x768.Idx => tabD V c (y 0) (y 1) (y 2) (y 3) := by
  refine (dat0 V c).arrAt_eq_of_covers 1 _ (by decide +kernel) fun t hf y => ?_
  have h7 := (idx0 t).2
  have e0 : (win0_1.blk t).view.emb y 0 = y 0 := Fin.ext (by blk_simp [h7])
  have e1 : ((win0_1.blk t).view.emb y 1).val = t.val := by
    have hy : (y 1).val < 1 := (y 1).isLt
    (blk_simp [h7])
  have e2 : (win0_1.blk t).view.emb y 2 = y 2 := Fin.ext (by blk_simp [h7])
  have e3 : (win0_1.blk t).view.emb y 3 = y 3 := Fin.ext (by blk_simp [h7])
  have key : out0_1 (iblk0 V c 0 t) y = tabD V c (y 0) ((win0_1.blk t).view.emb y 1) (y 2) (y 3) := by
    rw [out_eq]
    unfold Tab.T tabD rg
    split_ifs
    · refine congrArg (· * _) ?_
      blk_point [iblk0, (idx0 t).1, (idx0 t).2]
    · rfl
  blk_simp
  rw [after0_1]
  rw [key, e0, e2, e3]

end Region

variable (m : (ℓ : Loc nD τ sig) → Buf (Elt Ideal) ℓ) (ρ : Dev nD → PrngReg)

abbrev rpb (c : Dev nD) (h : Fin 8) (a : Fin 15) (b : Fin 31) : EReal := m ((c : Thread nD τ).loc main_arg6) (ix3 h a b)

theorem cat0 (w0 : FVec Ideal S8x14x16 .f32) (w1 w3 : FVec Ideal S8x14x33 .f32) (w2 : FVec Ideal S8x14x31 .f32) (w4 : FVec Ideal S8x14x15 .f32) (h : Fin 8) (a : Fin 14) (l : Fin 128) (j : Fin 16) (hl : l.val = j.val) :
    concatenate S8x14x128 2 [⟨S8x14x16, w0⟩, ⟨S8x14x33, w1⟩, ⟨S8x14x31, w2⟩, ⟨S8x14x33, w3⟩, ⟨S8x14x15, w4⟩] concatenates_S8x14x16_S8x14x33_S8x14x31_S8x14x33_S8x14x15_S8x14x128_d2 (ix3 h a l) = w0 (ix3 h a j) := by
  pointwise []
  rw [dif_pos (by omega)]
  exact congrArg (fun z => w0 (ix3 h a z)) (Fin.ext (by dsimp only; omega))
theorem cat2 (w0 : FVec Ideal S8x14x16 .f32) (w1 w3 : FVec Ideal S8x14x33 .f32) (w2 : FVec Ideal S8x14x31 .f32) (w4 : FVec Ideal S8x14x15 .f32) (h : Fin 8) (a : Fin 14) (l : Fin 128) (j : Fin 31) (hl : l.val = 49 + j.val) :
    concatenate S8x14x128 2 [⟨S8x14x16, w0⟩, ⟨S8x14x33, w1⟩, ⟨S8x14x31, w2⟩, ⟨S8x14x33, w3⟩, ⟨S8x14x15, w4⟩] concatenates_S8x14x16_S8x14x33_S8x14x31_S8x14x33_S8x14x15_S8x14x128_d2 (ix3 h a l) = w2 (ix3 h a j) := by
  pointwise []
  rw [dif_neg (by omega), dif_neg (by omega), dif_pos (by omega)]
  exact congrArg (fun z => w2 (ix3 h a z)) (Fin.ext (by dsimp only; omega))
theorem cat4 (w0 : FVec Ideal S8x14x16 .f32) (w1 w3 : FVec Ideal S8x14x33 .f32) (w2 : FVec Ideal S8x14x31 .f32) (w4 : FVec Ideal S8x14x15 .f32) (h : Fin 8) (a : Fin 14) (l : Fin 128) (j : Fin 15) (hl : l.val = 113 + j.val) :
    concatenate S8x14x128 2 [⟨S8x14x16, w0⟩, ⟨S8x14x33, w1⟩, ⟨S8x14x31, w2⟩, ⟨S8x14x33, w3⟩, ⟨S8x14x15, w4⟩] concatenates_S8x14x16_S8x14x33_S8x14x31_S8x14x33_S8x14x15_S8x14x128_d2 (ix3 h a l) = w4 (ix3 h a j) := by
  pointwise []
  rw [dif_neg (by omega), dif_neg (by omega), dif_neg (by omega), dif_neg (by omega)]
  exact congrArg (fun z => w4 (ix3 h a z)) (Fin.ext (by dsimp only; omega))

theorem host3 (c : Dev nD) (h : Fin 8) (a : Fin 14) (j : Fin 16) :
    StableHlo.after hostOps0 (W0 m ρ c) (Proc.devRef .tc main_v3) (ix3 h a j) = rpb m c h ⟨a.val, by omega⟩ ⟨15 + j.val, by omega⟩ := by
  after_results
  pointwise []
theorem host1 (c : Dev nD) (h : Fin 8) (a : Fin 14) (j : Fin 31) :
    StableHlo.after hostOps0 (W0 m ρ c) (Proc.devRef .tc main_v1) (ix3 h a j) = rpb m c h ⟨1 + a.val, by omega⟩ ⟨j.val, by omega⟩ := by
  after_results
  pointwise []
theorem host4 (c : Dev nD) (h : Fin 8) (a : Fin 14) (j : Fin 15) :
    StableHlo.after hostOps0 (W0 m ρ c) (Proc.devRef .tc main_v4) (ix3 h a j) = rpb m c h ⟨a.val, by omega⟩ ⟨j.val, by omega⟩ := by
  after_results
  pointwise []

set_option pp.deepTerms false in
set_option pp.deepTerms.threshold 4 in
theorem ring_host (c : Dev nD) (h : Fin 8) (a : Fin 14) (l : Fin 128) (a' : Fin 15) (j : Fin 31)
    (hc : (l.val < 16 ∧ j.val = 15 + l.val ∧ a'.val = a.val) ∨ (49 ≤ l.val ∧ l.val < 80 ∧ j.val = l.val - 49 ∧ a'.val = a.val + 1)
      ∨ (113 ≤ l.val ∧ j.val = l.val - 113 ∧ a'.val = a.val)) :
    rg (V1 m ρ) c h a l = rpb m c h a' j := by
  show StableHlo.after hostOps0 (W0 m ρ c) (Proc.devRef .tc main_v5) (ix3 h a l) = _
  have e3 := host3 m ρ c h a
  have e1 := host1 m ρ c h a
  have e4 := host4 m ρ c h a
  have e : StableHlo.after hostOps0 (W0 m ρ c) (Proc.devRef .tc main_v5) = concatenate S8x14x128 2
      [⟨S8x14x16, StableHlo.after hostOps0 (W0 m ρ c) (Proc.devRef .tc main_v3)⟩, ⟨S8x14x33, StableHlo.after hostOps0 (W0 m ρ c) (Proc.devRef .tc main_v2)⟩,
        ⟨S8x14x31, StableHlo.after hostOps0 (W0 m ρ c) (Proc.devRef .tc main_v1)⟩, ⟨S8x14x33, StableHlo.after hostOps0 (W0 m ρ c) (Proc.devRef .tc main_v2)⟩,
        ⟨S8x14x15, StableHlo.after hostOps0 (W0 m ρ c) (Proc.devRef .tc main_v4)⟩] concatenates_S8x14x16_S8x14x33_S8x14x31_S8x14x33_S8x14x15_S8x14x128_d2 := by
    after_results
    all_goals rfl
  rw [e]
  rcases hc with ⟨h1, h2, h3⟩ | ⟨h0, h1, h2, h3⟩ | ⟨h1, h2, h3⟩
  · rw [cat0 _ _ _ _ _ h a l ⟨l.val, by omega⟩ rfl, e3]
    exact congrArg₂ (rpb m c h) (Fin.ext (by dsimp only; omega)) (Fin.ext (by dsimp only; omega))
  · rw [cat2 _ _ _ _ _ h a l ⟨l.val - 49, by omega⟩ (by dsimp only; omega), e1]
    exact congrArg₂ (rpb m c h) (Fin.ext (by dsimp only; omega)) (Fin.ext (by dsimp only; omega))
  · rw [cat4 _ _ _ _ _ h a l ⟨l.val - 113, by omega⟩ (by dsimp only; omega), e4]
    exact congrArg₂ (rpb m c h) (Fin.ext (by dsimp only; omega)) (Fin.ext (by dsimp only; omega))

/-- The table's entry in the biases. -/
def tabV (c : Dev nD) (a : Fin 3) (h : Fin 8) (r : Fin 256) (n : Fin 768) : EReal :=
  if win a.val (r.val / 64) (n.val / 64) ∧ colok (r.val % 64) (n.val % 64) then
    rpb m c h (⟨min 14 (n.val / 64 + 3 - r.val / 64), by omega⟩ : Fin 15) (⟨min 30 (n.val % 64 + 15 - r.val % 64), by omega⟩ : Fin 31) * Attn.L2E
  else ⊥

theorem ring_nat (a J k u v n r : ℕ) (ha : a < 3) (hJ : J < 12) (hk : k < 64) (hu : u < 4) (hv : v < 64) (hn : n = 64 * J + k) (hr : r = 64 * u + v)
    (hw : win a u J) (hc : colok v k) :
    ((n % 128 + 128 - v) % 128 < 16 ∧ min 30 (k + 15 - v) = 15 + (n % 128 + 128 - v) % 128 ∧ min 14 (J + 3 - u) = min 13 (2 * (n / 128) + 3 - u))
    ∨ (49 ≤ (n % 128 + 128 - v) % 128 ∧ (n % 128 + 128 - v) % 128 < 80 ∧ min 30 (k + 15 - v) = (n % 128 + 128 - v) % 128 - 49
        ∧ min 14 (J + 3 - u) = min 13 (2 * (n / 128) + 3 - u) + 1)
    ∨ (113 ≤ (n % 128 + 128 - v) % 128 ∧ min 30 (k + 15 - v) = (n % 128 + 128 - v) % 128 - 113 ∧ min 14 (J + 3 - u) = min 13 (2 * (n / 128) + 3 - u)) := by
  obtain ⟨c1, c2⟩ := hc
  have h1 : n / 128 = J / 2 := by omega
  have h2 : n % 128 = 64 * (J % 2) + k := by omega
  have hw' : J ≤ u + 11 ∧ u ≤ J + 3 := by
    unfold win at hw
    obtain ⟨w1, w2⟩ := hw
    interval_cases a <;> simp at w1 w2 <;> omega
  have hw2 : J % 2 = 0 → J ≤ u + 10 := by
    unfold win at hw
    obtain ⟨w1, w2⟩ := hw
    intro h
    interval_cases a <;> simp at w1 w2 <;> omega
  rw [h1, h2]
  clear h1 h2 hw hn hr
  rcases Nat.mod_two_eq_zero_or_one J with h | h
  · have := hw2 h
    rcases Nat.lt_or_ge k v with hkv | hkv
    · right; right
      have e : (64 * (J % 2) + k + 128 - v) % 128 = 128 + k - v := by omega
      rw [e]; omega
    · left
      have e : (64 * (J % 2) + k + 128 - v) % 128 = k - v := by omega
      rw [e]; omega
  · right; left
    have e : (64 * (J % 2) + k + 128 - v) % 128 = 64 + k - v := by omega
    rw [e]; omega

theorem tab_at (c : Dev nD) (a : Fin 3) (h : Fin 8) (r : Fin 256) (n : Fin 768) : tabD (V1 m ρ) c a h r n = tabV m c a h r n := by
  unfold tabD tabV
  split_ifs with hw
  · have hr := r.isLt
    have hn := n.isLt
    exact congrArg (· * _) (ring_host m ρ c h _ _ _ _
      (ring_nat a.val (n.val / 64) (n.val % 64) (r.val / 64) (r.val % 64) n.val r.val a.isLt (by omega) (by omega) (by omega) (by omega) (by omega) (by omega) hw.1 hw.2))
  · rfl

theorem table (c : Dev nD) (a : Fin 3) (h : Fin 8) (r : Fin 256) (n : Fin 768) : V3 m ρ c main_v6 (ix4 a h r n) = tabV m c a h r n := by
  have e : V3 m ρ c main_v6 = (dat0 (V1 m ρ) c).arrAt 1 cfg0.N := (W3_of m ρ c main_v6 (by decide)).trans (W2_arr m ρ c 1)
  exact (congrFun (e.trans (tab_arr (V1 m ρ) c)) (ix4 a h r n)).trans (tab_at m ρ c a h r n)

theorem v_arg0 (c : Dev nD) : V3 m ρ c main_arg0 = m ((c : Thread nD τ).loc main_arg0) := W3_args m ρ c _ (by decide)
theorem v_arg1 (c : Dev nD) : V3 m ρ c main_arg1 = m ((c : Thread nD τ).loc main_arg1) := W3_args m ρ c _ (by decide)
theorem v_arg9 (c : Dev nD) : V3 m ρ c main_arg9 = m ((c : Thread nD τ).loc main_arg9) := W3_args m ρ c _ (by decide)
theorem v_7 (c : Dev nD) (i : Fin 16384) (d : Fin 512) : V3 m ρ c main_v7 (ix2 i d) = m ((c : Thread nD τ).loc main_arg2) (ix2 i d) := by
  rw [← W2_args m ρ c main_arg2 (by decide)]
  show StableHlo.after hostOps1 (W2 m ρ c) (Proc.devRef .tc main_v7) (ix2 i d) = _
  after_results
  pointwise []
theorem v_8 (c : Dev nD) (i : Fin 16384) (d : Fin 512) : V3 m ρ c main_v8 (ix2 i d) = m ((c : Thread nD τ).loc main_arg3) (ix2 i d) := by
  rw [← W2_args m ρ c main_arg3 (by decide)]
  show StableHlo.after hostOps1 (W2 m ρ c) (Proc.devRef .tc main_v8) (ix2 i d) = _
  after_results
  pointwise []
theorem v_9 (c : Dev nD) (i : Fin 256) (d : Fin 512) : V3 m ρ c main_v9 (ix2 i d) = m ((c : Thread nD τ).loc main_arg4) (ix2 i d) := by
  rw [← W2_args m ρ c main_arg4 (by decide)]
  show StableHlo.after hostOps1 (W2 m ρ c) (Proc.devRef .tc main_v9) (ix2 i d) = _
  after_results
  pointwise []
theorem v_10 (c : Dev nD) (i : Fin 256) (d : Fin 512) : V3 m ρ c main_v10 (ix2 i d) = m ((c : Thread nD τ).loc main_arg5) (ix2 i d) := by
  rw [← W2_args m ρ c main_arg5 (by decide)]
  show StableHlo.after hostOps1 (W2 m ρ c) (Proc.devRef .tc main_v10) (ix2 i d) = _
  after_results
  pointwise []
theorem v_11 (c : Dev nD) (i : Fin 16384) (d : Fin 512) : V3 m ρ c main_v11 (ix2 i d) = m ((c : Thread nD τ).loc main_arg7) (ix2 i d) := by
  rw [← W2_args m ρ c main_arg7 (by decide)]
  show StableHlo.after hostOps1 (W2 m ρ c) (Proc.devRef .tc main_v11) (ix2 i d) = _
  after_results
  pointwise []
theorem v_12 (c : Dev nD) (i d : Fin 1024) : V3 m ρ c main_v12 (ix2 i d) = m ((c : Thread nD τ).loc main_arg8) (ix2 i d) := by
  rw [← W2_args m ρ c main_arg8 (by decide)]
  show StableHlo.after hostOps1 (W2 m ρ c) (Proc.devRef .tc main_v12) (ix2 i d) = _
  after_results
  pointwise []

end Cert.KernelIdeal.Arr
-- ==== Proof.AttnPay.lean ====
module

public import proofs.«01_k».proof.Proof.Gen.KernelIdeal.Skeleton
public import proofs.«01_k».proof.Proof.AttnMath
public import Idealize.ShloMosaic.Lib.Pointwise

/-!
# One head of the attention on one block of queries

The queries of a group of four heads are masked to one head, scored against four blocks of keys, and the softmax weights times
the values replace that head's columns of the result.
-/

@[expose] public section

set_option maxRecDepth 16384

noncomputable section

namespace Cert.KernelIdeal.Pay

open Cert.KernelIdeal Cert.KernelIdeal.Gen Idealize.ShloMosaic Idealize.ShloMosaic.TcCoe Idealize.SL.Sem
open Cert.Attn

abbrev M := FVec Ideal S256x256 .f32
abbrev B := FVec Ideal S256x256 .bf16

/-- The lanes of head `hh`. -/
def inHead (hh : ℕ) : IVec S1x256 1 :=
  andi (cmpi .sge (iota .tc S1x256 32 [1] iota_S1x256_d1_w32) (broadcast S1x256 (BitVec.ofNat 32 (64 * hh))))
    (cmpi .slt (iota .tc S1x256 32 [1] iota_S1x256_d1_w32) (broadcast S1x256 (BitVec.ofNat 32 (64 * hh + 64))))

def lanes (hh : ℕ) : IVec S256x256 1 :=
  broadcastTo S256x256 (shapeCast S1x256 (inHead hh) shapeCasts_S1x256_S1x256) broadcasts_S1x256_S256x256

def qh (hh : ℕ) (q4 : B) : B := select (lanes hh) q4 (broadcast S256x256 (Scalar.ofBits (F := Ideal) .bf16 0x0000#16))

def sc (q k : B) : M := matmul dot_S256x256_S256x256_S256x256_1_1_0_0_n_n none q k (constant S256x256 .f32 0x00000000#32)

def scT (q k : B) (t : Vec Ideal S1x1x256x256 .f32) : M := addf (sc q k) (shapeCast S256x256 t shapeCasts_S1x1x256x256_S256x256)

def rowMax (s0 s1 s2 s3 : M) : FVec Ideal S256x1 .f32 :=
  shapeCast S256x1 (multiReduction .maximumf [1] S256 (maximumf (maximumf s0 s1) (maximumf s2 s3)) 0xFF800000#32
    reduces_S256x256_S256 (.inl rfl) rfl) shapeCasts_S256_S256x1

def ex (s : M) (m : FVec Ideal S256x1 .f32) : M := exp2 (subf s (broadcastTo S256x256 m broadcasts_S256x1_S256x256))

def pv (p0 p1 p2 p3 : M) (vals : FVec Ideal S1024x256 .bf16) : M :=
  matmul dot_S256x1024_S1024x256_S256x256_1_0_0_1_n_n none
    (concatenate S256x1024 1 [⟨S256x256, truncf .bf16 p0 bitsLt_bf16_f32⟩, ⟨S256x256, truncf .bf16 p1 bitsLt_bf16_f32⟩,
      ⟨S256x256, truncf .bf16 p2 bitsLt_bf16_f32⟩, ⟨S256x256, truncf .bf16 p3 bitsLt_bf16_f32⟩]
      concatenates_S256x256_S256x256_S256x256_S256x256_S256x1024_d1) vals (constant S256x256 .f32 0x00000000#32)

def inv (p0 p1 p2 p3 : M) : M :=
  broadcastTo S256x256 (divf (broadcast S256x1 (Scalar.ofBits (F := Ideal) .f32 0x3F800000#32))
    (shapeCast S256x1 (multiReduction .add [1] S256 (addf (addf p0 p1) (addf p2 p3)) 0x00000000#32
      reduces_S256x256_S256 (.inl rfl) rfl) shapeCasts_S256_S256x1)) broadcasts_S256x1_S256x256

def fromScores (hh : ℕ) (s0 s1 s2 s3 : M) (vals : FVec Ideal S1024x256 .bf16) (prev : M) : M :=
  select (lanes hh)
    (mulf (pv (ex s0 (rowMax s0 s1 s2 s3)) (ex s1 (rowMax s0 s1 s2 s3)) (ex s2 (rowMax s0 s1 s2 s3)) (ex s3 (rowMax s0 s1 s2 s3)) vals)
      (inv (ex s0 (rowMax s0 s1 s2 s3)) (ex s1 (rowMax s0 s1 s2 s3)) (ex s2 (rowMax s0 s1 s2 s3)) (ex s3 (rowMax s0 s1 s2 s3)))) prev

def head (hh : ℕ) (q4 k0 k1 k2 k3 : B) (vals : FVec Ideal S1024x256 .bf16) (t0 t1 t2 : Vec Ideal S1x1x256x256 .f32) (prev : M) : M :=
  fromScores hh (scT (qh hh q4) k0 t0) (scT (qh hh q4) k1 t1) (scT (qh hh q4) k2 t2) (sc (qh hh q4) k3) vals prev

theorem lanes_at : ∀ (hh : Fin 4) (d : Fin 256), inHead hh.val (ix2 (0 : Fin 1) d) = if d.val / 64 = hh.val then 1#1 else 0#1 := by
  decide +kernel

theorem qh_at (hh : Fin 4) (q4 : B) (r d : Fin 256) : qh hh.val q4 (ix2 r d) = if d.val / 64 = hh.val then q4 (ix2 r d) else 0 := by
  have h := lanes_at hh d
  unfold qh lanes
  pointwise []
  rw [h]
  by_cases hc : d.val / 64 = hh.val
  · rw [if_pos hc, if_pos hc]; rfl
  · rw [if_neg hc, if_neg hc]
    rfl

theorem sc_at (q k : B) (r n : Fin 256) : sc q k (ix2 r n) = ∑ d : Fin 256, q (ix2 r d) * k (ix2 n d) := by
  unfold sc
  pointwise []

theorem sc_head (hh : Fin 4) (q4 k : B) (r n : Fin 256) :
    sc (qh hh.val q4) k (ix2 r n)
      = ∑ e : Fin 64, q4 (ix2 r (⟨64 * hh.val + e.val, by omega⟩ : Fin 256)) * k (ix2 n (⟨64 * hh.val + e.val, by omega⟩ : Fin 256)) := by
  rw [sc_at]
  refine (Fintype.sum_of_injective (fun e : Fin 64 => (⟨64 * hh.val + e.val, by omega⟩ : Fin 256)) ?_ _ _ ?_ ?_).symm
  · intro a b h; have := Fin.mk.inj h; exact Fin.ext (by omega)
  · intro d hd
    rw [qh_at, if_neg, zero_mul]
    intro hc
    exact hd ⟨⟨d.val - 64 * hh.val, by omega⟩, Fin.ext (by show 64 * hh.val + (d.val - 64 * hh.val) = d.val; omega)⟩
  · intro e
    rw [qh_at, if_pos]
    show (64 * hh.val + e.val) / 64 = hh.val; omega

theorem ofBits_bot : Ideal.ofBits FTy.f32 4286578688#32 = ⊥ := by
  simp only [Ideal.ofBits]
  unfold Ideal.ieee
  rw [if_pos (by decide), if_pos (by decide), if_pos (by decide)]

theorem rowMax_at (s0 s1 s2 s3 : M) (r : Fin 256) :
    rowMax s0 s1 s2 s3 (ix2 r (0 : Fin 1)) = Finset.univ.sup fun i : Fin 4 × Fin 256 => (![s0, s1, s2, s3] i.1) (ix2 r i.2) := by
  unfold rowMax
  pointwise []
  rw [show Ideal.ofBits FTy.f32 4286578688#32 = ⊥ from ofBits_bot]
  refine le_antisymm ?_ ?_
  · refine (Finset.sup_le (f := fun x : Fin 256 => max (max (s0 (ix2 r x)) (s1 (ix2 r x))) (max (s2 (ix2 r x)) (s3 (ix2 r x)))) fun n _ => ?_)
    have h : ∀ j : Fin 4, (![s0, s1, s2, s3] j) (ix2 r n) ≤ Finset.univ.sup fun i : Fin 4 × Fin 256 => (![s0, s1, s2, s3] i.1) (ix2 r i.2) :=
      fun j => Finset.le_sup (f := fun i : Fin 4 × Fin 256 => (![s0, s1, s2, s3] i.1) (ix2 r i.2)) (Finset.mem_univ (j, n))
    exact max_le (max_le (h 0) (h 1)) (max_le (h 2) (h 3))
  · refine Finset.sup_le fun i _ => ?_
    refine le_trans ?_ (Finset.le_sup (f := fun x : Fin 256 => max (max (s0 (ix2 r x)) (s1 (ix2 r x))) (max (s2 (ix2 r x)) (s3 (ix2 r x))))
      (Finset.mem_univ i.2))
    obtain ⟨j, n⟩ := i
    fin_cases j
    · exact (le_max_left _ _).trans (le_max_left _ _)
    · exact (le_max_right _ _).trans (le_max_left _ _)
    · exact (le_max_left _ _).trans (le_max_right _ _)
    · exact (le_max_right _ _).trans (le_max_right _ _)

theorem pv_at (p0 p1 p2 p3 : M) (vals : FVec Ideal S1024x256 .bf16) (r d : Fin 256) :
    pv p0 p1 p2 p3 vals (ix2 r d)
      = ∑ i : Fin 4 × Fin 256, (![p0, p1, p2, p3] i.1) (ix2 r i.2) * vals (ix2 (⟨256 * i.1.val + i.2.val, by omega⟩ : Fin 1024) d) := by
  unfold pv
  pointwise []
  refine (Fintype.sum_equiv (finProdFinEquiv (m := 4) (n := 256)) _ _ fun i => ?_).symm
  obtain ⟨j, n⟩ := i
  have hv : (finProdFinEquiv (m := 4) (n := 256) (j, n)).val = n.val + 256 * j.val := rfl
  have he : (⟨256 * j.val + n.val, by omega⟩ : Fin 1024) = finProdFinEquiv (m := 4) (n := 256) (j, n) := Fin.ext (by show 256 * j.val + n.val = _; rw [hv, Nat.add_comm])
  show _ * vals (ix2 (⟨256 * j.val + n.val, _⟩ : Fin 1024) d) = _
  rw [he]
  congr 1
  have hn := n.isLt
  fin_cases j
  · rw [dif_pos (by rw [hv]; simp <;> omega)]
    exact congrArg (fun z => p0 (ix2 r z)) (Fin.ext (by show n.val = _ ; rw [hv]; simp <;> omega))
  · rw [dif_neg (by rw [hv]; simp <;> omega), dif_pos (by rw [hv]; simp <;> omega)]
    exact congrArg (fun z => p1 (ix2 r z)) (Fin.ext (by show n.val = _ - 256; rw [hv]; simp <;> omega))
  · rw [dif_neg (by rw [hv]; simp <;> omega), dif_neg (by rw [hv]; simp <;> omega), dif_pos (by rw [hv]; simp <;> omega)]
    exact congrArg (fun z => p2 (ix2 r z)) (Fin.ext (by show n.val = _ - 256 - 256; rw [hv]; simp <;> omega))
  · rw [dif_neg (by rw [hv]; simp <;> omega), dif_neg (by rw [hv]; simp <;> omega), dif_neg (by rw [hv]; simp <;> omega)]
    exact congrArg (fun z => p3 (ix2 r z)) (Fin.ext (by show n.val = _ - 256 - 256 - 256; rw [hv]; simp <;> omega))

theorem inv_at (p0 p1 p2 p3 : M) (r d : Fin 256) :
    inv p0 p1 p2 p3 (ix2 r d) = Ideal.div 1 (∑ i : Fin 4 × Fin 256, (![p0, p1, p2, p3] i.1) (ix2 r i.2)) := by
  unfold inv
  pointwise []
  congr 1
  rw [Fintype.sum_prod_type, Fin.sum_univ_four]
  simp only [Finset.sum_add_distrib, add_assoc]
  rfl

/-- The scores of a head at row `r`: key `i.2` of block `i.1`. -/
def S (hh : Fin 4) (q4 k0 k1 k2 k3 : B) (t0 t1 t2 : Vec Ideal S1x1x256x256 .f32) (r : Fin 256) (i : Fin 4 × Fin 256) : EReal :=
  (∑ e : Fin 64, q4 (ix2 r (⟨64 * hh.val + e.val, by omega⟩ : Fin 256))
      * (![k0, k1, k2, k3] i.1) (ix2 i.2 (⟨64 * hh.val + e.val, by omega⟩ : Fin 256)))
    + (![t0 (ix4 (0 : Fin 1) (0 : Fin 1) r i.2), t1 (ix4 (0 : Fin 1) (0 : Fin 1) r i.2), t2 (ix4 (0 : Fin 1) (0 : Fin 1) r i.2), 0] i.1)

theorem scT_at (hh : Fin 4) (q4 k : B) (t : Vec Ideal S1x1x256x256 .f32) (r n : Fin 256) :
    scT (qh hh.val q4) k t (ix2 r n) = sc (qh hh.val q4) k (ix2 r n) + t (ix4 (0 : Fin 1) (0 : Fin 1) r n) := by
  unfold scT
  generalize sc (qh hh.val q4) k = s
  pointwise []

theorem S_eq (hh : Fin 4) (q4 k0 k1 k2 k3 : B) (t0 t1 t2 : Vec Ideal S1x1x256x256 .f32) (r : Fin 256) (i : Fin 4 × Fin 256) :
    (![scT (qh hh.val q4) k0 t0, scT (qh hh.val q4) k1 t1, scT (qh hh.val q4) k2 t2, sc (qh hh.val q4) k3] i.1) (ix2 r i.2)
      = S hh q4 k0 k1 k2 k3 t0 t1 t2 r i := by
  obtain ⟨j, n⟩ := i
  unfold S
  fin_cases j
  · exact (scT_at hh q4 k0 t0 r n).trans (by rw [sc_head]; rfl)
  · exact (scT_at hh q4 k1 t1 r n).trans (by rw [sc_head]; rfl)
  · exact (scT_at hh q4 k2 t2 r n).trans (by rw [sc_head]; rfl)
  · exact (sc_head hh q4 k3 r n).trans (add_zero _).symm

theorem ex_at (s : M) (m : FVec Ideal S256x1 .f32) (r n : Fin 256) :
    ex s m (ix2 r n) = Ideal.exp2 (s (ix2 r n) - m (ix2 r (0 : Fin 1))) := by
  unfold ex
  pointwise []
  rfl

/-- One head's columns at row `r`. -/
theorem head_at (hh : Fin 4) (q4 k0 k1 k2 k3 : B) (vals : FVec Ideal S1024x256 .bf16) (t0 t1 t2 : Vec Ideal S1x1x256x256 .f32) (prev : M)
    (r d : Fin 256) :
    head hh.val q4 k0 k1 k2 k3 vals t0 t1 t2 prev (ix2 r d)
      = if d.val / 64 = hh.val then
          (∑ i, Ideal.exp2 (S hh q4 k0 k1 k2 k3 t0 t1 t2 r i - Finset.univ.sup (S hh q4 k0 k1 k2 k3 t0 t1 t2 r))
              * vals (ix2 (⟨256 * i.1.val + i.2.val, by omega⟩ : Fin 1024) d))
            * Ideal.div 1 (∑ i, Ideal.exp2 (S hh q4 k0 k1 k2 k3 t0 t1 t2 r i - Finset.univ.sup (S hh q4 k0 k1 k2 k3 t0 t1 t2 r)))
        else prev (ix2 r d) := by
  have hS := S_eq hh q4 k0 k1 k2 k3 t0 t1 t2 r
  unfold head
  generalize scT (qh hh.val q4) k0 t0 = s0 at hS ⊢
  generalize scT (qh hh.val q4) k1 t1 = s1 at hS ⊢
  generalize scT (qh hh.val q4) k2 t2 = s2 at hS ⊢
  generalize sc (qh hh.val q4) k3 = s3 at hS ⊢
  generalize S hh q4 k0 k1 k2 k3 t0 t1 t2 r = s at hS ⊢
  have hm : rowMax s0 s1 s2 s3 (ix2 r (0 : Fin 1)) = Finset.univ.sup s := by
    rw [rowMax_at]; exact congrArg _ (funext hS)
  unfold fromScores
  generalize rowMax s0 s1 s2 s3 = mx at hm ⊢
  have he : ∀ i : Fin 4 × Fin 256, (![ex s0 mx, ex s1 mx, ex s2 mx, ex s3 mx] i.1) (ix2 r i.2) = Ideal.exp2 (s i - Finset.univ.sup s) := fun i => by
    rw [← hS i, ← hm]
    obtain ⟨j, n⟩ := i
    fin_cases j <;> exact ex_at _ _ _ _
  have hp := pv_at (ex s0 mx) (ex s1 mx) (ex s2 mx) (ex s3 mx) vals r d
  have hi := inv_at (ex s0 mx) (ex s1 mx) (ex s2 mx) (ex s3 mx) r d
  simp only [he] at hp hi
  generalize pv (ex s0 mx) (ex s1 mx) (ex s2 mx) (ex s3 mx) vals = u at hp ⊢
  generalize inv (ex s0 mx) (ex s1 mx) (ex s2 mx) (ex s3 mx) = w at hi ⊢
  rw [← hp, ← hi]
  have h := lanes_at hh d
  unfold lanes
  pointwise []
  rw [h]
  by_cases hc : d.val / 64 = hh.val
  · rw [if_pos hc, if_pos hc]; rfl
  · rw [if_neg hc, if_neg hc]; rfl

/-- The four heads of a group. -/
def grp (q4 k0 k1 k2 k3 : B) (vals : FVec Ideal S1024x256 .bf16) (t : Fin 4 → Fin 3 → Vec Ideal S1x1x256x256 .f32) : M :=
  head 3 q4 k0 k1 k2 k3 vals (t 3 0) (t 3 1) (t 3 2) <| head 2 q4 k0 k1 k2 k3 vals (t 2 0) (t 2 1) (t 2 2) <|
    head 1 q4 k0 k1 k2 k3 vals (t 1 0) (t 1 1) (t 1 2) <| head 0 q4 k0 k1 k2 k3 vals (t 0 0) (t 0 1) (t 0 2)
      (broadcast S256x256 (Scalar.ofBits (F := Ideal) .f32 0x00000000#32))

theorem grp_at (q4 k0 k1 k2 k3 : B) (vals : FVec Ideal S1024x256 .bf16) (t : Fin 4 → Fin 3 → Vec Ideal S1x1x256x256 .f32)
    (r d : Fin 256) (hh : Fin 4) (hd : d.val / 64 = hh.val) :
    grp q4 k0 k1 k2 k3 vals t (ix2 r d)
      = (∑ i, Ideal.exp2 (S hh q4 k0 k1 k2 k3 (t hh 0) (t hh 1) (t hh 2) r i - Finset.univ.sup (S hh q4 k0 k1 k2 k3 (t hh 0) (t hh 1) (t hh 2) r))
              * vals (ix2 (⟨256 * i.1.val + i.2.val, by omega⟩ : Fin 1024) d))
            * Ideal.div 1 (∑ i, Ideal.exp2 (S hh q4 k0 k1 k2 k3 (t hh 0) (t hh 1) (t hh 2) r i
                - Finset.univ.sup (S hh q4 k0 k1 k2 k3 (t hh 0) (t hh 1) (t hh 2) r))) := by
  unfold grp
  have h3 := fun p => head_at 3 q4 k0 k1 k2 k3 vals (t 3 0) (t 3 1) (t 3 2) p r d
  have h2 := fun p => head_at 2 q4 k0 k1 k2 k3 vals (t 2 0) (t 2 1) (t 2 2) p r d
  have h1 := fun p => head_at 1 q4 k0 k1 k2 k3 vals (t 1 0) (t 1 1) (t 1 2) p r d
  have h0 := fun p => head_at 0 q4 k0 k1 k2 k3 vals (t 0 0) (t 0 1) (t 0 2) p r d
  refine (h3 _).trans ?_
  fin_cases hh
  · rw [if_neg (by rw [hd]; decide)]; refine (h2 _).trans ?_
    rw [if_neg (by rw [hd]; decide)]; refine (h1 _).trans ?_
    rw [if_neg (by rw [hd]; decide)]; refine (h0 _).trans ?_
    rw [if_pos (by rw [hd]; rfl)]; rfl
  · rw [if_neg (by rw [hd]; decide)]; refine (h2 _).trans ?_
    rw [if_neg (by rw [hd]; decide)]; refine (h1 _).trans ?_
    rw [if_pos (by rw [hd]; rfl)]; rfl
  · rw [if_neg (by rw [hd]; decide)]; refine (h2 _).trans ?_
    rw [if_pos (by rw [hd]; rfl)]; rfl
  · rw [if_pos (by rw [hd]; rfl)]; rfl

end Cert.KernelIdeal.Pay
-- ==== Proof.AttnOut.lean ====
module

public import proofs.«01_k».proof.Proof.Gen.KernelIdeal.Frame
public import proofs.«01_k».proof.Proof.AttnPay
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Out

open Cert.KernelIdeal Cert.KernelIdeal.Gen Cert.KernelIdeal.Pay Idealize.ShloMosaic Idealize.ShloMosaic.TcCoe Idealize.SL.Sem
open Idealize.ShloMosaic.Pipeline (Dat)
open Cert.Attn

variable (V : (c : Dev nD) → (b : Ref sig .tc) → Buf (Elt Ideal) ((c : Thread nD τ).loc b))

/-- The scale the queries carry, `log2(e)/8`. -/
def qs : EReal := Named.named (F := Ideal) (φ := .f32) κ "qscale" 0x3E38AA3B#32

/-- The key (or value) row `i` of a query block `b`: blocks `b-1`, `b`, `b+1` (held inside the picture) and the context. -/
def Key (K : Fin 16384 → Fin 512 → EReal) (Kx : Fin 256 → Fin 512 → EReal) (b : Fin 64) (i : Fin 4 × Fin 256) (d : Fin 512) : EReal :=
  if i.1.val < 3 then K ⟨256 * min 63 (b.val + i.1.val - 1) + i.2.val, by omega⟩ d else Kx i.2 d

/-- The bias table's kind for a query block: the first block, an inner one, the last. -/
def kind (b : Fin 64) : Fin 3 := if b.val = 0 then 0 else if b.val = 63 then 2 else 1

def Tb (TT : Fin 3 → Fin 8 → Fin 256 → Fin 768 → EReal) (b : Fin 64) (r : Fin 256) (h : Fin 8) (i : Fin 4 × Fin 256) : EReal :=
  if hj : i.1.val < 3 then TT (kind b) h r ⟨256 * i.1.val + i.2.val, by omega⟩ else 0

def Sc (Q K : Fin 16384 → Fin 512 → EReal) (Kx : Fin 256 → Fin 512 → EReal) (TT : Fin 3 → Fin 8 → Fin 256 → Fin 768 → EReal)
    (b : Fin 64) (r : Fin 256) (h : Fin 8) (i : Fin 4 × Fin 256) : EReal :=
  (∑ e : Fin 64, (Q ⟨256 * b.val + r.val, by omega⟩ ⟨64 * h.val + e.val, by omega⟩ * qs) * Key K Kx b i ⟨64 * h.val + e.val, by omega⟩)
    + Tb TT b r h i

def att (Q K W : Fin 16384 → Fin 512 → EReal) (Kx Wx : Fin 256 → Fin 512 → EReal) (TT : Fin 3 → Fin 8 → Fin 256 → Fin 768 → EReal)
    (b : Fin 64) (r : Fin 256) (d : Fin 512) : EReal :=
  (∑ i, Ideal.exp2 (Sc Q K Kx TT b r ⟨d.val / 64, by omega⟩ i - Finset.univ.sup (Sc Q K Kx TT b r ⟨d.val / 64, by omega⟩)) * Key W Wx b i d)
    * Ideal.div 1 (∑ i, Ideal.exp2 (Sc Q K Kx TT b r ⟨d.val / 64, by omega⟩ i - Finset.univ.sup (Sc Q K Kx TT b r ⟨d.val / 64, by omega⟩)))

theorem q_at (q : Vec Ideal S256x256 .f32) (r d : Fin 256) : k1_pay2 (F := Ideal) q (ix2 r d) = q (ix2 r d) * qs := by
  pointwise [k1_pay2, qs]

theorem k_at (k : Vec Ideal S256x256 .bf16) (r d : Fin 256) : k1_pay3 (F := Ideal) k (ix2 r d) = k (ix2 r d) := by
  pointwise [k1_pay3]

theorem v_at (v0 v1 v2 v3 : Vec Ideal S256x256 .bf16) (i : Fin 4 × Fin 256) (d : Fin 256) :
    k1_pay7 (F := Ideal) v0 v1 v2 v3 (ix2 (⟨256 * i.1.val + i.2.val, by omega⟩ : Fin 1024) d) = ![v0, v1, v2, v3] i.1 (ix2 i.2 d) := by
  obtain ⟨j, n⟩ := i
  obtain ⟨n, hn⟩ := n
  fin_cases j <;> pointwise [k1_pay7] <;> split_ifs <;> first | omega | rfl | (congr 2; exact Fin.ext (by dsimp only; omega))

/-- What the kernel stores for one query block and one group of four heads. -/
def st (q : Vec Ideal S256x256 .f32) (k0 k1 k2 k3 v0 v1 v2 v3 : Vec Ideal S256x256 .bf16) (t : Fin 4 → Fin 3 → Vec Ideal S1x1x256x256 .f32) :
    FVec Ideal S256x256 .bf16 :=
  shapeCast S256x256 (truncf .bf16 (grp (k1_pay2 q) (k1_pay3 k0) (k1_pay3 k1) (k1_pay3 k2) (k1_pay3 k3) (k1_pay7 v0 v1 v2 v3) t) bitsLt_bf16_f32)
    shapeCasts_S256x256_S256x256

theorem st_at (Q K W : Fin 16384 → Fin 512 → EReal) (Kx Wx : Fin 256 → Fin 512 → EReal) (TT : Fin 3 → Fin 8 → Fin 256 → Fin 768 → EReal)
    (b : Fin 64) (g : Fin 2)
    (q : Vec Ideal S256x256 .f32) (k0 k1 k2 k3 v0 v1 v2 v3 : Vec Ideal S256x256 .bf16) (t : Fin 4 → Fin 3 → Vec Ideal S1x1x256x256 .f32)
    (r d : Fin 256)
    (hq : ∀ e : Fin 256, q (ix2 r e) = Q ⟨256 * b.val + r.val, by omega⟩ ⟨256 * g.val + e.val, by omega⟩)
    (hk : ∀ (i : Fin 4 × Fin 256) (e : Fin 256), ![k0, k1, k2, k3] i.1 (ix2 i.2 e) = Key K Kx b i ⟨256 * g.val + e.val, by omega⟩)
    (hv : ∀ (i : Fin 4 × Fin 256) (e : Fin 256), ![v0, v1, v2, v3] i.1 (ix2 i.2 e) = Key W Wx b i ⟨256 * g.val + e.val, by omega⟩)
    (ht : ∀ (hh : Fin 4) (j : Fin 3) (n : Fin 256), t hh j (ix4 (0 : Fin 1) (0 : Fin 1) r n) = TT (kind b) ⟨4 * g.val + hh.val, by omega⟩ r ⟨256 * j.val + n.val, by omega⟩) :
    st q k0 k1 k2 k3 v0 v1 v2 v3 t (ix2 r d) = att Q K W Kx Wx TT b r ⟨256 * g.val + d.val, by omega⟩ := by
  have e1 : st q k0 k1 k2 k3 v0 v1 v2 v3 t (ix2 r d)
      = grp (k1_pay2 q) (k1_pay3 k0) (k1_pay3 k1) (k1_pay3 k2) (k1_pay3 k3) (k1_pay7 v0 v1 v2 v3) t (ix2 r d) := by
    unfold st
    generalize grp _ _ _ _ _ _ _ = x
    pointwise []
  have hS : S ⟨d.val / 64, by omega⟩ (k1_pay2 q) (k1_pay3 k0) (k1_pay3 k1) (k1_pay3 k2) (k1_pay3 k3)
        (t ⟨d.val / 64, by omega⟩ 0) (t ⟨d.val / 64, by omega⟩ 1) (t ⟨d.val / 64, by omega⟩ 2) r
      = Sc Q K Kx TT b r ⟨(256 * g.val + d.val) / 64, by omega⟩ := by
    funext i
    unfold S Sc
    congr 1
    · refine Finset.sum_congr rfl fun e _ => ?_
      rw [q_at, hq]
      have hc : (⟨256 * g.val + (64 * (d.val / 64) + e.val), by omega⟩ : Fin 512) = ⟨64 * ((256 * g.val + d.val) / 64) + e.val, by omega⟩ :=
        Fin.ext (by show 256 * g.val + (64 * (d.val / 64) + e.val) = 64 * ((256 * g.val + d.val) / 64) + e.val; omega)
      rw [← hc]
      refine congrArg _ (Eq.trans ?_ (hk i ⟨64 * (d.val / 64) + e.val, by omega⟩))
      obtain ⟨j, n⟩ := i
      fin_cases j
      · exact k_at k0 _ _
      · exact k_at k1 _ _
      · exact k_at k2 _ _
      · exact k_at k3 _ _
    · have hc : (⟨4 * g.val + d.val / 64, by omega⟩ : Fin 8) = ⟨(256 * g.val + d.val) / 64, by omega⟩ :=
        Fin.ext (by show 4 * g.val + d.val / 64 = (256 * g.val + d.val) / 64; omega)
      obtain ⟨j, n⟩ := i
      unfold Tb
      rw [← hc]
      fin_cases j
      · exact (ht _ 0 n)
      · exact (ht _ 1 n)
      · exact (ht _ 2 n)
      · rfl
  rw [e1, grp_at _ _ _ _ _ _ _ r d ⟨d.val / 64, by omega⟩ rfl, hS]
  unfold att
  refine congrArg (· * _) (Finset.sum_congr rfl fun i _ => ?_)
  rw [v_at, hv]

theorem pay1_at (x : Vec Ideal S512x1024 .f32) (md : Vec Ideal S1x1x1x1024 .f32) (mx : Vec Ideal S512x1024 .bf16) (wo : Vec Ideal S1024x1024 .bf16)
    (G : Fin 1024 → EReal) (r : Fin 512) (d : Fin 1024) (hG : ∀ k, mx (ix2 r k) = G k) :
    k1_pay1 (F := Ideal) x (k1_pay210 md) mx wo (ix2 r d)
      = x (ix2 r d) + md (ix4 (0 : Fin 1) (0 : Fin 1) (0 : Fin 1) d) * ∑ k, G k * wo (ix2 k d) := by
  simp only [← hG]
  pointwise [k1_pay1, k1_pay210]

theorem idx : ∀ t : Fin cfg1.N, win1_0.index t = ![t.val, 0] ∧ win1_1.index t = ![t.val, 0] ∧ win1_2.index t = ![2 * t.val - 1, 0]
    ∧ win1_3.index t = ![t.val, 0] ∧ win1_4.index t = ![min 63 (2 * t.val + 2), 0] ∧ win1_5.index t = ![2 * t.val - 1, 0]
    ∧ win1_6.index t = ![t.val, 0] ∧ win1_7.index t = ![min 63 (2 * t.val + 2), 0] ∧ win1_8.index t = ![0, 0] ∧ win1_9.index t = ![0, 0]
    ∧ win1_10.index t = ![if t.val = 0 then 0 else 1, 0, 0, 0] ∧ win1_11.index t = ![if t.val = 31 then 2 else 1, 0, 0, 0]
    ∧ win1_12.index t = ![t.val, 0] ∧ win1_13.index t = ![0, 0] ∧ win1_14.index t = ![0, 0, 0, 0] ∧ win1_15.index t = ![t.val, 0] :=
  (by decide +kernel : ∀ t : Fin grid1.N, _)

theorem key_of (K : Fin 16384 → Fin 512 → EReal) (Kx : Fin 256 → Fin 512 → EReal) (b : Fin 64) (g : Fin 2) (k0 k1 k2 k3 : Vec Ideal S256x256 .bf16)
    (h0 : ∀ n e : Fin 256, k0 (ix2 n e) = K ⟨256 * min 63 (b.val - 1) + n.val, by omega⟩ ⟨256 * g.val + e.val, by omega⟩)
    (h1 : ∀ n e : Fin 256, k1 (ix2 n e) = K ⟨256 * b.val + n.val, by omega⟩ ⟨256 * g.val + e.val, by omega⟩)
    (h2 : ∀ n e : Fin 256, k2 (ix2 n e) = K ⟨256 * min 63 (b.val + 1) + n.val, by omega⟩ ⟨256 * g.val + e.val, by omega⟩)
    (h3 : ∀ n e : Fin 256, k3 (ix2 n e) = Kx n ⟨256 * g.val + e.val, by omega⟩)
    (i : Fin 4 × Fin 256) (e : Fin 256) : ![k0, k1, k2, k3] i.1 (ix2 i.2 e) = Key K Kx b i ⟨256 * g.val + e.val, by omega⟩ := by
  obtain ⟨j, n⟩ := i
  unfold Key
  fin_cases j
  · exact (h0 n e).trans rfl
  · exact (h1 n e).trans (congrArg (fun z => K z _) (Fin.ext (by show _ = 256 * min 63 (b.val + 1 - 1) + n.val; dsimp only; omega)))
  · exact (h2 n e).trans rfl
  · exact (h3 n e).trans rfl

/-- The row of the mix that meets the output matrix: the attention beside the pooled columns. -/
def mixrow (c : Dev nD) (b : Fin 64) (r : Fin 256) (k : Fin 1024) : EReal :=
  if hk : k.val < 512 then
    att (fun i d => V c main_arg1 (ix2 i d)) (fun i d => V c main_v7 (ix2 i d)) (fun i d => V c main_v8 (ix2 i d)) (fun i d => V c main_v9 (ix2 i d))
      (fun i d => V c main_v10 (ix2 i d)) (fun a h r n => V c main_v6 (ix4 a h r n)) b r ⟨k.val, hk⟩
  else V c main_v11 (ix2 (⟨256 * b.val + r.val, by omega⟩ : Fin 16384) (⟨k.val - 512, by omega⟩ : Fin 512))

set_option maxHeartbeats 4000000 in
theorem pooled_at (c : Dev nD) (t : Fin cfg1.N) (z : S512x1024.Idx) (x0 x1 : Fin 512) (h0 : (z 0).val = x0.val) (h1 : (z 1).val = 512 + x1.val) (b : Fin 64) (hb : b.val = 2 * t.val + (z 0).val / 256) :
    k1_pay209 (iblk1 V c 12 t) (ix2 x0 x1) = mixrow V c b ⟨(z 0).val % 256, by omega⟩ (z 1) := by
  unfold mixrow
  rw [dif_neg (by omega)]
  have e : ∀ f : Vec Ideal S512x512 .bf16, k1_pay209 (F := Ideal) f (ix2 x0 x1) = f (ix2 x0 x1) := fun f => by pointwise [k1_pay209]
  rw [e]
  have hz := (z 1).isLt
  blk_point [iblk1, idx t]

end Cert.KernelIdeal.Out
-- ==== Proof.AttnMix.lean ====
module

public import proofs.«01_k».proof.Proof.AttnOut
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Out

open Cert.KernelIdeal Cert.KernelIdeal.Gen Cert.KernelIdeal.Pay Idealize.ShloMosaic Idealize.ShloMosaic.TcCoe Idealize.SL.Sem
open Idealize.ShloMosaic.Pipeline (Dat)
open Cert.Attn

variable (V : (c : Dev nD) → (b : Ref sig .tc) → Buf (Elt Ideal) ((c : Thread nD τ).loc b))

set_option maxHeartbeats 4000000 in
/-- The stored piece of query block 0 of the step, heads 0 to 3. -/
theorem piece00 (c : Dev nD) (t : Fin cfg1.N) (b : Fin 64) (hb : b.val = 2 * t.val + 0) (r d : Fin 256) :
    st (View.ld (iblk1 V c 1 t) (Rect.unit (s := S512x512) ![0, 0] S256x256.size inb_S512x512_S256x256_0_0))
      (View.ld (iblk1 V c 2 t) (Rect.unit (s := S256x512) ![0, 0] S256x256.size inb_S256x512_S256x256_0_0))
      (View.ld (iblk1 V c 3 t) (Rect.unit (s := S512x512) ![0, 0] S256x256.size inb_S512x512_S256x256_0_0))
      (View.ld (iblk1 V c 3 t) (Rect.unit (s := S512x512) ![256, 0] S256x256.size inb_S512x512_S256x256_256_0))
      (View.ld (iblk1 V c 8 t) (Rect.unit (s := S256x512) ![0, 0] S256x256.size inb_S256x512_S256x256_0_0))
      (View.ld (iblk1 V c 5 t) (Rect.unit (s := S256x512) ![0, 0] S256x256.size inb_S256x512_S256x256_0_0))
      (View.ld (iblk1 V c 6 t) (Rect.unit (s := S512x512) ![0, 0] S256x256.size inb_S512x512_S256x256_0_0))
      (View.ld (iblk1 V c 6 t) (Rect.unit (s := S512x512) ![256, 0] S256x256.size inb_S512x512_S256x256_256_0))
      (View.ld (iblk1 V c 9 t) (Rect.unit (s := S256x512) ![0, 0] S256x256.size inb_S256x512_S256x256_0_0))
      (![![View.ld (iblk1 V c 10 t) (Rect.unit (s := S1x8x256x768) ![0, 0, 0, 0] S1x1x256x256.size inb_S1x8x256x768_S1x1x256x256_0_0_0_0), View.ld (iblk1 V c 10 t) (Rect.unit (s := S1x8x256x768) ![0, 0, 0, 256] S1x1x256x256.size inb_S1x8x256x768_S1x1x256x256_0_0_0_256), View.ld (iblk1 V c 10 t) (Rect.unit (s := S1x8x256x768) ![0, 0, 0, 512] S1x1x256x256.size inb_S1x8x256x768_S1x1x256x256_0_0_0_512)], ![View.ld (iblk1 V c 10 t) (Rect.unit (s := S1x8x256x768) ![0, 1, 0, 0] S1x1x256x256.size inb_S1x8x256x768_S1x1x256x256_0_1_0_0), View.ld (iblk1 V c 10 t) (Rect.unit (s := S1x8x256x768) ![0, 1, 0, 256] S1x1x256x256.size inb_S1x8x256x768_S1x1x256x256_0_1_0_256), View.ld (iblk1 V c 10 t) (Rect.unit (s := S1x8x256x768) ![0, 1, 0, 512] S1x1x256x256.size inb_S1x8x256x768_S1x1x256x256_0_1_0_512)], ![View.ld (iblk1 V c 10 t) (Rect.unit (s := S1x8x256x768) ![0, 2, 0, 0] S1x1x256x256.size inb_S1x8x256x768_S1x1x256x256_0_2_0_0), View.ld (iblk1 V c 10 t) (Rect.unit (s := S1x8x256x768) ![0, 2, 0, 256] S1x1x256x256.size inb_S1x8x256x768_S1x1x256x256_0_2_0_256), View.ld (iblk1 V c 10 t) (Rect.unit (s := S1x8x256x768) ![0, 2, 0, 512] S1x1x256x256.size inb_S1x8x256x768_S1x1x256x256_0_2_0_512)], ![View.ld (iblk1 V c 10 t) (Rect.unit (s := S1x8x256x768) ![0, 3, 0, 0] S1x1x256x256.size inb_S1x8x256x768_S1x1x256x256_0_3_0_0), View.ld (iblk1 V c 10 t) (Rect.unit (s := S1x8x256x768) ![0, 3, 0, 256] S1x1x256x256.size inb_S1x8x256x768_S1x1x256x256_0_3_0_256), View.ld (iblk1 V c 10 t) (Rect.unit (s := S1x8x256x768) ![0, 3, 0, 512] S1x1x256x256.size inb_S1x8x256x768_S1x1x256x256_0_3_0_512)]]) (ix2 r d)
      = att (fun i d => V c main_arg1 (ix2 i d)) (fun i d => V c main_v7 (ix2 i d)) (fun i d => V c main_v8 (ix2 i d)) (fun i d => V c main_v9 (ix2 i d))
      (fun i d => V c main_v10 (ix2 i d)) (fun a h r n => V c main_v6 (ix4 a h r n)) b r ⟨0 + d.val, by omega⟩ := by
  have ht := t.isLt
  have hN : cfg1.N = 32 := rfl
  have hk : (kind b).val = if t.val = 0 then 0 else 1 := by
    unfold kind; split_ifs <;> first | rfl | omega
  refine (st_at (fun i d => V c main_arg1 (ix2 i d)) (fun i d => V c main_v7 (ix2 i d)) (fun i d => V c main_v8 (ix2 i d)) (fun i d => V c main_v9 (ix2 i d))
      (fun i d => V c main_v10 (ix2 i d)) (fun a h r n => V c main_v6 (ix4 a h r n)) b 0 _ _ _ _ _ _ _ _ _ _ r d
    (fun e => ?_) (key_of _ _ b 0 _ _ _ _ (fun n e => ?_) (fun n e => ?_) (fun n e => ?_) (fun n e => ?_))
    (key_of _ _ b 0 _ _ _ _ (fun n e => ?_) (fun n e => ?_) (fun n e => ?_) (fun n e => ?_)) (fun hh j n => ?_)).trans ?_
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · fin_cases hh <;> fin_cases j <;> (show View.ld _ _ _ = V c main_v6 (ix4 _ _ _ _)) <;> pointwise [] <;> blk_point [iblk1, idx t]
  · rfl

set_option maxHeartbeats 4000000 in
/-- The stored piece of query block 0 of the step, heads 4 to 7. -/
theorem piece01 (c : Dev nD) (t : Fin cfg1.N) (b : Fin 64) (hb : b.val = 2 * t.val + 0) (r d : Fin 256) :
    st (View.ld (iblk1 V c 1 t) (Rect.unit (s := S512x512) ![0, 256] S256x256.size inb_S512x512_S256x256_0_256))
      (View.ld (iblk1 V c 2 t) (Rect.unit (s := S256x512) ![0, 256] S256x256.size inb_S256x512_S256x256_0_256))
      (View.ld (iblk1 V c 3 t) (Rect.unit (s := S512x512) ![0, 256] S256x256.size inb_S512x512_S256x256_0_256))
      (View.ld (iblk1 V c 3 t) (Rect.unit (s := S512x512) ![256, 256] S256x256.size inb_S512x512_S256x256_256_256))
      (View.ld (iblk1 V c 8 t) (Rect.unit (s := S256x512) ![0, 256] S256x256.size inb_S256x512_S256x256_0_256))
      (View.ld (iblk1 V c 5 t) (Rect.unit (s := S256x512) ![0, 256] S256x256.size inb_S256x512_S256x256_0_256))
      (View.ld (iblk1 V c 6 t) (Rect.unit (s := S512x512) ![0, 256] S256x256.size inb_S512x512_S256x256_0_256))
      (View.ld (iblk1 V c 6 t) (Rect.unit (s := S512x512) ![256, 256] S256x256.size inb_S512x512_S256x256_256_256))
      (View.ld (iblk1 V c 9 t) (Rect.unit (s := S256x512) ![0, 256] S256x256.size inb_S256x512_S256x256_0_256))
      (![![View.ld (iblk1 V c 10 t) (Rect.unit (s := S1x8x256x768) ![0, 4, 0, 0] S1x1x256x256.size inb_S1x8x256x768_S1x1x256x256_0_4_0_0), View.ld (iblk1 V c 10 t) (Rect.unit (s := S1x8x256x768) ![0, 4, 0, 256] S1x1x256x256.size inb_S1x8x256x768_S1x1x256x256_0_4_0_256), View.ld (iblk1 V c 10 t) (Rect.unit (s := S1x8x256x768) ![0, 4, 0, 512] S1x1x256x256.size inb_S1x8x256x768_S1x1x256x256_0_4_0_512)], ![View.ld (iblk1 V c 10 t) (Rect.unit (s := S1x8x256x768) ![0, 5, 0, 0] S1x1x256x256.size inb_S1x8x256x768_S1x1x256x256_0_5_0_0), View.ld (iblk1 V c 10 t) (Rect.unit (s := S1x8x256x768) ![0, 5, 0, 256] S1x1x256x256.size inb_S1x8x256x768_S1x1x256x256_0_5_0_256), View.ld (iblk1 V c 10 t) (Rect.unit (s := S1x8x256x768) ![0, 5, 0, 512] S1x1x256x256.size inb_S1x8x256x768_S1x1x256x256_0_5_0_512)], ![View.ld (iblk1 V c 10 t) (Rect.unit (s := S1x8x256x768) ![0, 6, 0, 0] S1x1x256x256.size inb_S1x8x256x768_S1x1x256x256_0_6_0_0), View.ld (iblk1 V c 10 t) (Rect.unit (s := S1x8x256x768) ![0, 6, 0, 256] S1x1x256x256.size inb_S1x8x256x768_S1x1x256x256_0_6_0_256), View.ld (iblk1 V c 10 t) (Rect.unit (s := S1x8x256x768) ![0, 6, 0, 512] S1x1x256x256.size inb_S1x8x256x768_S1x1x256x256_0_6_0_512)], ![View.ld (iblk1 V c 10 t) (Rect.unit (s := S1x8x256x768) ![0, 7, 0, 0] S1x1x256x256.size inb_S1x8x256x768_S1x1x256x256_0_7_0_0), View.ld (iblk1 V c 10 t) (Rect.unit (s := S1x8x256x768) ![0, 7, 0, 256] S1x1x256x256.size inb_S1x8x256x768_S1x1x256x256_0_7_0_256), View.ld (iblk1 V c 10 t) (Rect.unit (s := S1x8x256x768) ![0, 7, 0, 512] S1x1x256x256.size inb_S1x8x256x768_S1x1x256x256_0_7_0_512)]]) (ix2 r d)
      = att (fun i d => V c main_arg1 (ix2 i d)) (fun i d => V c main_v7 (ix2 i d)) (fun i d => V c main_v8 (ix2 i d)) (fun i d => V c main_v9 (ix2 i d))
      (fun i d => V c main_v10 (ix2 i d)) (fun a h r n => V c main_v6 (ix4 a h r n)) b r ⟨256 + d.val, by omega⟩ := by
  have ht := t.isLt
  have hN : cfg1.N = 32 := rfl
  have hk : (kind b).val = if t.val = 0 then 0 else 1 := by
    unfold kind; split_ifs <;> first | rfl | omega
  refine (st_at (fun i d => V c main_arg1 (ix2 i d)) (fun i d => V c main_v7 (ix2 i d)) (fun i d => V c main_v8 (ix2 i d)) (fun i d => V c main_v9 (ix2 i d))
      (fun i d => V c main_v10 (ix2 i d)) (fun a h r n => V c main_v6 (ix4 a h r n)) b 1 _ _ _ _ _ _ _ _ _ _ r d
    (fun e => ?_) (key_of _ _ b 1 _ _ _ _ (fun n e => ?_) (fun n e => ?_) (fun n e => ?_) (fun n e => ?_))
    (key_of _ _ b 1 _ _ _ _ (fun n e => ?_) (fun n e => ?_) (fun n e => ?_) (fun n e => ?_)) (fun hh j n => ?_)).trans ?_
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · fin_cases hh <;> fin_cases j <;> (show View.ld _ _ _ = V c main_v6 (ix4 _ _ _ _)) <;> pointwise [] <;> blk_point [iblk1, idx t]
  · rfl

set_option maxHeartbeats 4000000 in
/-- The stored piece of query block 1 of the step, heads 0 to 3. -/
theorem piece10 (c : Dev nD) (t : Fin cfg1.N) (b : Fin 64) (hb : b.val = 2 * t.val + 1) (r d : Fin 256) :
    st (View.ld (iblk1 V c 1 t) (Rect.unit (s := S512x512) ![256, 0] S256x256.size inb_S512x512_S256x256_256_0))
      (View.ld (iblk1 V c 3 t) (Rect.unit (s := S512x512) ![0, 0] S256x256.size inb_S512x512_S256x256_0_0))
      (View.ld (iblk1 V c 3 t) (Rect.unit (s := S512x512) ![256, 0] S256x256.size inb_S512x512_S256x256_256_0))
      (View.ld (iblk1 V c 4 t) (Rect.unit (s := S256x512) ![0, 0] S256x256.size inb_S256x512_S256x256_0_0))
      (View.ld (iblk1 V c 8 t) (Rect.unit (s := S256x512) ![0, 0] S256x256.size inb_S256x512_S256x256_0_0))
      (View.ld (iblk1 V c 6 t) (Rect.unit (s := S512x512) ![0, 0] S256x256.size inb_S512x512_S256x256_0_0))
      (View.ld (iblk1 V c 6 t) (Rect.unit (s := S512x512) ![256, 0] S256x256.size inb_S512x512_S256x256_256_0))
      (View.ld (iblk1 V c 7 t) (Rect.unit (s := S256x512) ![0, 0] S256x256.size inb_S256x512_S256x256_0_0))
      (View.ld (iblk1 V c 9 t) (Rect.unit (s := S256x512) ![0, 0] S256x256.size inb_S256x512_S256x256_0_0))
      (![![View.ld (iblk1 V c 11 t) (Rect.unit (s := S1x8x256x768) ![0, 0, 0, 0] S1x1x256x256.size inb_S1x8x256x768_S1x1x256x256_0_0_0_0), View.ld (iblk1 V c 11 t) (Rect.unit (s := S1x8x256x768) ![0, 0, 0, 256] S1x1x256x256.size inb_S1x8x256x768_S1x1x256x256_0_0_0_256), View.ld (iblk1 V c 11 t) (Rect.unit (s := S1x8x256x768) ![0, 0, 0, 512] S1x1x256x256.size inb_S1x8x256x768_S1x1x256x256_0_0_0_512)], ![View.ld (iblk1 V c 11 t) (Rect.unit (s := S1x8x256x768) ![0, 1, 0, 0] S1x1x256x256.size inb_S1x8x256x768_S1x1x256x256_0_1_0_0), View.ld (iblk1 V c 11 t) (Rect.unit (s := S1x8x256x768) ![0, 1, 0, 256] S1x1x256x256.size inb_S1x8x256x768_S1x1x256x256_0_1_0_256), View.ld (iblk1 V c 11 t) (Rect.unit (s := S1x8x256x768) ![0, 1, 0, 512] S1x1x256x256.size inb_S1x8x256x768_S1x1x256x256_0_1_0_512)], ![View.ld (iblk1 V c 11 t) (Rect.unit (s := S1x8x256x768) ![0, 2, 0, 0] S1x1x256x256.size inb_S1x8x256x768_S1x1x256x256_0_2_0_0), View.ld (iblk1 V c 11 t) (Rect.unit (s := S1x8x256x768) ![0, 2, 0, 256] S1x1x256x256.size inb_S1x8x256x768_S1x1x256x256_0_2_0_256), View.ld (iblk1 V c 11 t) (Rect.unit (s := S1x8x256x768) ![0, 2, 0, 512] S1x1x256x256.size inb_S1x8x256x768_S1x1x256x256_0_2_0_512)], ![View.ld (iblk1 V c 11 t) (Rect.unit (s := S1x8x256x768) ![0, 3, 0, 0] S1x1x256x256.size inb_S1x8x256x768_S1x1x256x256_0_3_0_0), View.ld (iblk1 V c 11 t) (Rect.unit (s := S1x8x256x768) ![0, 3, 0, 256] S1x1x256x256.size inb_S1x8x256x768_S1x1x256x256_0_3_0_256), View.ld (iblk1 V c 11 t) (Rect.unit (s := S1x8x256x768) ![0, 3, 0, 512] S1x1x256x256.size inb_S1x8x256x768_S1x1x256x256_0_3_0_512)]]) (ix2 r d)
      = att (fun i d => V c main_arg1 (ix2 i d)) (fun i d => V c main_v7 (ix2 i d)) (fun i d => V c main_v8 (ix2 i d)) (fun i d => V c main_v9 (ix2 i d))
      (fun i d => V c main_v10 (ix2 i d)) (fun a h r n => V c main_v6 (ix4 a h r n)) b r ⟨0 + d.val, by omega⟩ := by
  have ht := t.isLt
  have hN : cfg1.N = 32 := rfl
  have hk : (kind b).val = if t.val = 31 then 2 else 1 := by
    unfold kind; split_ifs <;> first | rfl | omega
  refine (st_at (fun i d => V c main_arg1 (ix2 i d)) (fun i d => V c main_v7 (ix2 i d)) (fun i d => V c main_v8 (ix2 i d)) (fun i d => V c main_v9 (ix2 i d))
      (fun i d => V c main_v10 (ix2 i d)) (fun a h r n => V c main_v6 (ix4 a h r n)) b 0 _ _ _ _ _ _ _ _ _ _ r d
    (fun e => ?_) (key_of _ _ b 0 _ _ _ _ (fun n e => ?_) (fun n e => ?_) (fun n e => ?_) (fun n e => ?_))
    (key_of _ _ b 0 _ _ _ _ (fun n e => ?_) (fun n e => ?_) (fun n e => ?_) (fun n e => ?_)) (fun hh j n => ?_)).trans ?_
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · fin_cases hh <;> fin_cases j <;> (show View.ld _ _ _ = V c main_v6 (ix4 _ _ _ _)) <;> pointwise [] <;> blk_point [iblk1, idx t]
  · rfl

set_option maxHeartbeats 4000000 in
/-- The stored piece of query block 1 of the step, heads 4 to 7. -/
theorem piece11 (c : Dev nD) (t : Fin cfg1.N) (b : Fin 64) (hb : b.val = 2 * t.val + 1) (r d : Fin 256) :
    st (View.ld (iblk1 V c 1 t) (Rect.unit (s := S512x512) ![256, 256] S256x256.size inb_S512x512_S256x256_256_256))
      (View.ld (iblk1 V c 3 t) (Rect.unit (s := S512x512) ![0, 256] S256x256.size inb_S512x512_S256x256_0_256))
      (View.ld (iblk1 V c 3 t) (Rect.unit (s := S512x512) ![256, 256] S256x256.size inb_S512x512_S256x256_256_256))
      (View.ld (iblk1 V c 4 t) (Rect.unit (s := S256x512) ![0, 256] S256x256.size inb_S256x512_S256x256_0_256))
      (View.ld (iblk1 V c 8 t) (Rect.unit (s := S256x512) ![0, 256] S256x256.size inb_S256x512_S256x256_0_256))
      (View.ld (iblk1 V c 6 t) (Rect.unit (s := S512x512) ![0, 256] S256x256.size inb_S512x512_S256x256_0_256))
      (View.ld (iblk1 V c 6 t) (Rect.unit (s := S512x512) ![256, 256] S256x256.size inb_S512x512_S256x256_256_256))
      (View.ld (iblk1 V c 7 t) (Rect.unit (s := S256x512) ![0, 256] S256x256.size inb_S256x512_S256x256_0_256))
      (View.ld (iblk1 V c 9 t) (Rect.unit (s := S256x512) ![0, 256] S256x256.size inb_S256x512_S256x256_0_256))
      (![![View.ld (iblk1 V c 11 t) (Rect.unit (s := S1x8x256x768) ![0, 4, 0, 0] S1x1x256x256.size inb_S1x8x256x768_S1x1x256x256_0_4_0_0), View.ld (iblk1 V c 11 t) (Rect.unit (s := S1x8x256x768) ![0, 4, 0, 256] S1x1x256x256.size inb_S1x8x256x768_S1x1x256x256_0_4_0_256), View.ld (iblk1 V c 11 t) (Rect.unit (s := S1x8x256x768) ![0, 4, 0, 512] S1x1x256x256.size inb_S1x8x256x768_S1x1x256x256_0_4_0_512)], ![View.ld (iblk1 V c 11 t) (Rect.unit (s := S1x8x256x768) ![0, 5, 0, 0] S1x1x256x256.size inb_S1x8x256x768_S1x1x256x256_0_5_0_0), View.ld (iblk1 V c 11 t) (Rect.unit (s := S1x8x256x768) ![0, 5, 0, 256] S1x1x256x256.size inb_S1x8x256x768_S1x1x256x256_0_5_0_256), View.ld (iblk1 V c 11 t) (Rect.unit (s := S1x8x256x768) ![0, 5, 0, 512] S1x1x256x256.size inb_S1x8x256x768_S1x1x256x256_0_5_0_512)], ![View.ld (iblk1 V c 11 t) (Rect.unit (s := S1x8x256x768) ![0, 6, 0, 0] S1x1x256x256.size inb_S1x8x256x768_S1x1x256x256_0_6_0_0), View.ld (iblk1 V c 11 t) (Rect.unit (s := S1x8x256x768) ![0, 6, 0, 256] S1x1x256x256.size inb_S1x8x256x768_S1x1x256x256_0_6_0_256), View.ld (iblk1 V c 11 t) (Rect.unit (s := S1x8x256x768) ![0, 6, 0, 512] S1x1x256x256.size inb_S1x8x256x768_S1x1x256x256_0_6_0_512)], ![View.ld (iblk1 V c 11 t) (Rect.unit (s := S1x8x256x768) ![0, 7, 0, 0] S1x1x256x256.size inb_S1x8x256x768_S1x1x256x256_0_7_0_0), View.ld (iblk1 V c 11 t) (Rect.unit (s := S1x8x256x768) ![0, 7, 0, 256] S1x1x256x256.size inb_S1x8x256x768_S1x1x256x256_0_7_0_256), View.ld (iblk1 V c 11 t) (Rect.unit (s := S1x8x256x768) ![0, 7, 0, 512] S1x1x256x256.size inb_S1x8x256x768_S1x1x256x256_0_7_0_512)]]) (ix2 r d)
      = att (fun i d => V c main_arg1 (ix2 i d)) (fun i d => V c main_v7 (ix2 i d)) (fun i d => V c main_v8 (ix2 i d)) (fun i d => V c main_v9 (ix2 i d))
      (fun i d => V c main_v10 (ix2 i d)) (fun a h r n => V c main_v6 (ix4 a h r n)) b r ⟨256 + d.val, by omega⟩ := by
  have ht := t.isLt
  have hN : cfg1.N = 32 := rfl
  have hk : (kind b).val = if t.val = 31 then 2 else 1 := by
    unfold kind; split_ifs <;> first | rfl | omega
  refine (st_at (fun i d => V c main_arg1 (ix2 i d)) (fun i d => V c main_v7 (ix2 i d)) (fun i d => V c main_v8 (ix2 i d)) (fun i d => V c main_v9 (ix2 i d))
      (fun i d => V c main_v10 (ix2 i d)) (fun a h r n => V c main_v6 (ix4 a h r n)) b 1 _ _ _ _ _ _ _ _ _ _ r d
    (fun e => ?_) (key_of _ _ b 1 _ _ _ _ (fun n e => ?_) (fun n e => ?_) (fun n e => ?_) (fun n e => ?_))
    (key_of _ _ b 1 _ _ _ _ (fun n e => ?_) (fun n e => ?_) (fun n e => ?_) (fun n e => ?_)) (fun hh j n => ?_)).trans ?_
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · beta_reduce; pointwise []; blk_point [iblk1, idx t]
  · fin_cases hh <;> fin_cases j <;> (show View.ld _ _ _ = V c main_v6 (ix4 _ _ _ _)) <;> pointwise [] <;> blk_point [iblk1, idx t]
  · rfl

end Cert.KernelIdeal.Out
-- ==== Proof.AttnEnd.lean ====
module

public import proofs.«01_k».proof.Proof.AttnMix
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Out

open Cert.KernelIdeal Cert.KernelIdeal.Gen Cert.KernelIdeal.Pay Idealize.ShloMosaic Idealize.ShloMosaic.TcCoe Idealize.SL.Sem
open Idealize.ShloMosaic.Pipeline (Dat)
open Cert.Attn

variable (V : (c : Dev nD) → (b : Ref sig .tc) → Buf (Elt Ideal) ((c : Thread nD τ).loc b))

theorem cover5 (w0 : _) (w1 w2 w3 w4 : _) (z : S512x1024.Idx) :
    ∃ p ∈ ([⟨Rect.unit (s := S512x1024) ![0, 512] S512x512.size inb_S512x1024_S512x512_0_512, w0⟩,
      ⟨Rect.unit (s := S512x1024) ![256, 256] S256x256.size inb_S512x1024_S256x256_256_256, w1⟩,
      ⟨Rect.unit (s := S512x1024) ![256, 0] S256x256.size inb_S512x1024_S256x256_256_0, w2⟩,
      ⟨Rect.unit (s := S512x1024) ![0, 256] S256x256.size inb_S512x1024_S256x256_0_256, w3⟩,
      ⟨Rect.unit (s := S512x1024) ![0, 0] S256x256.size inb_S512x1024_S256x256_0_0, w4⟩] : List (View.Piece (Elt Ideal) S512x1024 .bf16)), z ∈ p.1.set := by
  have hz0 : (z 0).val < 512 := (z 0).isLt
  have hz1 : (z 1).val < 1024 := (z 1).isLt
  by_cases h : 512 ≤ (z 1).val
  · refine ⟨_, .head _, (Rect.mem_set_unit (inb := inb_S512x1024_S512x512_0_512)).mpr fun a => ?_⟩
    fin_cases a
    · exact ⟨by show 0 ≤ (z 0).val; omega, by show (z 0).val < 0 + 512; omega⟩
    · exact ⟨by show 512 ≤ (z 1).val; omega, by show (z 1).val < 512 + 512; omega⟩
  by_cases h0 : 256 ≤ (z 0).val <;> by_cases h1 : 256 ≤ (z 1).val
  · refine ⟨_, .tail _ (.head _), (Rect.mem_set_unit (inb := inb_S512x1024_S256x256_256_256)).mpr fun a => ?_⟩
    fin_cases a
    · exact ⟨by show 256 ≤ (z 0).val; omega, by show (z 0).val < 256 + 256; omega⟩
    · exact ⟨by show 256 ≤ (z 1).val; omega, by show (z 1).val < 256 + 256; omega⟩
  · refine ⟨_, .tail _ (.tail _ (.head _)), (Rect.mem_set_unit (inb := inb_S512x1024_S256x256_256_0)).mpr fun a => ?_⟩
    fin_cases a
    · exact ⟨by show 256 ≤ (z 0).val; omega, by show (z 0).val < 256 + 256; omega⟩
    · exact ⟨by show 0 ≤ (z 1).val; omega, by show (z 1).val < 0 + 256; omega⟩
  · refine ⟨_, .tail _ (.tail _ (.tail _ (.head _))), (Rect.mem_set_unit (inb := inb_S512x1024_S256x256_0_256)).mpr fun a => ?_⟩
    fin_cases a
    · exact ⟨by show 0 ≤ (z 0).val; omega, by show (z 0).val < 0 + 256; omega⟩
    · exact ⟨by show 256 ≤ (z 1).val; omega, by show (z 1).val < 256 + 256; omega⟩
  · refine ⟨_, .tail _ (.tail _ (.tail _ (.tail _ (.head _)))), (Rect.mem_set_unit (inb := inb_S512x1024_S256x256_0_0)).mpr fun a => ?_⟩
    fin_cases a
    · exact ⟨by show 0 ≤ (z 0).val; omega, by show (z 0).val < 0 + 256; omega⟩
    · exact ⟨by show 0 ≤ (z 1).val; omega, by show (z 1).val < 0 + 256; omega⟩

/-- The gate row of the modulation table. -/
def gate (c : Dev nD) (d : Fin 1024) : EReal := V c main_arg9 (ix4 (0 : Fin 2) (0 : Fin 2) (5 : Fin 9) d)

def xin (c : Dev nD) (i : Fin 16384) (d : Fin 1024) : EReal := V c main_arg0 (ix2 i d)
def wo (c : Dev nD) (k d : Fin 1024) : EReal := V c main_v12 (ix2 k d)

set_option pp.deepTerms false in
set_option pp.deepTerms.threshold 2 in
set_option pp.maxSteps 300 in
set_option maxHeartbeats 8000000 in
/-- One entry of the block the step writes. -/
theorem out_at (c : Dev nD) (t : Fin cfg1.N) (r : Fin 512) (d : Fin 1024) (b : Fin 64) (hb : b.val = 2 * t.val + r.val / 256) :
    outsAt1 V c t (ix2 r d)
      = xin V c ⟨256 * b.val + r.val % 256, by omega⟩ d
        + gate V c d
          * ∑ k : Fin 1024, mixrow V c b ⟨r.val % 256, by omega⟩ k * wo V c k d := by
  have ht := t.isLt
  have hN : cfg1.N = 32 := rfl
  unfold outsAt1; frame_out
  rw [View.readCov_eq_canon']
  refine (pay1_at _ _ _ _ (fun k => mixrow V c b ⟨r.val % 256, by omega⟩ k) r d (fun k => ?_)).trans ?_
  · show View.canon _ _ = _
    obtain ⟨z, hz⟩ : ∃ z : S512x1024.Idx, z = (Rect.unit (s := S512x1024) ![0, 0] S512x1024.size inb_S512x1024_S512x1024_0_0).toLoadRect.idx (ix2 r k) := ⟨_, rfl⟩
    have hz0 : (z 0).val = r.val := by rw [hz]; show 0 + 1 * r.val = r.val; omega
    have hz1 : (z 1).val = k.val := by rw [hz]; show 0 + 1 * k.val = k.val; omega
    rw [← hz]
    clear hz
    canon_tiles x h using cover5 _ _ _ _ _ z
    all_goals idx_vars x
    case piece0 =>
      refine (pooled_at V c t z x0 x1 h0 h1 b (by omega)).trans ?_
      exact congrArg₂ (mixrow V c b) (Fin.ext (by show (z 0).val % 256 = r.val % 256; omega)) (Fin.ext hz1)
    case piece1 =>
      refine Eq.trans (congrFun ?_ _) ((piece11 V c t b (by omega) x0 x1).trans ?_)
      · dsimp only [k1_pay2, k1_pay3, k1_pay4, k1_pay5, k1_pay6, k1_pay7,
          k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201, k1_pay202, k1_pay203, k1_pay204, k1_pay205, k1_pay206, k1_pay207, k1_pay208,
          st, grp, head, fromScores, Pay.inv, pv, ex, rowMax, scT, sc, qh, lanes, inHead, Nat.reduceMul, Nat.reduceAdd]
        rfl
      unfold mixrow
      rw [dif_pos (by omega)]
      exact congrArg₂ (att _ _ _ _ _ _ b) (Fin.ext (by show x0.val = r.val % 256; omega)) (Fin.ext (by show 256 + x1.val = k.val; omega))
    case piece2 =>
      refine Eq.trans (congrFun ?_ _) ((piece10 V c t b (by omega) x0 x1).trans ?_)
      · dsimp only [k1_pay2, k1_pay3, k1_pay4, k1_pay5, k1_pay6, k1_pay7,
          k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156,
          st, grp, head, fromScores, Pay.inv, pv, ex, rowMax, scT, sc, qh, lanes, inHead, Nat.reduceMul, Nat.reduceAdd]
        rfl
      unfold mixrow
      rw [dif_pos (by omega)]
      exact congrArg₂ (att _ _ _ _ _ _ b) (Fin.ext (by show x0.val = r.val % 256; omega)) (Fin.ext (by show 0 + x1.val = k.val; omega))
    case piece3 =>
      refine Eq.trans (congrFun ?_ _) ((piece01 V c t b (by omega) x0 x1).trans ?_)
      · dsimp only [k1_pay2, k1_pay3, k1_pay4, k1_pay5, k1_pay6, k1_pay7,
          k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110,
          st, grp, head, fromScores, Pay.inv, pv, ex, rowMax, scT, sc, qh, lanes, inHead, Nat.reduceMul, Nat.reduceAdd]
        rfl
      unfold mixrow
      rw [dif_pos (by omega)]
      exact congrArg₂ (att _ _ _ _ _ _ b) (Fin.ext (by show x0.val = r.val % 256; omega)) (Fin.ext (by show 256 + x1.val = k.val; omega))
    case piece4 =>
      refine Eq.trans (congrFun ?_ _) ((piece00 V c t b (by omega) x0 x1).trans ?_)
      · dsimp only [k1_pay2, k1_pay3, k1_pay4, k1_pay5, k1_pay6, k1_pay7,
          k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58,
          st, grp, head, fromScores, Pay.inv, pv, ex, rowMax, scT, sc, qh, lanes, inHead, Nat.reduceMul, Nat.reduceAdd]
        rfl
      unfold mixrow
      rw [dif_pos (by omega)]
      exact congrArg₂ (att _ _ _ _ _ _ b) (Fin.ext (by show x0.val = r.val % 256; omega)) (Fin.ext (by show 0 + x1.val = k.val; omega))
  · generalize mixrow V c b _ = G
    have e0 : iblk1 V c 0 t (ix2 r d) = V c main_arg0 (ix2 (⟨256 * b.val + r.val % 256, by omega⟩ : Fin 16384) d) := by blk_point [iblk1, idx t]
    have e1 : View.ld (iblk1 V c 14 t) (Rect.unit (s := S1x1x9x1024) ![0, 0, 5, 0] S1x1x1x1024.size inb_S1x1x9x1024_S1x1x1x1024_0_0_5_0) (ix4 (0 : Fin 1) (0 : Fin 1) (0 : Fin 1) d)
        = V c main_arg9 (ix4 (0 : Fin 2) (0 : Fin 2) (5 : Fin 9) d) := by pointwise []; blk_point [iblk1, idx t]
    have e2 : ∀ k : Fin 1024, iblk1 V c 13 t (ix2 k d) = V c main_v12 (ix2 k d) := fun k => by blk_point [iblk1, idx t]
    rw [e0, e1]; unfold gate xin wo
    simp only [e2]

/-- The region's output at row `i`, column `d`. -/
def res (c : Dev nD) (i : Fin 16384) (d : Fin 1024) : EReal :=
  xin V c i d + gate V c d
          * ∑ k : Fin 1024, mixrow V c ⟨i.val / 256, by omega⟩ ⟨i.val % 256, by omega⟩ k * wo V c k d

theorem out_res (c : Dev nD) (t : Fin cfg1.N) (y : S512x1024.Idx) (i : Fin 16384) (hi : i.val = 512 * t.val + (y 0).val) :
    outsAt1 V c t y = res V c i (y 1) := by
  have ht := t.isLt
  have hN : cfg1.N = 32 := rfl
  idx_vars y
  rw [out_at V c t y0 y1 ⟨2 * t.val + y0.val / 256, by omega⟩ rfl]
  have hi' : i.val = 512 * t.val + y0.val := hi
  unfold res
  have a1 : (⟨256 * (2 * t.val + y0.val / 256) + y0.val % 256, by omega⟩ : Fin 16384) = i := Fin.ext (by dsimp only; omega)
  have a2 : (⟨2 * t.val + y0.val / 256, by omega⟩ : Fin 64) = ⟨i.val / 256, by omega⟩ := Fin.ext (by dsimp only; omega)
  have a3 : (⟨y0.val % 256, by omega⟩ : Fin 256) = ⟨i.val % 256, by omega⟩ := Fin.ext (by dsimp only; omega)
  rw [a1, a2, a3]

theorem arr_out (c : Dev nD) : (dat1 V c).arrAt 15 cfg1.N = fun i : S16384x1024.Idx => res V c (i 0) (i 1) := by
  refine (dat1 V c).arrAt_eq_of_covers 15 _ (by decide +kernel) fun t hf y => ?_
  have h7 := (idx t).2.2.2.2.2.2.2.2.2.2.2.2.2.2.2
  have e1 : (win1_15.blk t).view.emb y 1 = y 1 := Fin.ext (by blk_simp [h7])
  have e0 : ((win1_15.blk t).view.emb y 0).val = 512 * t.val + (y 0).val := by (blk_simp [h7]; omega)
  have key : outsAt1 V c t y = res V c ((win1_15.blk t).view.emb y 0) (y 1) := out_res V c t y _ e0
  blk_simp
  rw [after1_15]
  rw [key]
  exact congrArg _ e1.symm

end Cert.KernelIdeal.Out
-- ==== Proof.AttnRun.lean ====
module

public import proofs.«01_k».proof.Proof.AttnArr
public import proofs.«01_k».proof.Proof.AttnEnd

/-!
# What the kernel leaves: its result as one expression in the argument arrays
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Out Cert.KernelIdeal.Arr

variable (m : (ℓ : Loc nD τ sig) → Buf (Elt Ideal) ℓ) (ρ : Dev nD → PrngReg)

/-- Entry `(i, d)` of argument `n`. -/
def a0 (c : Dev nD) (i : Fin 16384) (d : Fin 1024) : EReal := m ((c.tc : Thread nD τ).loc main_arg0) (ix2 i d)
def a1 (c : Dev nD) (i : Fin 16384) (d : Fin 512) : EReal := m ((c.tc : Thread nD τ).loc main_arg1) (ix2 i d)
def a2 (c : Dev nD) (i : Fin 16384) (d : Fin 512) : EReal := m ((c.tc : Thread nD τ).loc main_arg2) (ix2 i d)
def a3 (c : Dev nD) (i : Fin 16384) (d : Fin 512) : EReal := m ((c.tc : Thread nD τ).loc main_arg3) (ix2 i d)
def a4 (c : Dev nD) (i : Fin 256) (d : Fin 512) : EReal := m ((c.tc : Thread nD τ).loc main_arg4) (ix2 i d)
def a5 (c : Dev nD) (i : Fin 256) (d : Fin 512) : EReal := m ((c.tc : Thread nD τ).loc main_arg5) (ix2 i d)
def a7 (c : Dev nD) (i : Fin 16384) (d : Fin 512) : EReal := m ((c.tc : Thread nD τ).loc main_arg7) (ix2 i d)
def a8 (c : Dev nD) (i : Fin 1024) (d : Fin 1024) : EReal := m ((c.tc : Thread nD τ).loc main_arg8) (ix2 i d)
def a9 (c : Dev nD) (d : Fin 1024) : EReal := m ((c.tc : Thread nD τ).loc main_arg9) (ix4 (0 : Fin 2) (0 : Fin 2) (5 : Fin 9) d)

/-- Lane `k` of row `(b, r)` of the array the last product reads: attention, then the pooled half. -/
def mixv (c : Dev nD) (b : Fin 64) (r : Fin 256) (k : Fin 1024) : EReal :=
  if hk : (k : ℕ) < 512 then
    att (a1 m c) (a2 m c) (a3 m c) (a4 m c) (a5 m c) (tabV m c) b r ⟨k, hk⟩
  else a7 m c ⟨256 * (b : ℕ) + (r : ℕ), by omega⟩ ⟨(k : ℕ) - 512, by omega⟩

/-- The kernel's result at row `i`, lane `d`. -/
def outv (c : Dev nD) (i : Fin 16384) (d : Fin 1024) : EReal :=
  a0 m c i d + a9 m c d * ∑ k : Fin 1024, mixv m c ⟨(i : ℕ) / 256, by omega⟩ ⟨(i : ℕ) % 256, by omega⟩ k * a8 m c k d

theorem mix_eq (c : Dev nD) (b : Fin 64) (r : Fin 256) (k : Fin 1024) : mixrow (V3 m ρ) c b r k = mixv m c b r k := by
  unfold mixrow mixv a1 a2 a3 a4 a5 a7
  simp only [v_7 m ρ, v_8 m ρ, v_9 m ρ, v_10 m ρ, v_11 m ρ, table m ρ]
  simp only [v_arg1 m ρ]

theorem res_eq (c : Dev nD) (i : Fin 16384) (d : Fin 1024) : res (V3 m ρ) c i d = outv m c i d := by
  unfold res outv
  have h0 : ∀ (i : Fin 16384) (d : Fin 1024), xin (V3 m ρ) c i d = a0 m c i d := fun i d => congrFun (v_arg0 m ρ c) (ix2 i d)
  have h9 : ∀ d : Fin 1024, gate (V3 m ρ) c d = a9 m c d :=
    fun d => congrFun (v_arg9 m ρ c) (ix4 (0 : Fin 2) (0 : Fin 2) (5 : Fin 9) d)
  have h8 : ∀ k d : Fin 1024, wo (V3 m ρ) c k d = a8 m c k d := fun k d => v_12 m ρ c k d
  rw [h0, h9]
  simp only [h8, mix_eq m ρ]

theorem out_eq (c : Dev nD) :
    (dat1 (V3 m ρ) c).arrAt 15 cfg1.N = (fun i => outv m c (i 0) (i 1) : S16384x1024.Idx → EReal) := by
  rw [arr_out]
  funext i
  exact res_eq m ρ c (i 0) (i 1)

/-- The kernel's run: the result array holds `outv`, the arguments are unchanged. -/
theorem run_out : θ_run (defs (F := Ideal)) (onTc (τ := τ) (main (F := Ideal))) ⟨m, fun _ => 0, ρ⟩ (fun r => ∀ c : Dev nD,
      r.2.mem ((c.tc : Thread nD τ).loc main_v13) = (fun i => outv m c (i 0) (i 1) : S16384x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => (fun c =>
      ⟨((h c _ (mem_uc main_v13 (by decide))).trans (W4_arr m ρ c 15)).trans (out_eq m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩))

end Cert.KernelIdeal.Gen

end
-- ==== Proof.AttnRef.lean ====
module

public import proofs.«01_k».proof.Proof.Gen.ReferenceIdeal.Run
public import proofs.«01_k».proof.Proof.AttnMath
public import Idealize.ShloMosaic.Lib.Claim

/-!
# The plain attention step, named part by part
-/

@[expose] public section

set_option maxRecDepth 16384

noncomputable section

namespace Cert.ReferenceIdeal.Ref

open Cert.ReferenceIdeal Cert.ReferenceIdeal.Gen Cert.ReferenceIdeal.Value Idealize.ShloMosaic Idealize.ShloMosaic.TcCoe Idealize.SL.Sem

/-- An array of reals with the infinities. -/
abbrev Arr (s : Shape) : Type := FVec Ideal s .f32

/-- The key rows of a query row. -/
def keyRow  : IVec S256x8 32 :=
  ((addi) ((broadcastInDim S256x8 ![0, 1] bcast_S256x1_S256x8_0_1) ((broadcastInDim S256x1 ![0] bcast_S256_S256x1_0) (minsi ((broadcastInDim S256 ![] bcast_S_S256) (id ((constantI S_ 32 248#32)))) (maxsi ((broadcastInDim S256 ![] bcast_S_S256) (id ((constantI S_ 32 0#32)))) ((subi) ((iotaInDim S256 32 0)) ((broadcastInDim S256 ![] bcast_S_S256) ((constantI S_ 32 4#32)))))))) ((broadcastInDim S256x8 ![0, 1] bcast_S1x8_S256x8_0_1) ((broadcastInDim S1x8 ![1] bcast_S8_S1x8_1) ((iotaInDim S8 32 0)))))

/-- The key rows as a gather reads them. -/
def keyIdx  : IVec S256x8x1 32 :=
  ((broadcastInDim S256x8x1 ![0, 1] bcast_S256x8_S256x8x1_0_1) ((select) ((cmpi .slt) keyRow ((broadcastInDim S256x8 ![] bcast_S_S256x8) ((constantI S_ 32 0#32)))) ((addi) keyRow ((broadcastInDim S256x8 ![] bcast_S_S256x8) ((constantI S_ 32 256#32)))) keyRow))

/-- The keys of the window rows. -/
def kWin (K : Arr S16384x512) : Arr S256x8x64x8x64 :=
  (((fun x i => Host.gather gather_S256x64x8x64_S256x8x1_S256x8x64x8x64_234_0_n_n_0_2_164864 x i)) (shapeCast _ K shapeCasts_S16384x512_S256x64x8x64) keyIdx)

/-- The values of the window rows. -/
def wWin (W : Arr S16384x512) : Arr S256x8x64x8x64 :=
  (((fun x i => Host.gather gather_S256x64x8x64_S256x8x1_S256x8x64x8x64_234_0_n_n_0_2_164864 x i)) (shapeCast _ W shapeCasts_S16384x512_S256x64x8x64) keyIdx)

/-- Whether a key column is in the window of a query column. -/
def colOk  : IVec S64x64 1 :=
  ((andi) ((cmpi .sge) ((broadcastInDim S64x64 ![0, 1] bcast_S1x64_S64x64_0_1) ((broadcastInDim S1x64 ![1] bcast_S64_S1x64_1) ((iotaInDim S64 32 0)))) ((broadcastInDim S64x64 ![0, 1] bcast_S64x1_S64x64_0_1) ((broadcastInDim S64x1 ![0] bcast_S64_S64x1_0) (minsi ((broadcastInDim S64 ![] bcast_S_S64) (id ((constantI S_ 32 48#32)))) (maxsi ((broadcastInDim S64 ![] bcast_S_S64) (id ((constantI S_ 32 0#32)))) ((subi) ((iotaInDim S64 32 0)) ((broadcastInDim S64 ![] bcast_S_S64) ((constantI S_ 32 8#32))))))))) ((cmpi .slt) ((broadcastInDim S64x64 ![0, 1] bcast_S1x64_S64x64_0_1) ((broadcastInDim S1x64 ![1] bcast_S64_S1x64_1) ((iotaInDim S64 32 0)))) ((broadcastInDim S64x64 ![0, 1] bcast_S64x1_S64x64_0_1) ((addi) ((broadcastInDim S64x1 ![0] bcast_S64_S64x1_0) (minsi ((broadcastInDim S64 ![] bcast_S_S64) (id ((constantI S_ 32 48#32)))) (maxsi ((broadcastInDim S64 ![] bcast_S_S64) (id ((constantI S_ 32 0#32)))) ((subi) ((iotaInDim S64 32 0)) ((broadcastInDim S64 ![] bcast_S_S64) ((constantI S_ 32 8#32))))))) ((broadcastInDim S64x1 ![] bcast_S_S64x1) ((constantI S_ 32 16#32)))))))

/-- The row of the bias table for a query row and a window row. -/
def biasRow  : IVec S256x1x8x1 32 :=
  ((select) ((cmpi .slt) ((broadcastInDim S256x1x8x1 ![0, 2] bcast_S256x8_S256x1x8x1_0_2) ((addi) ((subi) keyRow ((broadcastInDim S256x8 ![0, 1] bcast_S256x1_S256x8_0_1) ((broadcastInDim S256x1 ![0] bcast_S256_S256x1_0) ((iotaInDim S256 32 0))))) ((broadcastInDim S256x8 ![] bcast_S_S256x8) ((constantI S_ 32 7#32))))) ((broadcastInDim S256x1x8x1 ![] bcast_S_S256x1x8x1) ((constantI S_ 32 0#32)))) ((addi) ((broadcastInDim S256x1x8x1 ![0, 2] bcast_S256x8_S256x1x8x1_0_2) ((addi) ((subi) keyRow ((broadcastInDim S256x8 ![0, 1] bcast_S256x1_S256x8_0_1) ((broadcastInDim S256x1 ![0] bcast_S256_S256x1_0) ((iotaInDim S256 32 0))))) ((broadcastInDim S256x8 ![] bcast_S_S256x8) ((constantI S_ 32 7#32))))) ((broadcastInDim S256x1x8x1 ![] bcast_S_S256x1x8x1) ((constantI S_ 32 15#32)))) ((broadcastInDim S256x1x8x1 ![0, 2] bcast_S256x8_S256x1x8x1_0_2) ((addi) ((subi) keyRow ((broadcastInDim S256x8 ![0, 1] bcast_S256x1_S256x8_0_1) ((broadcastInDim S256x1 ![0] bcast_S256_S256x1_0) ((iotaInDim S256 32 0))))) ((broadcastInDim S256x8 ![] bcast_S_S256x8) ((constantI S_ 32 7#32))))))

/-- The column of the bias table for a query column and a key column. -/
def biasCol  : IVec S1x64x1x64 32 :=
  ((select) ((cmpi .slt) ((broadcastInDim S1x64x1x64 ![1, 3] bcast_S64x64_S1x64x1x64_1_3) (minsi ((broadcastInDim S64x64 ![] bcast_S_S64x64) (id ((constantI S_ 32 30#32)))) (maxsi ((broadcastInDim S64x64 ![] bcast_S_S64x64) (id ((constantI S_ 32 0#32)))) ((addi) ((subi) ((broadcastInDim S64x64 ![0, 1] bcast_S1x64_S64x64_0_1) ((broadcastInDim S1x64 ![1] bcast_S64_S1x64_1) ((iotaInDim S64 32 0)))) ((broadcastInDim S64x64 ![0, 1] bcast_S64x1_S64x64_0_1) ((broadcastInDim S64x1 ![0] bcast_S64_S64x1_0) ((iotaInDim S64 32 0))))) ((broadcastInDim S64x64 ![] bcast_S_S64x64) ((constantI S_ 32 15#32))))))) ((broadcastInDim S1x64x1x64 ![] bcast_S_S1x64x1x64) ((constantI S_ 32 0#32)))) ((addi) ((broadcastInDim S1x64x1x64 ![1, 3] bcast_S64x64_S1x64x1x64_1_3) (minsi ((broadcastInDim S64x64 ![] bcast_S_S64x64) (id ((constantI S_ 32 30#32)))) (maxsi ((broadcastInDim S64x64 ![] bcast_S_S64x64) (id ((constantI S_ 32 0#32)))) ((addi) ((subi) ((broadcastInDim S64x64 ![0, 1] bcast_S1x64_S64x64_0_1) ((broadcastInDim S1x64 ![1] bcast_S64_S1x64_1) ((iotaInDim S64 32 0)))) ((broadcastInDim S64x64 ![0, 1] bcast_S64x1_S64x64_0_1) ((broadcastInDim S64x1 ![0] bcast_S64_S64x1_0) ((iotaInDim S64 32 0))))) ((broadcastInDim S64x64 ![] bcast_S_S64x64) ((constantI S_ 32 15#32))))))) ((broadcastInDim S1x64x1x64 ![] bcast_S_S1x64x1x64) ((constantI S_ 32 31#32)))) ((broadcastInDim S1x64x1x64 ![1, 3] bcast_S64x64_S1x64x1x64_1_3) (minsi ((broadcastInDim S64x64 ![] bcast_S_S64x64) (id ((constantI S_ 32 30#32)))) (maxsi ((broadcastInDim S64x64 ![] bcast_S_S64x64) (id ((constantI S_ 32 0#32)))) ((addi) ((subi) ((broadcastInDim S64x64 ![0, 1] bcast_S1x64_S64x64_0_1) ((broadcastInDim S1x64 ![1] bcast_S64_S1x64_1) ((iotaInDim S64 32 0)))) ((broadcastInDim S64x64 ![0, 1] bcast_S64x1_S64x64_0_1) ((broadcastInDim S64x1 ![0] bcast_S64_S64x1_0) ((iotaInDim S64 32 0))))) ((broadcastInDim S64x64 ![] bcast_S_S64x64) ((constantI S_ 32 15#32))))))))

/-- The two as a gather reads them. -/
def biasIdx  : IVec S256x64x8x64x2 32 :=
  ((fn_main_v75 (F := Ideal)) ((broadcastInDim S256x64x8x64x1 ![0, 1, 2, 3] bcast_S256x64x8x64_S256x64x8x64x1_0_1_2_3) ((broadcastInDim S256x64x8x64 ![0, 1, 2, 3] bcast_S256x1x8x1_S256x64x8x64_0_1_2_3) biasRow)) ((broadcastInDim S256x64x8x64x1 ![0, 1, 2, 3] bcast_S256x64x8x64_S256x64x8x64x1_0_1_2_3) ((broadcastInDim S256x64x8x64 ![0, 1, 2, 3] bcast_S1x64x1x64_S256x64x8x64_0_1_2_3) biasCol)))

/-- The bias of every window score. -/
def bias (P : Arr S8x15x31) : Arr S8x256x64x8x64 :=
  (((fun x i => Host.gather gather_S8x15x31_S256x64x8x64x2_S8x256x64x8x64_0_12_n_n_12_4_811 x i)) P biasIdx)

/-- Query times window key. -/
def winDot (Q : Arr S16384x512) (K : Arr S16384x512) : Arr S8x256x64x8x64 :=
  (((fun l r => Host.dotGeneral dot_S256x64x8x64_S256x8x64x8x64_S8x256x64x8x64_3_4_1_12_20_30 none l r)) (shapeCast _ Q shapeCasts_S16384x512_S256x64x8x64) (kWin K))

/-- The masked window scores. -/
def winScore (Q : Arr S16384x512) (K : Arr S16384x512) (P : Arr S8x15x31) : Arr S8x256x64x8x64 :=
  (select ((broadcastInDim S8x256x64x8x64 ![2, 3, 4] bcast_S64x1x64_S8x256x64x8x64_2_3_4) ((broadcastInDim S64x1x64 ![0, 2] bcast_S64x64_S64x1x64_0_2) colOk)) ((addf) ((mulf) (winDot Q K) ((broadcastInDim S8x256x64x8x64 ![] bcast_S_S8x256x64x8x64) ((constant S_ .f32 0x3E000000#32)))) (bias P)) ((broadcastInDim S8x256x64x8x64 ![] bcast_S_S8x256x64x8x64) (id ((constant S_ .f32 0xFF800000#32)))))

/-- The context scores. -/
def ctxScore (Q : Arr S16384x512) (Kx : Arr S256x512) : Arr S8x256x64x256 :=
  ((mulf) (((fun l r => Host.dotGeneral dot_S256x64x8x64_S256x8x64_S8x256x64x256_3_2_01_0_2_1 none l r)) (shapeCast _ Q shapeCasts_S16384x512_S256x64x8x64) (shapeCast _ Kx shapeCasts_S256x512_S256x8x64)) ((broadcastInDim S8x256x64x256 ![] bcast_S_S8x256x64x256) ((constant S_ .f32 0x3E000000#32))))

/-- All scores of a query. -/
def scores (Q : Arr S16384x512) (K : Arr S16384x512) (Kx : Arr S256x512) (P : Arr S8x15x31) : Arr S8x256x64x768 :=
  ((fn_main_v87 (F := Ideal)) (shapeCast _ (winScore Q K P) shapeCasts_S8x256x64x8x64_S8x256x64x512) (ctxScore Q Kx))

/-- The largest score. -/
def top (Q : Arr S16384x512) (K : Arr S16384x512) (Kx : Arr S256x512) (P : Arr S8x15x31) : Arr S8x256x64 :=
  ((maximumf) ((broadcastInDim S8x256x64 ![] bcast_S_S8x256x64) ((constant S_ .f32 0xFF800000#32))) (((fun x v => Host.reduce FloatOps.maximumf x v reducesTo_S8x256x64x768_S8x256x64_d3 h_S_)) (scores Q K Kx P) ((constant S_ .f32 0xFF800000#32))))

/-- The exponentials. -/
def expo (Q : Arr S16384x512) (K : Arr S16384x512) (Kx : Arr S256x512) (P : Arr S8x15x31) : Arr S8x256x64x768 :=
  ((Host.exp) ((subf) (scores Q K Kx P) ((broadcastInDim S8x256x64x768 ![0, 1, 2, 3] bcast_S8x256x64x1_S8x256x64x768_0_1_2_3) ((broadcastInDim S8x256x64x1 ![0, 1, 2] bcast_S8x256x64_S8x256x64x1_0_1_2) (top Q K Kx P)))))

/-- Their sum. -/
def total (Q : Arr S16384x512) (K : Arr S16384x512) (Kx : Arr S256x512) (P : Arr S8x15x31) : Arr S8x256x64 :=
  (((fun x v => Host.reduceAdd x v reducesTo_S8x256x64x768_S8x256x64_d3 h_S_)) (expo Q K Kx P) ((constant S_ .f32 0x00000000#32)))

/-- The weights. -/
def prob (Q : Arr S16384x512) (K : Arr S16384x512) (Kx : Arr S256x512) (P : Arr S8x15x31) : Arr S8x256x64x768 :=
  ((Host.divf) (expo Q K Kx P) ((broadcastInDim S8x256x64x768 ![0, 1, 2, 3] bcast_S8x256x64x1_S8x256x64x768_0_1_2_3) ((broadcastInDim S8x256x64x1 ![0, 1, 2] bcast_S8x256x64_S8x256x64x1_0_1_2) (total Q K Kx P))))

/-- The window part of the mix. -/
def winOut (Q : Arr S16384x512) (K : Arr S16384x512) (W : Arr S16384x512) (Kx : Arr S256x512) (P : Arr S8x15x31) : Arr S256x64x8x64 :=
  (((transpose S256x64x8x64 [0, 3, 1, 2] · transposes_S256x8x64x64_S256x64x8x64_0_3_1_2)) (((fun l r => Host.dotGeneral dot_S256x8x64x8x64_S8x256x64x8x64_S256x8x64x64_12_34_4_2_03_10 none l r)) (wWin W) (shapeCast _ (((extractStridedSlice S8x256x64x512 ![0, 0, 0, 0] · slices_S8x256x64x768_S8x256x64x512_0_0_0_0)) (prob Q K Kx P)) shapeCasts_S8x256x64x512_S8x256x64x8x64)))

/-- The context part of the mix. -/
def ctxOut (Q : Arr S16384x512) (K : Arr S16384x512) (Kx : Arr S256x512) (Wx : Arr S256x512) (P : Arr S8x15x31) : Arr S256x64x8x64 :=
  (((transpose S256x64x8x64 [2, 3, 0, 1] · transposes_S8x64x256x64_S256x64x8x64_2_3_0_1)) (((fun l r => Host.dotGeneral dot_S256x8x64_S8x256x64x256_S8x64x256x64_0_3_2_12_1_0 none l r)) (shapeCast _ Wx shapeCasts_S256x512_S256x8x64) (((extractStridedSlice S8x256x64x256 ![0, 0, 0, 512] · slices_S8x256x64x768_S8x256x64x256_0_0_0_512)) (prob Q K Kx P))))

/-- The attention output. -/
def attn (Q : Arr S16384x512) (K : Arr S16384x512) (W : Arr S16384x512) (Kx : Arr S256x512) (Wx : Arr S256x512) (P : Arr S8x15x31) : Arr S16384x512 :=
  (shapeCast _ ((addf) (winOut Q K W Kx P) (ctxOut Q K Kx Wx P)) shapeCasts_S256x64x8x64_S16384x512)

/-- The attention output next to the pooled half. -/
def cat (Q : Arr S16384x512) (K : Arr S16384x512) (W : Arr S16384x512) (Kx : Arr S256x512) (Wx : Arr S256x512) (P : Arr S8x15x31) (G : Arr S16384x512) : Arr S16384x1024 :=
  ((fn_main_v108 (F := Ideal)) (attn Q K W Kx Wx P) G)

/-- The whole step. -/
def layer (X : Arr S16384x1024) (Q : Arr S16384x512) (K : Arr S16384x512) (W : Arr S16384x512) (Kx : Arr S256x512) (Wx : Arr S256x512) (P : Arr S8x15x31) (G : Arr S16384x512) (O : Arr S1024x1024) (M : Arr S2x2x9x1024) : Arr S16384x1024 :=
  ((addf) X ((mulf) ((broadcastInDim S16384x1024 ![0, 1] bcast_S1x1024_S16384x1024_0_1) ((broadcastInDim S1x1024 ![1] bcast_S1024_S1x1024_1) (shapeCast _ (((extractStridedSlice S1x1x1x1024 ![0, 0, 5, 0] · slices_S2x2x9x1024_S1x1x1x1024_0_0_5_0)) M) shapeCasts_S1x1x1x1024_S1024))) (((fun l r => Host.dotGeneral dot_S16384x1024_S1024x1024_S16384x1024_1_0_0_1_n_n none l r)) (cat Q K W Kx Wx P G) O)))

/-- The run's result is the whole step on the argument arrays. -/
theorem res_layer (m : (ℓ : Loc nD τ sig) → Buf (Elt Ideal) ℓ) (c : Dev nD) :
    Value.res_main_v115 (F := Ideal) m c = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  unfold Value.res_main_v115 layer cat attn ctxOut winOut prob total expo top scores ctxScore winScore winDot bias biasIdx biasCol biasRow colOk wWin kWin keyIdx keyRow
  rfl

end Cert.ReferenceIdeal.Ref

end
-- ==== Proof.AttnRead.lean ====
module

public import proofs.«01_k».proof.Proof.AttnRef

/-!
# The parts of the plain attention step, entry by entry
-/

@[expose] public section

set_option maxRecDepth 16384

noncomputable section

namespace Cert.ReferenceIdeal.Ref

open Cert.ReferenceIdeal Cert.ReferenceIdeal.Gen Cert.ReferenceIdeal.Value Idealize.ShloMosaic Idealize.ShloMosaic.TcCoe Idealize.SL.Sem

theorem keyRow_at (r : Fin 256) (k : Fin 8) : keyRow (ix2 r k) = BitVec.ofNat 32 (min 248 ((r : ℕ) - 4) + k) := by
  pointwise [keyRow]
  revert r k
  decide +kernel

theorem keyIdx_at (r : Fin 256) (k : Fin 8) : keyIdx (ix3 r k 0) = BitVec.ofNat 32 (min 248 ((r : ℕ) - 4) + k) := by
  pointwise [keyIdx]
  rw [keyRow_at]
  revert r k
  decide +kernel

theorem colOk_at (q k : Fin 64) :
    colOk (ix2 q k) = if min 48 ((q : ℕ) - 8) ≤ (k : ℕ) ∧ (k : ℕ) < min 48 ((q : ℕ) - 8) + 16 then 1#1 else 0#1 := by
  pointwise [colOk]
  revert q k
  decide +kernel

theorem biasRow_at (r : Fin 256) (k : Fin 8) : biasRow (ix4 r 0 k 0) = BitVec.ofNat 32 (min 248 ((r : ℕ) - 4) + k + 7 - r) := by
  pointwise [biasRow]
  simp only [keyRow_at]
  revert r k
  decide +kernel

theorem biasCol_at (q k : Fin 64) : biasCol (ix4 0 q 0 k) = BitVec.ofNat 32 (min 30 ((k : ℕ) + 15 - q)) := by
  pointwise [biasCol]
  revert q k
  decide +kernel

theorem biasIdx_row (r : Fin 256) (q : Fin 64) (k : Fin 8) (w : Fin 64) :
    biasIdx (ix5 r q k w 0) = BitVec.ofNat 32 (min 248 ((r : ℕ) - 4) + k + 7 - r) := by
  rw [← biasRow_at]
  pointwise [biasIdx, fn_main_v75]

theorem biasIdx_col (r : Fin 256) (q : Fin 64) (k : Fin 8) (w : Fin 64) :
    biasIdx (ix5 r q k w 1) = BitVec.ofNat 32 (min 30 ((w : ℕ) + 15 - q)) := by
  rw [← biasCol_at]
  pointwise [biasIdx, fn_main_v75]

/-- The window gather at its operand's last three coordinates, whole slices. -/
theorem gatherRow (x : Arr S256x64x8x64) (y : IVec S256x8x1 32) (r : Fin 256) (k : Fin 8) (w : Fin 64) (h : Fin 8) (e : Fin 64) :
    Host.gather gather_S256x64x8x64_S256x8x1_S256x8x64x8x64_234_0_n_n_0_2_164864 x y (ix5 r k w h e)
      = x (ix4 ⟨min (y (ix3 r k 0)).toInt.toNat 255, by omega⟩ w h e) := by
  have hsi : ∀ p, (gather_S256x64x8x64_S256x8x1_S256x8x64x8x64_234_0_n_n_0_2_164864).siIdx (ix5 r k w h e) p = ix3 r k 0 := by
    intro p
    funext b; refine Fin.ext ?_
    match b with
    | ⟨0, _⟩ => rfl
    | ⟨1, _⟩ => rfl
    | ⟨2, _⟩ => exact Nat.lt_one_iff.mp p.2
  unfold Host.gather
  congr 1
  funext a
  refine Fin.ext ?_
  match a with
  | ⟨0, _⟩ =>
    show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    split
    · rw [hsi]; rfl
    · rename_i hn; exact absurd (show (0 : Fin 4) ∈ [(0 : Fin 4)] from by decide) hn
  | ⟨1, _⟩ =>
    show GatherDims.start gather_S256x64x8x64_S256x8x1_S256x8x64x8x64_234_0_n_n_0_2_164864 (ix5 r k w h e) y _ + GatherDims.batchCoord _ _ _ + GatherDims.offCoord _ _ _ = _
    have hs : GatherDims.start gather_S256x64x8x64_S256x8x1_S256x8x64x8x64_234_0_n_n_0_2_164864 (ix5 r k w h e) y (1 : Fin 4) = 0 := by
      unfold GatherDims.start; exact dif_neg (show (1 : Fin 4) ∉ [(0 : Fin 4)] from by decide)
    have ho : GatherDims.offCoord gather_S256x64x8x64_S256x8x1_S256x8x64x8x64_234_0_n_n_0_2_164864 (ix5 r k w h e) (1 : Fin 4) = (ix5 r k w h e) 2 := by
      unfold GatherDims.offCoord; exact dif_pos ((GatherDims.mem_sKept _ _).mpr ⟨show (1 : Fin 4) ∉ [(0 : Fin 4)] from by decide, List.not_mem_nil⟩)
    have hb : GatherDims.batchCoord gather_S256x64x8x64_S256x8x1_S256x8x64x8x64_234_0_n_n_0_2_164864 (ix5 r k w h e) (1 : Fin 4) = 0 := GatherDims.batchCoord_eq_zero _ _ _ List.not_mem_nil
    exact (congrArg₂ (· + ·) (congrArg₂ (· + ·) hs hb) ho).trans (by simp only [Nat.zero_add]; rfl)
  | ⟨2, _⟩ =>
    show GatherDims.start gather_S256x64x8x64_S256x8x1_S256x8x64x8x64_234_0_n_n_0_2_164864 (ix5 r k w h e) y _ + GatherDims.batchCoord _ _ _ + GatherDims.offCoord _ _ _ = _
    have hs : GatherDims.start gather_S256x64x8x64_S256x8x1_S256x8x64x8x64_234_0_n_n_0_2_164864 (ix5 r k w h e) y (2 : Fin 4) = 0 := by
      unfold GatherDims.start; exact dif_neg (show (2 : Fin 4) ∉ [(0 : Fin 4)] from by decide)
    have ho : GatherDims.offCoord gather_S256x64x8x64_S256x8x1_S256x8x64x8x64_234_0_n_n_0_2_164864 (ix5 r k w h e) (2 : Fin 4) = (ix5 r k w h e) 3 := by
      unfold GatherDims.offCoord; exact dif_pos ((GatherDims.mem_sKept _ _).mpr ⟨show (2 : Fin 4) ∉ [(0 : Fin 4)] from by decide, List.not_mem_nil⟩)
    have hb : GatherDims.batchCoord gather_S256x64x8x64_S256x8x1_S256x8x64x8x64_234_0_n_n_0_2_164864 (ix5 r k w h e) (2 : Fin 4) = 0 := GatherDims.batchCoord_eq_zero _ _ _ List.not_mem_nil
    exact (congrArg₂ (· + ·) (congrArg₂ (· + ·) hs hb) ho).trans (by simp only [Nat.zero_add]; rfl)
  | ⟨3, _⟩ =>
    show GatherDims.start gather_S256x64x8x64_S256x8x1_S256x8x64x8x64_234_0_n_n_0_2_164864 (ix5 r k w h e) y _ + GatherDims.batchCoord _ _ _ + GatherDims.offCoord _ _ _ = _
    have hs : GatherDims.start gather_S256x64x8x64_S256x8x1_S256x8x64x8x64_234_0_n_n_0_2_164864 (ix5 r k w h e) y (3 : Fin 4) = 0 := by
      unfold GatherDims.start; exact dif_neg (show (3 : Fin 4) ∉ [(0 : Fin 4)] from by decide)
    have ho : GatherDims.offCoord gather_S256x64x8x64_S256x8x1_S256x8x64x8x64_234_0_n_n_0_2_164864 (ix5 r k w h e) (3 : Fin 4) = (ix5 r k w h e) 4 := by
      unfold GatherDims.offCoord; exact dif_pos ((GatherDims.mem_sKept _ _).mpr ⟨show (3 : Fin 4) ∉ [(0 : Fin 4)] from by decide, List.not_mem_nil⟩)
    have hb : GatherDims.batchCoord gather_S256x64x8x64_S256x8x1_S256x8x64x8x64_234_0_n_n_0_2_164864 (ix5 r k w h e) (3 : Fin 4) = 0 := GatherDims.batchCoord_eq_zero _ _ _ List.not_mem_nil
    exact (congrArg₂ (· + ·) (congrArg₂ (· + ·) hs hb) ho).trans (by simp only [Nat.zero_add]; rfl)

/-- The bias gather at its two coordinates. -/
theorem gatherBias (x : Arr S8x15x31) (y : IVec S256x64x8x64x2 32) (h : Fin 8) (r : Fin 256) (q : Fin 64) (k : Fin 8) (w : Fin 64) :
    Host.gather gather_S8x15x31_S256x64x8x64x2_S8x256x64x8x64_0_12_n_n_12_4_811 x y (ix5 h r q k w)
      = x (ix3 h ⟨min (y (ix5 r q k w 0)).toInt.toNat 14, by omega⟩ ⟨min (y (ix5 r q k w 1)).toInt.toNat 30, by omega⟩) := by
  have hsi : ∀ p, (gather_S8x15x31_S256x64x8x64x2_S8x256x64x8x64_0_12_n_n_12_4_811).siIdx (ix5 h r q k w) p = ix5 r q k w p := by
    intro p
    funext b; refine Fin.ext ?_
    match b with
    | ⟨0, _⟩ => rfl
    | ⟨1, _⟩ => rfl
    | ⟨2, _⟩ => rfl
    | ⟨3, _⟩ => rfl
    | ⟨4, _⟩ => rfl
  unfold Host.gather
  congr 1
  funext a
  refine Fin.ext ?_
  match a with
  | ⟨0, _⟩ =>
    show GatherDims.start gather_S8x15x31_S256x64x8x64x2_S8x256x64x8x64_0_12_n_n_12_4_811 (ix5 h r q k w) y _ + GatherDims.batchCoord _ _ _ + GatherDims.offCoord _ _ _ = _
    have hs : GatherDims.start gather_S8x15x31_S256x64x8x64x2_S8x256x64x8x64_0_12_n_n_12_4_811 (ix5 h r q k w) y (0 : Fin 3) = 0 := by
      unfold GatherDims.start; exact dif_neg (show (0 : Fin 3) ∉ [(1 : Fin 3), 2] from by decide)
    have ho : GatherDims.offCoord gather_S8x15x31_S256x64x8x64x2_S8x256x64x8x64_0_12_n_n_12_4_811 (ix5 h r q k w) (0 : Fin 3) = (ix5 h r q k w) 0 := by
      unfold GatherDims.offCoord; exact dif_pos ((GatherDims.mem_sKept _ _).mpr ⟨show (0 : Fin 3) ∉ [(1 : Fin 3), 2] from by decide, List.not_mem_nil⟩)
    have hb : GatherDims.batchCoord gather_S8x15x31_S256x64x8x64x2_S8x256x64x8x64_0_12_n_n_12_4_811 (ix5 h r q k w) (0 : Fin 3) = 0 := GatherDims.batchCoord_eq_zero _ _ _ List.not_mem_nil
    exact (congrArg₂ (· + ·) (congrArg₂ (· + ·) hs hb) ho).trans (by simp only [Nat.zero_add]; rfl)
  | ⟨1, _⟩ =>
    show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (show (1 : Fin 3) ∈ [(1 : Fin 3), 2] from by decide))]
    simp only [Nat.add_zero]
    unfold GatherDims.start
    split
    · rw [hsi]; rfl
    · rename_i hn; exact absurd (show (1 : Fin 3) ∈ [(1 : Fin 3), 2] from by decide) hn
  | ⟨2, _⟩ =>
    show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (show (2 : Fin 3) ∈ [(1 : Fin 3), 2] from by decide))]
    simp only [Nat.add_zero]
    unfold GatherDims.start
    split
    · rw [hsi]; rfl
    · rename_i hn; exact absurd (show (2 : Fin 3) ∈ [(1 : Fin 3), 2] from by decide) hn

theorem cat_at (Q K W : Arr S16384x512) (Kx Wx : Arr S256x512) (P : Arr S8x15x31) (G : Arr S16384x512) (i : Fin 16384) (k : Fin 1024) :
    cat Q K W Kx Wx P G (ix2 i k) = if hk : (k : ℕ) < 512 then attn Q K W Kx Wx P (ix2 i ⟨k, hk⟩) else G (ix2 i ⟨(k : ℕ) - 512, by omega⟩) := by
  pointwise [cat, fn_main_v108]

theorem layer_at (X : Arr S16384x1024) (Q K W : Arr S16384x512) (Kx Wx : Arr S256x512) (P : Arr S8x15x31) (G : Arr S16384x512)
    (O : Arr S1024x1024) (M : Arr S2x2x9x1024) (i : Fin 16384) (d : Fin 1024) :
    layer X Q K W Kx Wx P G O M (ix2 i d) = X (ix2 i d) + M (ix4 (0 : Fin 2) (0 : Fin 2) (5 : Fin 9) d) * ∑ k : Fin 1024, cat Q K W Kx Wx P G (ix2 i k) * O (ix2 k d) := by
  pointwise [layer]

theorem attn_at (Q K W : Arr S16384x512) (Kx Wx : Arr S256x512) (P : Arr S8x15x31) (r : Fin 256) (q : Fin 64) (h : Fin 8) (e : Fin 64) :
    attn Q K W Kx Wx P (ix2 ⟨64 * (r : ℕ) + q, by omega⟩ ⟨64 * (h : ℕ) + e, by omega⟩)
      = winOut Q K W Kx P (ix4 r q h e) + ctxOut Q K Kx Wx P (ix4 r q h e) := by
  pointwise [attn]

end Cert.ReferenceIdeal.Ref

end
-- ==== Proof.AttnRead2.lean ====
module

public import proofs.«01_k».proof.Proof.AttnRead

/-!
# The scores, the weights and the mix of the plain attention step, entry by entry
-/

@[expose] public section

set_option maxRecDepth 16384

noncomputable section

namespace Cert.ReferenceIdeal.Ref

open Cert.ReferenceIdeal Cert.ReferenceIdeal.Gen Cert.ReferenceIdeal.Value Idealize.ShloMosaic Idealize.ShloMosaic.TcCoe Idealize.SL.Sem

/-- The key row of a query row and a window row. -/
def krow (r : Fin 256) (k : Fin 8) : Fin 256 := ⟨min 248 ((r : ℕ) - 4) + k, by omega⟩

/-- The bias table's row of a query row and a window row. -/
def brow (r : Fin 256) (k : Fin 8) : Fin 15 := ⟨min 248 ((r : ℕ) - 4) + k + 7 - r, by omega⟩

/-- The bias table's column of a query column and a key column. -/
def bcol (q w : Fin 64) : Fin 31 := ⟨min 30 ((w : ℕ) + 15 - q), by omega⟩

theorem toNat_small (n : ℕ) (h : n < 2 ^ 31) : (BitVec.ofNat 32 n).toInt.toNat = n := by
  rw [BitVec.toInt_eq_toNat_cond, BitVec.toNat_ofNat]
  rw [Nat.mod_eq_of_lt (by omega)]
  split <;> omega

theorem kWin_at (K : Arr S16384x512) (r : Fin 256) (k : Fin 8) (w : Fin 64) (h : Fin 8) (e : Fin 64) :
    kWin K (ix5 r k w h e) = K (ix2 ⟨(krow r k : ℕ) * 64 + w, by omega⟩ ⟨(h : ℕ) * 64 + e, by omega⟩) := by
  unfold kWin
  have e0 : (⟨min (keyIdx (ix3 r k 0)).toInt.toNat 255, by omega⟩ : Fin 256) = krow r k := by
    refine Fin.ext ?_
    show min (keyIdx (ix3 r k 0)).toInt.toNat 255 = _
    rw [keyIdx_at, toNat_small _ (by omega)]; simp only [krow]; omega
  refine (gatherRow _ _ r k w h e).trans ?_
  rw [e0]
  pointwise []

theorem wWin_at (K : Arr S16384x512) (r : Fin 256) (k : Fin 8) (w : Fin 64) (h : Fin 8) (e : Fin 64) :
    wWin K (ix5 r k w h e) = K (ix2 ⟨(krow r k : ℕ) * 64 + w, by omega⟩ ⟨(h : ℕ) * 64 + e, by omega⟩) := kWin_at K r k w h e

theorem bias_at (P : Arr S8x15x31) (h : Fin 8) (r : Fin 256) (q : Fin 64) (k : Fin 8) (w : Fin 64) :
    bias P (ix5 h r q k w) = P (ix3 h (brow r k) (bcol q w)) := by
  unfold bias
  have e0 : (⟨min (biasIdx (ix5 r q k w 0)).toInt.toNat 14, by omega⟩ : Fin 15) = brow r k := by
    refine Fin.ext ?_
    show min (biasIdx (ix5 r q k w 0)).toInt.toNat 14 = _
    rw [biasIdx_row, toNat_small _ (by omega)]; simp only [brow]; omega
  have e1 : (⟨min (biasIdx (ix5 r q k w 1)).toInt.toNat 30, by omega⟩ : Fin 31) = bcol q w := by
    refine Fin.ext ?_
    show min (biasIdx (ix5 r q k w 1)).toInt.toNat 30 = _
    rw [biasIdx_col, toNat_small _ (by omega)]; simp only [bcol]; omega
  refine (gatherBias _ _ h r q k w).trans ?_
  rw [e0, e1]

theorem winDot_at (Q K : Arr S16384x512) (h : Fin 8) (r : Fin 256) (q : Fin 64) (k : Fin 8) (w : Fin 64) :
    winDot Q K (ix5 h r q k w) = ∑ e : Fin 64, Q (ix2 ⟨(r : ℕ) * 64 + q, by omega⟩ ⟨(h : ℕ) * 64 + e, by omega⟩)
      * kWin K (ix5 r k w h e) := by
  pointwise [winDot]

theorem ofBits_bot : Ideal.ofBits FTy.f32 0xFF800000#32 = ⊥ := by
  simp only [Ideal.ofBits]
  unfold Ideal.ieee
  rw [if_pos (by decide), if_pos (by decide), if_pos (by decide)]

theorem ofBits_eighth : Ideal.ofBits FTy.f32 0x3E000000#32 = ((1 / 8 : ℝ) : EReal) := by
  simp only [Ideal.ofBits]
  unfold Ideal.ieee
  rw [if_neg (by decide), if_neg (by decide)]
  congr 1
  rw [if_neg (by decide)]
  rw [show ((BitVec.extractLsb' 0 23 0x3E000000#32).toNat) = 0 by decide, show ((BitVec.extractLsb' 23 8 0x3E000000#32).toNat) = 124 by decide]
  norm_num

theorem fold_sup {n : ℕ} (f : Fin n → EReal) : Finset.univ.fold max ⊥ f = Finset.univ.sup f := rfl

theorem max_at (x : Arr S8x256x64x768) (h : Fin 8) (r : Fin 256) (q : Fin 64) :
    Host.reduce FloatOps.maximumf x (constant (F := Ideal) S_ .f32 0xFF800000#32) reducesTo_S8x256x64x768_S8x256x64_d3 h_S_ (ix3 h r q)
      = Finset.univ.fold max (Ideal.ofBits .f32 0xFF800000#32) fun n : Fin 768 => x (ix4 h r q n) := by
  pointwise []

theorem maxb (a b : Arr S8x256x64) (i : S8x256x64.Idx) : maximumf a b i = max (a i) (b i) := rfl

theorem bot_at (i : S8x256x64.Idx) : broadcastInDim S8x256x64 ![] bcast_S_S8x256x64 (constant (F := Ideal) S_ .f32 0xFF800000#32) i = (⊥ : EReal) := ofBits_bot

theorem topOf_at (x : Arr S8x256x64x768) (h : Fin 8) (r : Fin 256) (q : Fin 64) :
    maximumf (broadcastInDim S8x256x64 ![] bcast_S_S8x256x64 (constant (F := Ideal) S_ .f32 0xFF800000#32)) (Host.reduce FloatOps.maximumf x (constant (F := Ideal) S_ .f32 0xFF800000#32) reducesTo_S8x256x64x768_S8x256x64_d3 h_S_) (ix3 h r q)
      = Finset.univ.sup fun n : Fin 768 => x (ix4 h r q n) := by
  rw [maxb, bot_at, max_at, ofBits_bot, fold_sup]
  exact bot_sup_eq _

theorem mask_bit (c : BitVec 1) (a : EReal) : Scalar.select c a (id (constant (F := Ideal) S_ .f32 0xFF800000#32) ix0) = if c = 1#1 then a else ⊥ := by
  have : (id (constant (F := Ideal) S_ .f32 0xFF800000#32) ix0 : EReal) = ⊥ := ofBits_bot
  rw [this]; rfl

theorem winScore_at (Q K : Arr S16384x512) (P : Arr S8x15x31) (h : Fin 8) (r : Fin 256) (q : Fin 64) (k : Fin 8) (w : Fin 64) :
    winScore Q K P (ix5 h r q k w) = if colOk (ix2 q w) = 1#1 then winDot Q K (ix5 h r q k w) * ((1 / 8 : ℝ) : EReal) + bias P (ix5 h r q k w) else ⊥ := by
  pointwise [winScore]
  rw [show Ideal.ofBits FTy.f32 1040187392#32 = _ from ofBits_eighth]
  exact mask_bit _ _

theorem ctxScore_at (Q : Arr S16384x512) (Kx : Arr S256x512) (h : Fin 8) (r : Fin 256) (q : Fin 64) (n : Fin 256) :
    ctxScore Q Kx (ix4 h r q n) = (∑ e : Fin 64, Q (ix2 ⟨(r : ℕ) * 64 + q, by omega⟩ ⟨(h : ℕ) * 64 + e, by omega⟩)
      * Kx (ix2 n ⟨(h : ℕ) * 64 + e, by omega⟩)) * ((1 / 8 : ℝ) : EReal) := by
  pointwise [ctxScore]
  rw [show Ideal.ofBits FTy.f32 1040187392#32 = _ from ofBits_eighth]

theorem scores_at (Q K : Arr S16384x512) (Kx : Arr S256x512) (P : Arr S8x15x31) (h : Fin 8) (r : Fin 256) (q : Fin 64) (n : Fin 768) :
    scores Q K Kx P (ix4 h r q n) = if hn : (n : ℕ) < 512 then winScore Q K P (ix5 h r q ⟨(n : ℕ) / 64, by omega⟩ ⟨(n : ℕ) % 64, by omega⟩)
      else ctxScore Q Kx (ix4 h r q ⟨(n : ℕ) - 512, by omega⟩) := by
  pointwise [scores, fn_main_v87]

theorem top_at (Q K : Arr S16384x512) (Kx : Arr S256x512) (P : Arr S8x15x31) (h : Fin 8) (r : Fin 256) (q : Fin 64) :
    top Q K Kx P (ix3 h r q) = Finset.univ.sup fun n : Fin 768 => scores Q K Kx P (ix4 h r q n) := by
  unfold top
  exact topOf_at (scores Q K Kx P) h r q

theorem expo_at (Q K : Arr S16384x512) (Kx : Arr S256x512) (P : Arr S8x15x31) (h : Fin 8) (r : Fin 256) (q : Fin 64) (n : Fin 768) :
    expo Q K Kx P (ix4 h r q n) = Ideal.exp (scores Q K Kx P (ix4 h r q n) - top Q K Kx P (ix3 h r q)) := by
  pointwise [expo]

theorem total_at (Q K : Arr S16384x512) (Kx : Arr S256x512) (P : Arr S8x15x31) (h : Fin 8) (r : Fin 256) (q : Fin 64) :
    total Q K Kx P (ix3 h r q) = ∑ n : Fin 768, expo Q K Kx P (ix4 h r q n) := by
  pointwise [total]

theorem prob_at (Q K : Arr S16384x512) (Kx : Arr S256x512) (P : Arr S8x15x31) (h : Fin 8) (r : Fin 256) (q : Fin 64) (n : Fin 768) :
    prob Q K Kx P (ix4 h r q n) = Ideal.div (expo Q K Kx P (ix4 h r q n)) (total Q K Kx P (ix3 h r q)) := by
  pointwise [prob]

theorem winOut_at (Q K W : Arr S16384x512) (Kx : Arr S256x512) (P : Arr S8x15x31) (r : Fin 256) (q : Fin 64) (h : Fin 8) (e : Fin 64) :
    winOut Q K W Kx P (ix4 r q h e) = ∑ k : Fin 8, ∑ w : Fin 64,
      wWin W (ix5 r k w h e) * prob Q K Kx P (ix4 h r q ⟨(k : ℕ) * 64 + w, by omega⟩) := by
  pointwise [winOut]

theorem ctxOut_at (Q K : Arr S16384x512) (Kx Wx : Arr S256x512) (P : Arr S8x15x31) (r : Fin 256) (q : Fin 64) (h : Fin 8) (e : Fin 64) :
    ctxOut Q K Kx Wx P (ix4 r q h e) = ∑ n : Fin 256,
      Wx (ix2 n ⟨(h : ℕ) * 64 + e, by omega⟩) * prob Q K Kx P (ix4 h r q ⟨512 + (n : ℕ), by omega⟩) := by
  pointwise [ctxOut]

end Cert.ReferenceIdeal.Ref

end
-- ==== Proof.AttnLink.lean ====
module

public import proofs.«01_k».proof.Proof.AttnRead2
public import proofs.«01_k».proof.Proof.AttnOut
public import proofs.«01_k».proof.Proof.AttnMask

/-!
# The kernel's attention is the plain attention
-/

@[expose] public section

set_option maxRecDepth 16384

noncomputable section

namespace Cert.AttnLink

open Cert.ReferenceIdeal.Ref Cert.KernelIdeal.Out Cert.KernelIdeal.Tab Idealize.ShloMosaic

abbrev SA : Shape := ReferenceIdeal.S16384x512
abbrev SB : Shape := ReferenceIdeal.S256x512
abbrev SC : Shape := ReferenceIdeal.S8x15x31

/-- The bias table from the bias array. -/
def tab (P : Arr SC) (a : Fin 3) (h : Fin 8) (r : Fin 256) (n : Fin 768) : EReal :=
  if win a.val (r.val / 64) (n.val / 64) ∧ colok (r.val % 64) (n.val % 64) then
    P (ix3 h (⟨min 14 (n.val / 64 + 3 - r.val / 64), by omega⟩ : Fin 15) (⟨min 30 (n.val % 64 + 15 - r.val % 64), by omega⟩ : Fin 31)) * Attn.L2E
  else ⊥

/-- The reference's row of a query, and its column. -/
def qrow (b : Fin 64) (r : Fin 256) : Fin 256 := ⟨4 * b.val + r.val / 64, by omega⟩
def qcol (r : Fin 256) : Fin 64 := ⟨r.val % 64, by omega⟩

/-- Where the kernel keeps the reference's key `n` of a query. -/
def place (b : Fin 64) (r : Fin 256) (n : Fin 768) : Fin 4 × Fin 256 :=
  if hn : n.val < 512 then
    (⟨((krow (qrow b r) ⟨n.val / 64, by omega⟩).val + 4 - 4 * b.val) / 4, by simp only [krow, qrow]; omega⟩,
     ⟨((krow (qrow b r) ⟨n.val / 64, by omega⟩).val + 4 - 4 * b.val) % 4 * 64 + n.val % 64, by omega⟩)
  else (3, ⟨n.val - 512, by omega⟩)

theorem place_win (b : Fin 64) (r : Fin 256) (n : Fin 768) (hn : n.val < 512) :
    (place b r n).1.val < 3 ∧ (place b r n).1.val = ((krow (qrow b r) ⟨n.val / 64, by omega⟩).val + 4 - 4 * b.val) / 4
      ∧ (place b r n).2.val = ((krow (qrow b r) ⟨n.val / 64, by omega⟩).val + 4 - 4 * b.val) % 4 * 64 + n.val % 64 := by
  unfold place
  rw [dif_pos hn]
  refine ⟨?_, rfl, rfl⟩
  simp only [krow, qrow]; omega

theorem place_ctx (b : Fin 64) (r : Fin 256) (n : Fin 768) (hn : ¬ n.val < 512) :
    (place b r n).1.val = 3 ∧ (place b r n).2.val = n.val - 512 := by
  unfold place
  rw [dif_neg hn]
  exact ⟨rfl, rfl⟩

theorem place_inj (b : Fin 64) (r : Fin 256) : Function.Injective (place b r) := by
  intro n n' he
  have h1 : (place b r n).1.val = (place b r n').1.val := by rw [he]
  have h2 : (place b r n).2.val = (place b r n').2.val := by rw [he]
  refine Fin.ext ?_
  by_cases hn : n.val < 512 <;> by_cases hn' : n'.val < 512
  · obtain ⟨-, a1, a2⟩ := place_win b r n hn
    obtain ⟨-, b1, b2⟩ := place_win b r n' hn'
    rw [a1, b1] at h1; rw [a2, b2] at h2
    simp only [krow, qrow] at h1 h2
    omega
  · have := (place_win b r n hn).1; have := (place_ctx b r n' hn').1; omega
  · have := (place_win b r n' hn').1; have := (place_ctx b r n hn).1; omega
  · have := (place_ctx b r n hn).2; have := (place_ctx b r n' hn').2; omega

/-- The window row of a key's place, from the kernel's side. -/
theorem place_off (b : Fin 64) (r : Fin 256) (i : Fin 4 × Fin 256) (hi : i ∉ Set.range (place b r)) :
    i.1.val < 3 ∧ ¬ win (kind b).val (r.val / 64) (4 * i.1.val + i.2.val / 64) := by
  have h3 : i.1.val < 3 := by
    by_contra hc
    refine hi ⟨⟨512 + i.2.val, by omega⟩, ?_⟩
    obtain ⟨a1, a2⟩ := place_ctx b r ⟨512 + i.2.val, by omega⟩ (by simp only; omega)
    refine Prod.ext (Fin.ext ?_) (Fin.ext ?_)
    · rw [a1]; omega
    · rw [a2]; simp only; omega
  refine ⟨h3, fun hw => ?_⟩
  have hlo : ∃ k, k < 8 ∧ (krow (qrow b r) ⟨0, by omega⟩).val + k + 4 - 4 * b.val = 4 * i.1.val + i.2.val / 64 := by
    refine ⟨4 * i.1.val + i.2.val / 64 + 4 * b.val - 4 - (krow (qrow b r) ⟨0, by omega⟩).val, ?_⟩
    unfold win kind at hw
    simp only [krow, qrow]
    by_cases h0 : b.val = 0
    · simp only [h0, if_true] at hw ⊢; simp at hw; omega
    · by_cases h63 : b.val = 63
      · simp only [h63] at hw ⊢; simp at hw; omega
      · simp only [h0, h63, if_false] at hw; simp at hw; omega
  obtain ⟨k, hk, he⟩ := hlo
  refine hi ⟨⟨64 * k + i.2.val % 64, by omega⟩, ?_⟩
  obtain ⟨-, a1, a2⟩ := place_win b r ⟨64 * k + i.2.val % 64, by omega⟩ (by simp only; omega)
  have hkr : (krow (qrow b r) ⟨(64 * k + i.2.val % 64) / 64, by omega⟩).val = (krow (qrow b r) ⟨0, by omega⟩).val + k := by
    simp only [krow]; omega
  refine Prod.ext (Fin.ext ?_) (Fin.ext ?_)
  · rw [a1]; simp only [hkr]; omega
  · rw [a2]; simp only [hkr]; omega

theorem place_in (b : Fin 64) (r : Fin 256) (n : Fin 768) (hn : n.val < 512) :
    win (kind b).val (r.val / 64) (4 * (place b r n).1.val + (place b r n).2.val / 64) := by
  obtain ⟨-, a1, a2⟩ := place_win b r n hn
  rw [a1, a2]
  simp only [krow, qrow]
  unfold win kind
  by_cases h0 : b.val = 0
  · simp [h0]; omega
  · by_cases h63 : b.val = 63
    · simp [h63]; omega
    · simp [h0, h63]; omega

section Link
variable (Q K W : Arr SA) (Kx Wx : Arr SB) (P : Arr SC)

/-- An array by its two coordinates. -/
def at2 {n k : ℕ} (A : Arr ⟨2, ![n, k]⟩) (i : Fin n) (d : Fin k) : EReal := A (ix2 i d)

/-- The plain value row a key carries. -/
def val (W : Arr SA) (Wx : Arr SB) (R : Fin 256) (n : Fin 768) (d : Fin 512) : EReal :=
  if hn : n.val < 512 then at2 W ⟨(krow R ⟨n.val / 64, by omega⟩).val * 64 + n.val % 64, by omega⟩ d else at2 Wx ⟨n.val - 512, by omega⟩ d

/-- A key's row, read where the kernel keeps it. -/
theorem key_place (b : Fin 64) (r : Fin 256) (n : Fin 768) (d : Fin 512) :
    Key (at2 W) (at2 Wx) b (place b r n) d = val W Wx (qrow b r) n d := by
  unfold Key val
  by_cases hn : n.val < 512
  · obtain ⟨a0, a1, a2⟩ := place_win b r n hn
    rw [if_pos a0, dif_pos hn]
    congr 1
    refine Fin.ext ?_
    simp only [a1, a2]
    simp only [krow, qrow]
    omega
  · obtain ⟨a1, a2⟩ := place_ctx b r n hn
    rw [if_neg (by omega), dif_neg hn]
    congr 1
    exact Fin.ext a2

/-- The plain product of a query with a key, over one head. -/
def dotp (Q K : Arr SA) (Kx : Arr SB) (b : Fin 64) (r : Fin 256) (h : Fin 8) (n : Fin 768) : EReal :=
  ∑ e : Fin 64, at2 Q ⟨256 * b.val + r.val, by omega⟩ ⟨64 * h.val + e.val, by omega⟩ * val K Kx (qrow b r) n ⟨64 * h.val + e.val, by omega⟩

/-- The plain score of a query against key `n`. -/
theorem score_plain (b : Fin 64) (r : Fin 256) (h : Fin 8) (n : Fin 768) :
    scores Q K Kx P (ix4 h (qrow b r) (qcol r) n)
      = if hn : n.val < 512 then
          if colok (r.val % 64) (n.val % 64) then
            dotp Q K Kx b r h n * ((1 / 8 : ℝ) : EReal)
              + P (ix3 h (brow (qrow b r) ⟨n.val / 64, by omega⟩) (bcol (qcol r) ⟨n.val % 64, by omega⟩))
          else ⊥
        else dotp Q K Kx b r h n * ((1 / 8 : ℝ) : EReal) := by
  have hq : ∀ e : Fin 64, Q (ix2 ⟨(qrow b r).val * 64 + (qcol r).val, by omega⟩ ⟨h.val * 64 + e.val, by omega⟩)
      = at2 Q ⟨256 * b.val + r.val, by omega⟩ ⟨64 * h.val + e.val, by omega⟩ := by
    intro e
    unfold at2
    congr 2
    · refine Fin.ext ?_; simp only [qrow, qcol]; omega
    · refine Fin.ext ?_; simp only; omega
  rw [scores_at]
  by_cases hn : n.val < 512
  · rw [dif_pos hn, dif_pos hn, winScore_at, colOk_at, bias_at, winDot_at]
    have hc : ((if min 48 ((qcol r).val - 8) ≤ n.val % 64 ∧ n.val % 64 < min 48 ((qcol r).val - 8) + 16 then 1#1 else 0#1) = 1#1)
        ↔ colok (r.val % 64) (n.val % 64) := by
      unfold colok qcol
      split
      · rename_i h; exact ⟨fun _ => h, fun _ => rfl⟩
      · rename_i h; exact ⟨fun h' => absurd h' (by decide), fun h' => absurd h' h⟩
    simp only [hc]
    congr 3
    unfold dotp
    refine Finset.sum_congr rfl fun e _ => ?_
    rw [hq, kWin_at]
    congr 1
    unfold val at2
    rw [dif_pos hn]
    congr 2
    refine Fin.ext ?_; simp only; omega
  · rw [dif_neg hn, dif_neg hn, ctxScore_at]
    congr 1
    unfold dotp
    refine Finset.sum_congr rfl fun e _ => ?_
    rw [hq]
    congr 1
    unfold val at2
    rw [dif_neg hn]
    congr 2
    refine Fin.ext ?_; simp only; omega

/-- The attention output at row `(b, r)`, lane `d`, as one weighted sum. -/
theorem attn_plain (b : Fin 64) (r : Fin 256) (d : Fin 512) :
    attn Q K W Kx Wx P (ix2 ⟨256 * b.val + r.val, by omega⟩ d)
      = ∑ n : Fin 768, Ideal.div (Ideal.exp (scores Q K Kx P (ix4 ⟨d.val / 64, by omega⟩ (qrow b r) (qcol r) n)
            - Finset.univ.sup fun n => scores Q K Kx P (ix4 ⟨d.val / 64, by omega⟩ (qrow b r) (qcol r) n)))
          (∑ n : Fin 768, Ideal.exp (scores Q K Kx P (ix4 ⟨d.val / 64, by omega⟩ (qrow b r) (qcol r) n)
            - Finset.univ.sup fun n => scores Q K Kx P (ix4 ⟨d.val / 64, by omega⟩ (qrow b r) (qcol r) n)))
          * val W Wx (qrow b r) n d := by
  have he : (ix2 ⟨256 * b.val + r.val, by omega⟩ d : SA.Idx)
      = ix2 ⟨64 * (qrow b r).val + (qcol r).val, by omega⟩ ⟨64 * (⟨d.val / 64, by omega⟩ : Fin 8).val + (⟨d.val % 64, by omega⟩ : Fin 64).val, by simp only; omega⟩ := by
    congr 1
    · refine Fin.ext ?_; simp only [qrow, qcol]; omega
    · refine Fin.ext ?_; simp only; omega
  rw [he, attn_at, winOut_at, ctxOut_at]
  have hp : ∀ n : Fin 768, prob Q K Kx P (ix4 ⟨d.val / 64, by omega⟩ (qrow b r) (qcol r) n)
      = Ideal.div (Ideal.exp (scores Q K Kx P (ix4 ⟨d.val / 64, by omega⟩ (qrow b r) (qcol r) n)
            - Finset.univ.sup fun n => scores Q K Kx P (ix4 ⟨d.val / 64, by omega⟩ (qrow b r) (qcol r) n)))
          (∑ n : Fin 768, Ideal.exp (scores Q K Kx P (ix4 ⟨d.val / 64, by omega⟩ (qrow b r) (qcol r) n)
            - Finset.univ.sup fun n => scores Q K Kx P (ix4 ⟨d.val / 64, by omega⟩ (qrow b r) (qcol r) n))) := by
    intro n
    rw [prob_at, total_at]
    simp only [expo_at, top_at]
  simp only [← hp]
  generalize prob Q K Kx P = p
  rw [← (finSumFinEquiv (m := 512) (n := 256)).sum_comp (fun n : Fin 768 => p (ix4 ⟨d.val / 64, by omega⟩ (qrow b r) (qcol r) n) * val W Wx (qrow b r) n d),
    Fintype.sum_sum_type, ← (finProdFinEquiv (m := 8) (n := 64)).sum_comp, Fintype.sum_prod_type]
  congr 1
  · refine Finset.sum_congr rfl fun k _ => Finset.sum_congr rfl fun w _ => ?_
    rw [wWin_at, mul_comm]
    have hv : (finSumFinEquiv (Sum.inl (finProdFinEquiv (k, w))) : Fin (512 + 256)) = (⟨k.val * 64 + w.val, by omega⟩ : Fin 768) := by
      refine Fin.ext ?_
      simp only [finSumFinEquiv_apply_left, Fin.val_castAdd, finProdFinEquiv_apply_val]; omega
    rw [hv]
    congr 1
    unfold val at2
    rw [dif_pos (by simp only; omega)]
    congr 2
    · refine Fin.ext ?_; simp only [krow]; omega
    · refine Fin.ext ?_; simp only; omega
  · refine Finset.sum_congr rfl fun n _ => ?_
    rw [mul_comm]
    have hv : (finSumFinEquiv (Sum.inr n) : Fin (512 + 256)) = (⟨512 + n.val, by omega⟩ : Fin 768) := by
      refine Fin.ext ?_
      simp only [finSumFinEquiv_apply_right, Fin.val_natAdd]
    rw [hv]
    congr 1
    unfold val at2
    rw [dif_neg (by simp only; omega)]
    congr 2
    · refine Fin.ext ?_; simp only; omega
    · refine Fin.ext ?_; simp only; omega

/-- The scale the kernel multiplies a query by. -/
theorem qs_eq : qs = (((Real.log 256)⁻¹ : ℝ) : EReal) := rfl

/-- Finite entries of an array by two coordinates. -/
def Fin2 {n k : ℕ} (A : Arr ⟨2, ![n, k]⟩) : Prop := ∀ i d, ∃ x : ℝ, at2 A i d = (x : EReal)

theorem val_fin (hK : Fin2 K) (hKx : Fin2 Kx) (R : Fin 256) (n : Fin 768) (d : Fin 512) : ∃ x : ℝ, val K Kx R n d = (x : EReal) := by
  unfold val
  split
  · exact hK _ _
  · exact hKx _ _

/-- On finite entries the kernel's score is the plain score in the other base. -/
theorem score_place (hQ : Fin2 Q) (hK : Fin2 K) (hKx : Fin2 Kx) (hP : ∀ h x y, ∃ z : ℝ, P (ix3 h x y) = (z : EReal))
    (b : Fin 64) (r : Fin 256) (h : Fin 8) (n : Fin 768) :
    Sc (at2 Q) (at2 K) (at2 Kx) (tab P) b r h (place b r n) = Attn.L2E * scores Q K Kx P (ix4 h (qrow b r) (qcol r) n) := by
  choose q hq using hQ
  choose k hk using val_fin K Kx hK hKx
  choose z hz using hP
  rw [score_plain]
  unfold Sc dotp
  simp only [key_place, hq, hk, qs_eq]
  by_cases hn : n.val < 512
  · obtain ⟨a0, a1, a2⟩ := place_win b r n hn
    rw [dif_pos hn]
    have hw := place_in b r n hn
    have hd : (256 * (place b r n).1.val + (place b r n).2.val) / 64 = 4 * (place b r n).1.val + (place b r n).2.val / 64 := by omega
    have hm : (256 * (place b r n).1.val + (place b r n).2.val) % 64 = n.val % 64 := by rw [a1, a2]; omega
    unfold Tb
    rw [dif_pos a0]
    unfold tab
    simp only [hd, hm, hw, true_and]
    by_cases hc : colok (r.val % 64) (n.val % 64)
    · rw [if_pos hc, if_pos hc]
      have hb : (ix3 h (⟨min 14 (4 * (place b r n).1.val + (place b r n).2.val / 64 + 3 - r.val / 64), by omega⟩ : Fin 15)
            (⟨min 30 (n.val % 64 + 15 - r.val % 64), by omega⟩ : Fin 31) : SC.Idx)
          = ix3 h (brow (qrow b r) ⟨n.val / 64, by omega⟩) (bcol (qcol r) ⟨n.val % 64, by omega⟩) := by
        congr 1
        refine Fin.ext ?_
        simp only [a1, a2]
        simp only [brow, krow, qrow]
        omega
      rw [hb, hz]
      exact Attn.score (fun e : Fin 64 => q ⟨256 * b.val + r.val, by omega⟩ ⟨64 * h.val + e.val, by omega⟩)
        (fun e : Fin 64 => k (qrow b r) n ⟨64 * h.val + e.val, by omega⟩) _
    · rw [if_neg hc, if_neg hc, EReal.add_bot, Attn.L2E_bot]
  · obtain ⟨a1, a2⟩ := place_ctx b r n hn
    rw [dif_neg hn]
    unfold Tb
    rw [dif_neg (by omega), add_zero]
    exact Attn.score_ctx (fun e : Fin 64 => q ⟨256 * b.val + r.val, by omega⟩ ⟨64 * h.val + e.val, by omega⟩)
        (fun e : Fin 64 => k (qrow b r) n ⟨64 * h.val + e.val, by omega⟩)

/-- A plain score is a real, or the mask. -/
theorem score_ne_top (hQ : Fin2 Q) (hK : Fin2 K) (hKx : Fin2 Kx) (hP : ∀ h x y, ∃ z : ℝ, P (ix3 h x y) = (z : EReal))
    (b : Fin 64) (r : Fin 256) (h : Fin 8) (n : Fin 768) :
    scores Q K Kx P (ix4 h (qrow b r) (qcol r) n) ≠ ⊤ ∧ (¬ n.val < 512 → scores Q K Kx P (ix4 h (qrow b r) (qcol r) n) ≠ ⊥) := by
  choose q hq using hQ
  choose k hk using val_fin K Kx hK hKx
  choose z hz using hP
  have hd : ∃ x : ℝ, dotp Q K Kx b r h n = (x : EReal) := by
    unfold dotp
    simp only [hq, hk, ← EReal.coe_mul, Attn.sum_coe]
    exact ⟨_, rfl⟩
  obtain ⟨x, hx⟩ := hd
  rw [score_plain, hx]
  by_cases hn : n.val < 512
  · rw [dif_pos hn]
    refine ⟨?_, fun h => absurd hn h⟩
    split
    · rw [hz, ← EReal.coe_mul, ← EReal.coe_add]; exact EReal.coe_ne_top _
    · exact bot_ne_top
  · rw [dif_neg hn, ← EReal.coe_mul]
    exact ⟨EReal.coe_ne_top _, fun _ => EReal.coe_ne_bot _⟩

/-- The kernel's attention output is the plain one. -/
theorem att_eq (hQ : Fin2 Q) (hK : Fin2 K) (hKx : Fin2 Kx) (hP : ∀ h x y, ∃ z : ℝ, P (ix3 h x y) = (z : EReal))
    (b : Fin 64) (r : Fin 256) (d : Fin 512) :
    att (at2 Q) (at2 K) (at2 W) (at2 Kx) (at2 Wx) (tab P) b r d = attn Q K W Kx Wx P (ix2 ⟨256 * b.val + r.val, by omega⟩ d) := by
  rw [attn_plain]
  unfold att
  refine Attn.softmax (place b r) (place_inj b r) (Sc (at2 Q) (at2 K) (at2 Kx) (tab P) b r ⟨d.val / 64, by omega⟩)
    (fun n => scores Q K Kx P (ix4 ⟨d.val / 64, by omega⟩ (qrow b r) (qcol r) n))
    (fun n => score_place Q K Kx P hQ hK hKx hP b r _ n) ?_
    (fun n => (score_ne_top Q K Kx P hQ hK hKx hP b r _ n).1)
    ⟨⟨512, by omega⟩, (score_ne_top Q K Kx P hQ hK hKx hP b r _ _).2 (by simp only; omega)⟩ _ _
    (fun n => key_place W Wx b r n d)
  intro i hi
  obtain ⟨h3, hw⟩ := place_off b r i hi
  unfold Sc Tb
  rw [dif_pos h3]
  unfold tab
  rw [if_neg, EReal.add_bot]
  rintro ⟨hw', -⟩
  refine hw ?_
  have hd : (256 * i.1.val + i.2.val) / 64 = 4 * i.1.val + i.2.val / 64 := by omega
  rw [← hd]; exact hw'

end Link

end Cert.AttnLink

end
-- ==== Proof.AttnPre.lean ====
module

public import proofs.«01_k».proof.Defs
public import Idealize.ShloMosaic.Lib.ReduceAll
public import Idealize.ShloMosaic.Lib.Pointwise

/-!
# What the stated precondition gives: finite queries, keys and biases
-/

@[expose] public section

set_option maxRecDepth 16384

noncomputable section

namespace Cert.AttnPre

open Idealize.ShloMosaic

theorem ofBits_top : Ideal.ofBits FTy.f32 0x7F800000#32 = ⊤ := by
  simp only [Ideal.ofBits]
  unfold Ideal.ieee
  rw [if_pos (by decide), if_pos (by decide), if_neg (by decide)]

/-- A value below infinity in size is a real. -/
theorem real_of (x : EReal) (h : (FloatOps.cmpf (F := Ideal) (φ := .f32) .olt (FloatOps.hostAbsf (F := Ideal) (φ := .f32) x) (Ideal.ofBits .f32 0x7F800000#32)) = 1#1) :
    ∃ r : ℝ, x = (r : EReal) := by
  rw [ofBits_top] at h
  have h1 : (FloatOps.hostAbsf (F := Ideal) (φ := .f32) x : EReal) < ⊤ := by
    by_contra hc
    have h2 : BitVec.ofBool (decide ((FloatOps.hostAbsf (F := Ideal) (φ := .f32) x : EReal) < ⊤)) = 1#1 := h
    rw [decide_eq_false hc] at h2
    exact absurd h2 (by decide)
  have h3 : max x (-x) < ⊤ := h1
  induction x with
  | top => exact absurd h3 (by simp)
  | bot => exact absurd h3 (by simp)
  | coe r => exact ⟨r, rfl⟩

theorem both (a b : BitVec 1) (h : IntOp.andi a b = 1#1) : a = 1#1 ∧ b = 1#1 := by
  revert a b; decide

instance : Subsingleton Pre_finite.S_.Idx := ⟨fun a b => funext fun i => i.elim0⟩

theorem parts [Cert.Pre_finite.Facts] (X : FVec Ideal Pre_finite.S16384x1024 .f32) (Q K W : FVec Ideal Pre_finite.S16384x512 .f32)
    (Kx Wx : FVec Ideal Pre_finite.S256x512 .f32) (P : FVec Ideal Pre_finite.S8x15x31 .f32) (G : FVec Ideal Pre_finite.S16384x512 .f32)
    (O : FVec Ideal Pre_finite.S1024x1024 .f32) (M : FVec Ideal Pre_finite.S2x2x9x1024 .f32)
    (h : Cert.Pre_finite.fn (F := Ideal) X Q K W Kx Wx P G O M = fun _ => 1#1) :
    (∀ i, ∃ r : ℝ, Q i = (r : EReal)) ∧ (∀ i, ∃ r : ℝ, K i = (r : EReal)) ∧ (∀ i, ∃ r : ℝ, Kx i = (r : EReal)) ∧ (∀ i, ∃ r : ℝ, P i = (r : EReal)) := by
  have h0 := congrFun h (fun i => i.elim0)
  unfold Cert.Pre_finite.fn Cert.Pre_finite.fn_part1 at h0
  simp only [andi] at h0
  obtain ⟨h1, hp⟩ := both _ _ h0
  obtain ⟨h2, hkx⟩ := both _ _ h1
  obtain ⟨hq, hk⟩ := both _ _ h2
  exact ⟨fun i => real_of _ (Host.reduce_andi_all _ _ _ _ _ hq i), fun i => real_of _ (Host.reduce_andi_all _ _ _ _ _ hk i),
    fun i => real_of _ (Host.reduce_andi_all _ _ _ _ _ hkx i), fun i => real_of _ (Host.reduce_andi_all _ _ _ _ _ hp i)⟩

end Cert.AttnPre

end
-- ==== Proof.AttnClaim.lean ====
module

public import proofs.«01_k».proof.Proof.AttnRun
public import proofs.«01_k».proof.Proof.AttnLink
public import proofs.«01_k».proof.Proof.AttnPre

/-!
# The attention step: the kernel's result array is the plain step's
-/

@[expose] public section

set_option maxRecDepth 16384

noncomputable section

namespace Cert.AttnClaim

open Cert.KernelIdeal.Gen Cert.ReferenceIdeal.Ref Cert.AttnLink Idealize.ShloMosaic Idealize.ShloMosaic.TcCoe Idealize.SL.Sem

variable (m : (ℓ : Loc KernelIdeal.nD KernelIdeal.τ KernelIdeal.sig) → Buf (Elt Ideal) ℓ) (c : Dev KernelIdeal.nD)

/-- The kernel's result, entry by entry, is the plain step on the same arrays. -/
theorem out_plain [Cert.Pre_finite.Facts] (hpre : Pre_KernelIdeal_finite m) (i : Fin 16384) (d : Fin 1024) :
    outv m c i d = layer (m ((c.tc : Thread _ _).loc KernelIdeal.main_arg0)) (m ((c.tc : Thread _ _).loc KernelIdeal.main_arg1))
      (m ((c.tc : Thread _ _).loc KernelIdeal.main_arg2)) (m ((c.tc : Thread _ _).loc KernelIdeal.main_arg3))
      (m ((c.tc : Thread _ _).loc KernelIdeal.main_arg4)) (m ((c.tc : Thread _ _).loc KernelIdeal.main_arg5))
      (m ((c.tc : Thread _ _).loc KernelIdeal.main_arg6)) (m ((c.tc : Thread _ _).loc KernelIdeal.main_arg7))
      (m ((c.tc : Thread _ _).loc KernelIdeal.main_arg8)) (m ((c.tc : Thread _ _).loc KernelIdeal.main_arg9)) (ix2 i d) := by
  obtain ⟨hq, hk, hkx, hp⟩ := AttnPre.parts _ _ _ _ _ _ _ _ _ _ (hpre c)
  rw [layer_at]
  unfold outv
  refine congrArg₂ (· + ·) rfl (congrArg₂ (· * ·) rfl (Finset.sum_congr rfl fun k _ => congrArg₂ (· * ·) ?_ rfl))
  rw [cat_at]
  unfold mixv
  have hi : (⟨256 * (i.val / 256) + i.val % 256, by omega⟩ : Fin 16384) = i := Fin.ext (by simp only; omega)
  split
  · refine (att_eq (m ((c.tc : Thread _ _).loc KernelIdeal.main_arg1)) (m ((c.tc : Thread _ _).loc KernelIdeal.main_arg2))
      (m ((c.tc : Thread _ _).loc KernelIdeal.main_arg3)) (m ((c.tc : Thread _ _).loc KernelIdeal.main_arg4))
      (m ((c.tc : Thread _ _).loc KernelIdeal.main_arg5)) (m ((c.tc : Thread _ _).loc KernelIdeal.main_arg6))
      (fun a b => hq (ix2 a b)) (fun a b => hk (ix2 a b)) (fun a b => hkx (ix2 a b)) (fun a b e => hp (ix3 a b e)) _ _ _).trans ?_
    rw [hi]
  · unfold a7
    rw [hi]

/-- The two result arrays agree where the arguments do. -/
theorem arr [Cert.Pre_finite.Facts] (m' : (ℓ : Loc ReferenceIdeal.nD ReferenceIdeal.τ ReferenceIdeal.sig) → Buf (Elt Ideal) ℓ)
    (hpre : Pre_KernelIdeal_finite m)
    (e0 : m' ((c.tc : Thread _ _).loc ReferenceIdeal.main_arg0) = m ((c.tc : Thread _ _).loc KernelIdeal.main_arg0))
    (e1 : m' ((c.tc : Thread _ _).loc ReferenceIdeal.main_arg1) = m ((c.tc : Thread _ _).loc KernelIdeal.main_arg1))
    (e2 : m' ((c.tc : Thread _ _).loc ReferenceIdeal.main_arg2) = m ((c.tc : Thread _ _).loc KernelIdeal.main_arg2))
    (e3 : m' ((c.tc : Thread _ _).loc ReferenceIdeal.main_arg3) = m ((c.tc : Thread _ _).loc KernelIdeal.main_arg3))
    (e4 : m' ((c.tc : Thread _ _).loc ReferenceIdeal.main_arg4) = m ((c.tc : Thread _ _).loc KernelIdeal.main_arg4))
    (e5 : m' ((c.tc : Thread _ _).loc ReferenceIdeal.main_arg5) = m ((c.tc : Thread _ _).loc KernelIdeal.main_arg5))
    (e6 : m' ((c.tc : Thread _ _).loc ReferenceIdeal.main_arg6) = m ((c.tc : Thread _ _).loc KernelIdeal.main_arg6))
    (e7 : m' ((c.tc : Thread _ _).loc ReferenceIdeal.main_arg7) = m ((c.tc : Thread _ _).loc KernelIdeal.main_arg7))
    (e8 : m' ((c.tc : Thread _ _).loc ReferenceIdeal.main_arg8) = m ((c.tc : Thread _ _).loc KernelIdeal.main_arg8))
    (e9 : m' ((c.tc : Thread _ _).loc ReferenceIdeal.main_arg9) = m ((c.tc : Thread _ _).loc KernelIdeal.main_arg9)) :
    ReferenceIdeal.Value.res_main_v115 (F := Ideal) m' c = (fun i => outv m c (i 0) (i 1) : KernelIdeal.S16384x1024.Idx → EReal) := by
  rw [res_layer, e0, e1, e2, e3, e4, e5, e6, e7, e8, e9]
  funext y
  refine Eq.trans ?_ (out_plain m c hpre (y 0) (y 1)).symm
  congr 1
  funext a
  match a with
  | ⟨0, _⟩ => rfl
  | ⟨1, _⟩ => rfl

end Cert.AttnClaim

end
-- ==== Proof.FfnRow.lean ====
module

public import Idealize.ShloMosaic.Lib.Pointwise

/-!
# The feed-forward layer on one row

The layer treats every one of the 16384 tokens on its own, so its mathematics is stated for one row of 1024 values: the root
mean square normalisation, the modulation, the gated hidden values, the projection back, and the closing normalisation.
-/

@[expose] public section

noncomputable section

namespace Cert.Ffn

open Idealize.ShloMosaic

/-- Root mean square normalisation of a row, times a gain. -/
def rms (x g : Fin 1024 → EReal) (d : Fin 1024) : EReal :=
  x d * Ideal.rsqrt (Ideal.div (∑ k, x k * x k) (Ideal.ofBits FTy.f32 1149239296#32) + Ideal.ofBits FTy.f32 897988541#32) * g d

/-- The normalised row under a shift and a scale. -/
def normed (x g sh sc : Fin 1024 → EReal) (d : Fin 1024) : EReal :=
  rms x g d * (1 + sc d) + sh d

/-- Hidden value `f` of a row: the gate's product with column `f`, through the logistic gate, times the product with column
    `2816 + f`. -/
def act (h : Fin 1024 → EReal) (w : Fin 1024 → Fin 5632 → EReal) (f : Fin 2816) : EReal :=
  (∑ k, h k * w k ⟨f.val, by omega⟩) * Ideal.logistic (∑ k, h k * w k ⟨f.val, by omega⟩)
    * ∑ k, h k * w k ⟨2816 + f.val, by omega⟩

/-- The hidden row through the second weight. -/
def mlp (h : Fin 1024 → EReal) (w : Fin 1024 → Fin 5632 → EReal) (w2 : Fin 2816 → Fin 1024 → EReal) (d : Fin 1024) : EReal :=
  ∑ f, act h w f * w2 f d

/-- The row plus half the gate times the layer's row. -/
def step (x g sh sc gate : Fin 1024 → EReal) (w : Fin 1024 → Fin 5632 → EReal) (w2 : Fin 2816 → Fin 1024 → EReal) (d : Fin 1024) : EReal :=
  x d + Ideal.ofBits FTy.f32 1056964608#32 * gate d * mlp (normed x g sh sc) w w2 d

/-- The row plus half the gate times the layer's row, normalised with the final gain. -/
def fin (x gate acc fg : Fin 1024 → EReal) : Fin 1024 → EReal :=
  rms (fun d => x d + Ideal.ofBits FTy.f32 1056964608#32 * gate d * acc d) fg

/-- The whole layer on a row. -/
def row (x g sh sc gate fg : Fin 1024 → EReal) (w : Fin 1024 → Fin 5632 → EReal) (w2 : Fin 2816 → Fin 1024 → EReal) :
    Fin 1024 → EReal :=
  fin x gate (mlp (normed x g sh sc) w w2) fg

end Cert.Ffn
-- ==== Proof.FfnTile.lean ====
module

public import proofs.«01_k».proof.Proof.Gen.Kernel2Ideal.Value
public import proofs.«01_k».proof.Proof.FfnRow
public import Idealize.ShloMosaic.Lib.Pipeline.ValueKit
public import Idealize.ShloMosaic.Lib.Pointwise

@[expose] public section

set_option maxRecDepth 16384

noncomputable section

namespace Cert.Kernel2Ideal.Tile

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-! ## The body's steps on one row -/

theorem normed_at (x : Vec Ideal S512x1024 .f32) (g sh sc : Vec Ideal S1x1x1x1024 .f32) (r : Fin 512) (d : Fin 1024) :
    k0_pay1 (F := Ideal) x g sh sc (ix2 r d)
      = Ffn.normed (fun k => x (ix2 r k)) (fun k => g (ix4 0 0 0 k)) (fun k => sh (ix4 0 0 0 k)) (fun k => sc (ix4 0 0 0 k)) d := by
  pointwise [k0_pay1, Ffn.normed, Ffn.rms]

theorem carried_at (x : Vec Ideal S512x1024 .f32) (g sh sc : Vec Ideal S1x1x1x1024 .f32) (r : Fin 512) (d : Fin 1024) :
    k0_pay41 (F := Ideal) (k0_pay39 x g sc) (k0_pay40 sh) (ix2 r d)
      = Ffn.normed (fun k => x (ix2 r k)) (fun k => g (ix4 0 0 0 k)) (fun k => sh (ix4 0 0 0 k)) (fun k => sc (ix4 0 0 0 k)) d := by
  pointwise [k0_pay41, k0_pay39, k0_pay40, Ffn.normed, Ffn.rms]

/-- A chunk of 256 hidden values, from two slices of the first weight that begin at lanes `o` and `2816 + o`. -/
theorem chunk_at (h : Vec Ideal S512x1024 .bf16) (w : Vec Ideal S1024x5632 .bf16) (wa wb : Vec Ideal S1024x256 .bf16) (o : ℕ)
    (ha : ∀ k (l : Fin 256) (hl : o + l.val < 5632), wa (ix2 k l) = w (ix2 k ⟨o + l.val, hl⟩))
    (hb : ∀ k (l : Fin 256) (hl : 2816 + (o + l.val) < 5632), wb (ix2 k l) = w (ix2 k ⟨2816 + (o + l.val), hl⟩))
    (r : Fin 512) (l : Fin 256) (f : Fin 2816) (hf : f.val = o + l.val) :
    k0_pay3 (F := Ideal) h wa wb (ix2 r l) = Ffn.act (fun k => h (ix2 r k)) (fun k f => w (ix2 k f)) f := by
  obtain ⟨f, hf'⟩ := f
  obtain rfl : f = o + l.val := hf
  have e1 : ∀ k, wa (ix2 k l) = w (ix2 k ⟨o + l.val, by omega⟩) := fun k => ha k l _
  have e2 : ∀ k, wb (ix2 k l) = w (ix2 k ⟨2816 + (o + l.val), by omega⟩) := fun k => hb k l _
  pointwise [k0_pay3, Ffn.act, e1, e2]

theorem proj_at (a : Vec Ideal S512x2816 .bf16) (w2 : Vec Ideal S2816x1024 .bf16) (r : Fin 512) (d : Fin 1024) :
    k0_pay19 (F := Ideal) a w2 (ix2 r d) = ∑ f, a (ix2 r f) * w2 (ix2 f d) := by
  pointwise [k0_pay19]

theorem fin_at (x : Vec Ideal S512x1024 .f32) (gate : Vec Ideal S1x1x1x1024 .f32) (acc : Vec Ideal S512x1024 .f32) (fg : Vec Ideal S1x1024 .f32)
    (r : Fin 512) (d : Fin 1024) :
    k0_pay21 (F := Ideal) x (k0_pay20 gate) acc fg (ix2 r d)
      = Ffn.fin (fun k => x (ix2 r k)) (fun k => gate (ix4 0 0 0 k)) (fun k => acc (ix2 r k)) (fun k => fg (ix2 0 k)) d := by
  pointwise [k0_pay21, k0_pay20, Ffn.fin, Ffn.rms]

theorem pay2_eq : k0_pay2 (F := Ideal) = k0_pay1 := rfl
theorem pay38_eq : k0_pay38 (F := Ideal) = k0_pay19 := rfl
theorem pay42_eq (x g a f) : k0_pay42 (F := Ideal) x g a f = k0_pay21 x (k0_pay20 g) a f := rfl

/-! The printed chunks are one function of the rows and two slices, cut at different lines. -/

section
variable (h : Vec Ideal S512x1024 .bf16) (a b : Vec Ideal S1024x256 .bf16)
theorem chunk4 : k0_pay4 (F := Ideal) h a b = k0_pay3 (F := Ideal) h a b := rfl
theorem chunk8 : k0_pay8 (F := Ideal) h a b = k0_pay3 (F := Ideal) h a b := rfl
theorem chunk11 : k0_pay11 (F := Ideal) h a b = k0_pay3 (F := Ideal) h a b := rfl
theorem chunk12 : k0_pay12 (F := Ideal) h a b = k0_pay3 (F := Ideal) h a b := rfl
theorem chunk15 : k0_pay15 (F := Ideal) h a b = k0_pay3 (F := Ideal) h a b := rfl
theorem chunk18 : k0_pay18 (F := Ideal) h a b = k0_pay3 (F := Ideal) h a b := rfl
theorem chunk22 : k0_pay22 (F := Ideal) h a b = k0_pay3 (F := Ideal) h a b := rfl
theorem chunk25 : k0_pay25 (F := Ideal) h a b = k0_pay3 (F := Ideal) h a b := rfl
theorem chunk29 : k0_pay29 (F := Ideal) h a b = k0_pay3 (F := Ideal) h a b := rfl
theorem chunk30 : k0_pay30 (F := Ideal) h a b = k0_pay3 (F := Ideal) h a b := rfl
theorem chunk31 : k0_pay31 (F := Ideal) h a b = k0_pay3 (F := Ideal) h a b := rfl
theorem chunk32 : k0_pay32 (F := Ideal) h a b = k0_pay3 (F := Ideal) h a b := rfl
theorem chunk35 : k0_pay35 (F := Ideal) h a b = k0_pay3 (F := Ideal) h a b := rfl
theorem chunk7 : k0_pay7 (F := Ideal) h (k0_pay5 h a) (k0_pay6 b) = k0_pay3 (F := Ideal) h a b := rfl
theorem chunk10 : k0_pay10 (F := Ideal) (k0_pay9 h a b) = k0_pay3 (F := Ideal) h a b := rfl
theorem chunk14 : k0_pay14 (F := Ideal) h (k0_pay13 a) (constant S512x256 FTy.f32 0x00000000#32) b = k0_pay3 (F := Ideal) h a b := rfl
theorem chunk17 : k0_pay17 (F := Ideal) (k0_pay16 h a b) = k0_pay3 (F := Ideal) h a b := rfl
theorem chunk24 : k0_pay24 (F := Ideal) h (k0_pay23 a) b = k0_pay3 (F := Ideal) h a b := rfl
theorem chunk28 : k0_pay28 (F := Ideal) (k0_pay26 h b) (k0_pay27 h a) = k0_pay3 (F := Ideal) h a b := rfl
theorem chunk34 : k0_pay34 (F := Ideal) h (k0_pay33 h a) b = k0_pay3 (F := Ideal) h a b := rfl
theorem chunk37 : k0_pay37 (F := Ideal) (k0_pay36 h a b) = k0_pay3 (F := Ideal) h a b := rfl
end

/-- The layer's result at row `i`, from the arrays the program was called with. -/
def res (c : Dev nD) (i : Fin 16384) : Fin 1024 → EReal :=
  Ffn.row (fun k => m ((c : Thread nD τ).loc main_arg0) (ix2 i k)) (fun k => m ((c : Thread nD τ).loc main_arg2) (ix3 1 2 k))
    (fun k => m ((c : Thread nD τ).loc main_arg1) (ix4 1 0 6 k)) (fun k => m ((c : Thread nD τ).loc main_arg1) (ix4 1 0 7 k))
    (fun k => m ((c : Thread nD τ).loc main_arg1) (ix4 1 0 8 k)) (fun k => m ((c : Thread nD τ).loc main_arg5) (ix1 k))
    (fun k f => m ((c : Thread nD τ).loc main_arg3) (ix2 k f)) (fun f d => m ((c : Thread nD τ).loc main_arg4) (ix2 f d))

/-- The normalised, modulated row `i` from the arrays. -/
def hid (c : Dev nD) (i : Fin 16384) : Fin 1024 → EReal :=
  Ffn.normed (fun k => m ((c : Thread nD τ).loc main_arg0) (ix2 i k)) (fun k => m ((c : Thread nD τ).loc main_arg2) (ix3 1 2 k))
    (fun k => m ((c : Thread nD τ).loc main_arg1) (ix4 1 0 6 k)) (fun k => m ((c : Thread nD τ).loc main_arg1) (ix4 1 0 7 k))

theorem idx : ∀ t : Fin cfg0.N, win0_0.index t = ![t.val, 0] ∧ win0_1.index t = ![min (2 * t.val + 2) 31, 0]
    ∧ win0_2.index t = ![1, 0, 0, 0] ∧ win0_3.index t = ![1, 2, 0, 0] ∧ win0_4.index t = ![0, 0] ∧ win0_5.index t = ![0, 0]
    ∧ win0_6.index t = ![0, 0] ∧ win0_7.index t = ![t.val, 0] :=
  (by decide +kernel : ∀ t : Fin grid0.N, _)

theorem x_blk (c : Dev nD) (t : Fin cfg0.N) (r : Fin 1024) (k : Fin 1024) (i : Fin 16384) (hi : i.val = 1024 * t.val + r.val) :
    iblk m c 0 t (ix2 r k) = m ((c : Thread nD τ).loc main_arg0) (ix2 i k) := by
  blk_point [iblk, V, idx t]
theorem n_blk (c : Dev nD) (t : Fin cfg0.N) (r : Fin 512) (k : Fin 1024) (i : Fin 16384) (hi : i.val = 512 * (min (2 * t.val + 2) 31) + r.val) :
    iblk m c 1 t (ix2 r k) = m ((c : Thread nD τ).loc main_arg0) (ix2 i k) := by
  blk_point [iblk, V, idx t]
theorem mod_blk (c : Dev nD) (t : Fin cfg0.N) (s : Fin 9) (k : Fin 1024) :
    iblk m c 2 t (ix4 0 0 s k) = m ((c : Thread nD τ).loc main_arg1) (ix4 1 0 s k) := by
  blk_point [iblk, V, idx t]
theorem gain_blk (c : Dev nD) (t : Fin cfg0.N) (k : Fin 1024) :
    iblk m c 3 t (ix4 0 0 0 k) = m ((c : Thread nD τ).loc main_arg2) (ix3 1 2 k) := by
  blk_point [iblk, V, idx t]
theorem w13_blk (c : Dev nD) (t : Fin cfg0.N) (k : Fin 1024) (f : Fin 5632) :
    iblk m c 4 t (ix2 k f) = m ((c : Thread nD τ).loc main_arg3) (ix2 k f) := by
  blk_point [iblk, V, idx t]
theorem w2_blk (c : Dev nD) (t : Fin cfg0.N) (f : Fin 2816) (k : Fin 1024) :
    iblk m c 5 t (ix2 f k) = m ((c : Thread nD τ).loc main_arg4) (ix2 f k) := by
  blk_point [iblk, V, idx t]
theorem fg_blk (c : Dev nD) (t : Fin cfg0.N) (k : Fin 1024) :
    iblk m c 6 t (ix2 0 k) = m ((c : Thread nD τ).loc main_arg5) (ix1 k) := by
  blk_point [iblk, V, idx t]

theorem out_core (c : Dev nD) (X : Vec Ideal S512x1024 .f32) (act : Vec Ideal S512x2816 .bf16) (w2 : Vec Ideal S2816x1024 .bf16)
    (gate : Vec Ideal S1x1x1x1024 .f32) (fg : Vec Ideal S1x1024 .f32) (r : Fin 512) (d : Fin 1024) (i : Fin 16384)
    (hX : ∀ k, X (ix2 r k) = m ((c : Thread nD τ).loc main_arg0) (ix2 i k))
    (hg : ∀ k, gate (ix4 0 0 0 k) = m ((c : Thread nD τ).loc main_arg1) (ix4 1 0 8 k))
    (hf : ∀ k, fg (ix2 0 k) = m ((c : Thread nD τ).loc main_arg5) (ix1 k))
    (hw : ∀ f k, w2 (ix2 f k) = m ((c : Thread nD τ).loc main_arg4) (ix2 f k))
    (ha : ∀ f, act (ix2 r f) = Ffn.act (hid m c i) (fun k f => m ((c : Thread nD τ).loc main_arg3) (ix2 k f)) f) :
    k0_pay21 X (k0_pay20 gate) (k0_pay19 act w2) fg (ix2 r d) = res m c i d := by
  rw [fin_at]
  simp only [proj_at, hX, hg, hf, hw, ha]
  rfl

theorem cols_idx (w : Vec Ideal S1024x5632 .bf16) (o : ℕ) (inb) (k : Fin 1024) (l : Fin 256) (n : Fin 5632) (hn : n.val = o + l.val) :
    w ((Rect.unit (s := S1024x5632) ![0, o] ![1024, 256] inb).idx (ix2 k l)) = w (ix2 k n) := by
  refine congrArg w (funext fun a => ?_)
  fin_cases a
  · exact Fin.ext (by simp)
  · exact Fin.ext (by simp [hn])

/-- What one chunk holds at a lane, over rows already known to be the normalised rows. -/
theorem chunk_hid (c : Dev nD) (hn : Vec Ideal S512x1024 .bf16) (w : Vec Ideal S1024x5632 .bf16) (p : Vec Ideal S512x256 .bf16) (o o' : ℕ) (inb inb')
    (i : Fin 16384) (r : Fin 512) (ho : o' = 2816 + o)
    (hp : p = k0_pay3 hn (View.ld (Val := Elt Ideal) w (Rect.unit (s := S1024x5632) ![0, o] ![1024, 256] inb)) (View.ld (Val := Elt Ideal) w (Rect.unit (s := S1024x5632) ![0, o'] ![1024, 256] inb')))
    (hh : ∀ k, hn (ix2 r k) = hid m c i k) (hw : ∀ k f, w (ix2 k f) = m ((c : Thread nD τ).loc main_arg3) (ix2 k f))
    (l : Fin 256) (f : Fin 2816) (hf : f.val = o + l.val) :
    p (ix2 r l) = Ffn.act (hid m c i) (fun k f => m ((c : Thread nD τ).loc main_arg3) (ix2 k f)) f := by
  subst hp
  rw [chunk_at hn w _ _ o (fun k l hl => cols_idx w _ _ k l _ rfl) (fun k l hl => cols_idx w _ _ k l _ (by dsimp only; omega)) r l f hf]
  simp only [hh, hw]

/-- The rows the body normalises ahead and leaves for the next point: those of the next 512-row tile. -/
theorem carry_at (c : Dev nD) (t : Fin cfg0.N) (r : Fin 512) (k : Fin 1024) (i : Fin 16384)
    (hi : i.val = 512 * (min (2 * t.val + 2) 31) + r.val) : (outsAt0 m c t.val t.isLt).2 (ix2 r k) = hid m c i k := by
  by_cases ht : t.val % 16 = 0
  · rw [outsAt0_A m c t ht]; frame_out
    rw [carried_at, hid]
    congr 1 <;> funext k <;> blk_point [iblk, V, idx t]
  · rw [outsAt0_B m c t ht]; frame_out
    rw [carried_at, hid]
    congr 1 <;> funext k <;> blk_point [iblk, V, idx t]

theorem whole_idx (r : Fin 512) (f : Fin 2816) :
    (Rect.unit (s := S512x2816) ![0, 0] ![512, 2816] inb_S512x2816_S512x2816_0_0).toLoadRect.idx (ix2 r f) = ix2 r f := by
  funext a; fin_cases a <;> exact Fin.ext (by simp)

/-- One chunk's store: a lane inside it reads the chunk, a lane outside what was stored before. -/
theorem chunk_step (o : ℕ) (inb) (p : Vec Ideal S512x256 .bf16) (L : List (View.Piece (Elt Ideal) S512x2816 .bf16)) (r : Fin 512) (f : Fin 2816) (z : EReal)
    (h1 : ∀ l : Fin 256, f.val = o + l.val → p (ix2 r l) = z)
    (h2 : ¬(o ≤ f.val ∧ f.val < o + 256) → View.canon (Val := Elt Ideal) L (ix2 r f) = z) :
    View.canon (Val := Elt Ideal) (⟨Rect.unit ![0, o] ![512, 256] inb, p⟩ :: L) (ix2 r f) = z := by
  by_cases hm : o ≤ f.val ∧ f.val < o + 256
  · have e : (ix2 r f : S512x2816.Idx) = (Rect.unit (s := S512x2816) ![0, o] ![512, 256] inb).emb (ix2 r ⟨f.val - o, by omega⟩) := by
      funext a; fin_cases a
      · exact Fin.ext (by simp)
      · exact Fin.ext (by simp; omega)
    rw [e, View.canon_cons_emb]
    exact h1 ⟨f.val - o, by omega⟩ (by dsimp only; omega)
  · rw [View.canon_cons_of_not_mem]
    · exact h2 hm
    · intro hy
      obtain ⟨x, hx⟩ := LoadRect.exists_idx_of_mem _ hy
      apply hm
      have h := congrArg (fun y : S512x2816.Idx => (y 1).val) hx
      have hl : (x 1).val < 256 := (x 1).isLt
      have h' : o + 1 * (x 1).val = f.val := h
      omega

/-- The hidden rows read back whole, stored as eleven chunks of 256 lanes over whatever was there. -/
theorem hidden_at (v : View sig .tc .vmem S512x2816 .bf16) (L : List (View.Piece (Elt Ideal) S512x2816 .bf16)) (p0 p1 p2 p3 p4 p5 p6 p7 p8 p9 p10 : Vec Ideal S512x256 .bf16) (r : Fin 512) (q : Fin 2816 → EReal)
    (e0 : ∀ (l : Fin 256) (f : Fin 2816), f.val = 0 + l.val → p0 (ix2 r l) = q f)
    (e1 : ∀ (l : Fin 256) (f : Fin 2816), f.val = 256 + l.val → p1 (ix2 r l) = q f)
    (e2 : ∀ (l : Fin 256) (f : Fin 2816), f.val = 512 + l.val → p2 (ix2 r l) = q f)
    (e3 : ∀ (l : Fin 256) (f : Fin 2816), f.val = 768 + l.val → p3 (ix2 r l) = q f)
    (e4 : ∀ (l : Fin 256) (f : Fin 2816), f.val = 1024 + l.val → p4 (ix2 r l) = q f)
    (e5 : ∀ (l : Fin 256) (f : Fin 2816), f.val = 1280 + l.val → p5 (ix2 r l) = q f)
    (e6 : ∀ (l : Fin 256) (f : Fin 2816), f.val = 1536 + l.val → p6 (ix2 r l) = q f)
    (e7 : ∀ (l : Fin 256) (f : Fin 2816), f.val = 1792 + l.val → p7 (ix2 r l) = q f)
    (e8 : ∀ (l : Fin 256) (f : Fin 2816), f.val = 2048 + l.val → p8 (ix2 r l) = q f)
    (e9 : ∀ (l : Fin 256) (f : Fin 2816), f.val = 2304 + l.val → p9 (ix2 r l) = q f)
    (e10 : ∀ (l : Fin 256) (f : Fin 2816), f.val = 2560 + l.val → p10 (ix2 r l) = q f) (f : Fin 2816) :
    v.readCov (Val := Elt Ideal) (⟨Rect.unit ![0, 2560] ![512, 256] inb_S512x2816_S512x256_0_2560, p10⟩ :: ⟨Rect.unit ![0, 2304] ![512, 256] inb_S512x2816_S512x256_0_2304, p9⟩ :: ⟨Rect.unit ![0, 2048] ![512, 256] inb_S512x2816_S512x256_0_2048, p8⟩ :: ⟨Rect.unit ![0, 1792] ![512, 256] inb_S512x2816_S512x256_0_1792, p7⟩ :: ⟨Rect.unit ![0, 1536] ![512, 256] inb_S512x2816_S512x256_0_1536, p6⟩ :: ⟨Rect.unit ![0, 1280] ![512, 256] inb_S512x2816_S512x256_0_1280, p5⟩ :: ⟨Rect.unit ![0, 1024] ![512, 256] inb_S512x2816_S512x256_0_1024, p4⟩ :: ⟨Rect.unit ![0, 768] ![512, 256] inb_S512x2816_S512x256_0_768, p3⟩ :: ⟨Rect.unit ![0, 512] ![512, 256] inb_S512x2816_S512x256_0_512, p2⟩ :: ⟨Rect.unit ![0, 256] ![512, 256] inb_S512x2816_S512x256_0_256, p1⟩ :: ⟨Rect.unit ![0, 0] ![512, 256] inb_S512x2816_S512x256_0_0, p0⟩ :: L) (Rect.unit ![0, 0] ![512, 2816] inb_S512x2816_S512x2816_0_0).toLoadRect (by exact ix2 r f) = q f := by
  rw [View.readCov_eq_canon']
  simp only [whole_idx]
  refine chunk_step 2560 _ p10 _ r f _ (fun l h => e10 l f h) fun h10 => ?_
  refine chunk_step 2304 _ p9 _ r f _ (fun l h => e9 l f h) fun h9 => ?_
  refine chunk_step 2048 _ p8 _ r f _ (fun l h => e8 l f h) fun h8 => ?_
  refine chunk_step 1792 _ p7 _ r f _ (fun l h => e7 l f h) fun h7 => ?_
  refine chunk_step 1536 _ p6 _ r f _ (fun l h => e6 l f h) fun h6 => ?_
  refine chunk_step 1280 _ p5 _ r f _ (fun l h => e5 l f h) fun h5 => ?_
  refine chunk_step 1024 _ p4 _ r f _ (fun l h => e4 l f h) fun h4 => ?_
  refine chunk_step 768 _ p3 _ r f _ (fun l h => e3 l f h) fun h3 => ?_
  refine chunk_step 512 _ p2 _ r f _ (fun l h => e2 l f h) fun h2 => ?_
  refine chunk_step 256 _ p1 _ r f _ (fun l h => e1 l f h) fun h1 => ?_
  refine chunk_step 0 _ p0 _ r f _ (fun l h => e0 l f h) fun h0 => ?_
  omega

/-- The rows the body normalises from the first half of its own tile, and from the second. -/
theorem hn_at0 (c : Dev nD) (t : Fin cfg0.N) (i : Fin 16384) (k : Fin 1024) (x0 : Fin 512) (hi : i.val = 1024 * t.val + x0.val) :
    k0_pay1 (F := Ideal) (View.ld (iblk m c 0 t) (Rect.unit ![0, 0] ![512, 1024] inb_S1024x1024_S512x1024_0_0)) (iblk m c 3 t)
      (View.ld (iblk m c 2 t) (Rect.unit ![0, 0, 6, 0] ![1, 1, 1, 1024] inb_S1x1x9x1024_S1x1x1x1024_0_0_6_0))
      (View.ld (iblk m c 2 t) (Rect.unit ![0, 0, 7, 0] ![1, 1, 1, 1024] inb_S1x1x9x1024_S1x1x1x1024_0_0_7_0)) (ix2 x0 k)
      = hid m c i k := by
  rw [normed_at, hid]
  congr 1 <;> funext k <;> blk_point [iblk, V, idx t]

theorem hn_at1 (c : Dev nD) (t : Fin cfg0.N) (i : Fin 16384) (k : Fin 1024) (x0 : Fin 512) (hi : i.val = 1024 * t.val + (512 + x0.val)) :
    k0_pay1 (F := Ideal) (View.ld (iblk m c 0 t) (Rect.unit ![512, 0] ![512, 1024] inb_S1024x1024_S512x1024_512_0)) (iblk m c 3 t)
      (View.ld (iblk m c 2 t) (Rect.unit ![0, 0, 6, 0] ![1, 1, 1, 1024] inb_S1x1x9x1024_S1x1x1x1024_0_0_6_0))
      (View.ld (iblk m c 2 t) (Rect.unit ![0, 0, 7, 0] ![1, 1, 1, 1024] inb_S1x1x9x1024_S1x1x1x1024_0_0_7_0)) (ix2 x0 k)
      = hid m c i k := by
  rw [normed_at, hid]
  congr 1 <;> funext k <;> blk_point [iblk, V, idx t]

end Cert.Kernel2Ideal.Tile
-- ==== Proof.FfnOut.lean ====
module

public import proofs.«01_k».proof.Proof.Gen.Kernel2Ideal.Value
public import proofs.«01_k».proof.Proof.FfnTile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Tile

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- The block the first point writes: its rows are all normalised in the point itself. -/
theorem out_at_A (c : Dev nD) (t : Fin cfg0.N) (ht : t.val % 16 = 0) (y : S1024x1024.Idx) (i : Fin 16384) (hi : i.val = 1024 * t.val + (y 0).val) :
    (outsAt0 m c t.val t.isLt).1 y = res m c i (y 1) := by
  have hw := w13_blk m c t
  rw [outsAt0_A m c t ht]; frame_out
  canon_tiles x h
  all_goals idx_vars x
  all_goals rw [show y 1 = x1 from Fin.ext h1]
  case piece0 =>
      rw [pay42_eq, pay38_eq, pay2_eq]
      refine out_core m c (View.ld (iblk m c 0 t) (Rect.unit ![512, 0] ![512, 1024] inb_S1024x1024_S512x1024_512_0)) _ _ _ _ x0 x1 i
        (fun k => by blk_point [iblk, V, idx t]) (fun k => by blk_point [iblk, V, idx t]) (fg_blk m c t) (w2_blk m c t) fun f => ?_
      have hh : ∀ k, _ = hid m c i k := fun k => hn_at1 m c t i k x0 (by omega)
      generalize k0_pay1 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk4, chunk8, chunk11, chunk12, chunk15, chunk18, chunk22, chunk25, chunk29, chunk30, chunk31, chunk32, chunk35, chunk7, chunk10, chunk14, chunk17, chunk24, chunk28, chunk34, chunk37]
      all_goals exact chunk_hid m c hn w _ _ _ _ _ i x0 rfl rfl hh hw
  case piece1 =>
      refine out_core m c (View.ld (iblk m c 0 t) (Rect.unit ![0, 0] ![512, 1024] inb_S1024x1024_S512x1024_0_0)) _ _ _ _ x0 x1 i
        (fun k => by blk_point [iblk, V, idx t]) (fun k => by blk_point [iblk, V, idx t]) (fg_blk m c t) (w2_blk m c t) fun f => ?_
      have hh : ∀ k, _ = hid m c i k := fun k => hn_at0 m c t i k x0 (by omega)
      generalize k0_pay1 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk4, chunk8, chunk11, chunk12, chunk15, chunk18, chunk22, chunk25, chunk29, chunk30, chunk31, chunk32, chunk35, chunk7, chunk10, chunk14, chunk17, chunk24, chunk28, chunk34, chunk37]
      all_goals exact chunk_hid m c hn w _ _ _ _ _ i x0 rfl rfl hh hw

set_option maxHeartbeats 4000000 in
/-- The block any later point writes: the first half's rows were normalised by the point before. -/
theorem out_at_B (c : Dev nD) (t : Fin cfg0.N) (ht : ¬t.val % 16 = 0) (y : S1024x1024.Idx) (i : Fin 16384) (hi : i.val = 1024 * t.val + (y 0).val) :
    (outsAt0 m c t.val t.isLt).1 y = res m c i (y 1) := by
  have hw := w13_blk m c t
  rw [outsAt0_B m c t ht]; frame_out
  simp only [read_unread_whole]
  canon_tiles x h
  all_goals idx_vars x
  all_goals rw [show y 1 = x1 from Fin.ext h1]
  case piece0 =>
      rw [pay42_eq, pay38_eq, pay2_eq]
      refine out_core m c (View.ld (iblk m c 0 t) (Rect.unit ![512, 0] ![512, 1024] inb_S1024x1024_S512x1024_512_0)) _ _ _ _ x0 x1 i
        (fun k => by blk_point [iblk, V, idx t]) (fun k => by blk_point [iblk, V, idx t]) (fg_blk m c t) (w2_blk m c t) fun f => ?_
      have hh : ∀ k, _ = hid m c i k := fun k => hn_at1 m c t i k x0 (by omega)
      generalize k0_pay1 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk4, chunk8, chunk11, chunk12, chunk15, chunk18, chunk22, chunk25, chunk29, chunk30, chunk31, chunk32, chunk35, chunk7, chunk10, chunk14, chunk17, chunk24, chunk28, chunk34, chunk37]
      all_goals exact chunk_hid m c hn w _ _ _ _ _ i x0 rfl rfl hh hw
  case piece1 =>
      refine out_core m c (View.ld (iblk m c 0 t) (Rect.unit ![0, 0] ![512, 1024] inb_S1024x1024_S512x1024_0_0)) _ _ _ _ x0 x1 i
        (fun k => by blk_point [iblk, V, idx t]) (fun k => by blk_point [iblk, V, idx t]) (fg_blk m c t) (w2_blk m c t) fun f => ?_
      have hh : ∀ k, _ = hid m c i k := fun k => carry_at m c ⟨t.val - 1, by have := t.isLt; omega⟩ x0 k i (by have ht' : t.val < 16 := t.isLt; dsimp only; omega)
      generalize (outsAt0 m c (t.val - 1) _).2 = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk4, chunk8, chunk11, chunk12, chunk15, chunk18, chunk22, chunk25, chunk29, chunk30, chunk31, chunk32, chunk35, chunk7, chunk10, chunk14, chunk17, chunk24, chunk28, chunk34, chunk37]
      all_goals exact chunk_hid m c hn w _ _ _ _ _ i x0 rfl rfl hh hw

/-- THE RESULT ARRAY: the layer, row by row. -/
theorem final (c : Dev nD) : (dats m 0 c).arrAt 7 cfg0.N = fun i : S16384x1024.Idx => res m c (i 0) (i 1) := by
  refine (dats m 0 c).arrAt_eq_of_covers 7 _ (by decide +kernel) fun t hf y => ?_
  have h7 := (idx t).2.2.2.2.2.2.2
  have e1 : (win0_7.blk t).view.emb y 1 = y 1 := Fin.ext (by blk_simp [h7])
  have e0 : ((win0_7.blk t).view.emb y 0).val = 1024 * t.val + (y 0).val := by (blk_simp [h7]; omega)
  have key : (outsAt0 m c t.val t.isLt).1 y = res m c ((win0_7.blk t).view.emb y 0) (y 1) := by
    by_cases ht : t.val % 16 = 0
    · exact out_at_A m c t ht y _ e0
    · exact out_at_B m c t ht y _ e0
  blk_simp
  rw [after0_7]
  rw [key]
  exact congrArg _ e1.symm
end Cert.Kernel2Ideal.Tile
-- ==== Proof.FfnRef.lean ====
module

public import proofs.«01_k».proof.Proof.Gen.Reference2Ideal.Run
public import proofs.«01_k».proof.Proof.FfnOut

/-!
# The plain feed-forward layer, and its agreement with the kernel
-/

@[expose] public section

set_option maxRecDepth 16384

noncomputable section

namespace Cert.FfnClaim

open Idealize.ShloMosaic Idealize.ShloMosaic.TcCoe Idealize.SL.Sem

/-- The reference's result at row `i`, lane `d`, is the layer on that row. -/
theorem ref_at (m : (ℓ : Loc Reference2Ideal.nD Reference2Ideal.τ Reference2Ideal.sig) → Buf (Elt Ideal) ℓ) (c : Dev Reference2Ideal.nD)
    (i : Fin 16384) (d : Fin 1024) :
    Reference2Ideal.Value.res_main_v55 (F := Ideal) m c (ix2 i d)
      = Ffn.row (fun k => m ((c.tc : Thread _ _).loc Reference2Ideal.main_arg0) (ix2 i k))
          (fun k => m ((c.tc : Thread _ _).loc Reference2Ideal.main_arg2) (ix3 1 2 k))
          (fun k => m ((c.tc : Thread _ _).loc Reference2Ideal.main_arg1) (ix4 1 0 6 k))
          (fun k => m ((c.tc : Thread _ _).loc Reference2Ideal.main_arg1) (ix4 1 0 7 k))
          (fun k => m ((c.tc : Thread _ _).loc Reference2Ideal.main_arg1) (ix4 1 0 8 k))
          (fun k => m ((c.tc : Thread _ _).loc Reference2Ideal.main_arg5) (ix1 k))
          (fun k f => m ((c.tc : Thread _ _).loc Reference2Ideal.main_arg3) (ix2 k f))
          (fun f d => m ((c.tc : Thread _ _).loc Reference2Ideal.main_arg4) (ix2 f d)) d := by
  pointwise [Reference2Ideal.Value.res_main_v55, Ffn.row, Ffn.fin, Ffn.mlp, Ffn.act, Ffn.normed, Ffn.rms]
  rfl

/-- The two result arrays agree where the arguments do. -/
theorem arr (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (e0 : m' ((c.tc : Thread _ _).loc Reference2Ideal.main_arg0) = m ((c.tc : Thread _ _).loc Kernel2Ideal.main_arg0))
    (e1 : m' ((c.tc : Thread _ _).loc Reference2Ideal.main_arg1) = m ((c.tc : Thread _ _).loc Kernel2Ideal.main_arg1))
    (e2 : m' ((c.tc : Thread _ _).loc Reference2Ideal.main_arg2) = m ((c.tc : Thread _ _).loc Kernel2Ideal.main_arg2))
    (e3 : m' ((c.tc : Thread _ _).loc Reference2Ideal.main_arg3) = m ((c.tc : Thread _ _).loc Kernel2Ideal.main_arg3))
    (e4 : m' ((c.tc : Thread _ _).loc Reference2Ideal.main_arg4) = m ((c.tc : Thread _ _).loc Kernel2Ideal.main_arg4))
    (e5 : m' ((c.tc : Thread _ _).loc Reference2Ideal.main_arg5) = m ((c.tc : Thread _ _).loc Kernel2Ideal.main_arg5)) :
    Reference2Ideal.Value.res_main_v55 (F := Ideal) m' c = (Kernel2Ideal.Gen.dats m 0 c).arrAt 7 (Kernel2Ideal.cfgs 0).N := by
  rw [Kernel2Ideal.Tile.final m c]
  funext i
  idx_vars i
  rw [ref_at, e0, e1, e2, e3, e4, e5]
  rfl

end Cert.FfnClaim
-- ==== Proof.FfnCastTile.lean ====
module

public import proofs.«01_k».proof.Proof.Gen.Kernel3Ideal.Value
public import proofs.«01_k».proof.Proof.FfnRow
public import Idealize.ShloMosaic.Lib.Pipeline.ValueKit
public import Idealize.ShloMosaic.Lib.Pointwise

@[expose] public section

set_option maxRecDepth 16384

noncomputable section

namespace Cert.Kernel3Ideal.Tile

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-! ## The body's steps on one row -/

theorem normed_at (x : Vec Ideal S512x1024 .f32) (g sh sc : Vec Ideal S1x1x1x1024 .f32) (r : Fin 512) (d : Fin 1024) :
    k0_pay5 (F := Ideal) x g sh sc (ix2 r d)
      = Ffn.normed (fun k => x (ix2 r k)) (fun k => g (ix4 0 0 0 k)) (fun k => sh (ix4 0 0 0 k)) (fun k => sc (ix4 0 0 0 k)) d := by
  pointwise [k0_pay5, Ffn.normed, Ffn.rms]

theorem normed_eq (x : Vec Ideal S512x1024 .f32) (g sh sc : Vec Ideal S1x1x1x1024 .f32) :
    k0_pay10 (F := Ideal) x (k0_pay6 g) (k0_pay7 sh) (k0_pay8 sc) (k0_pay9 x) = k0_pay5 (F := Ideal) x g sh sc := rfl

theorem carried_at (x : Vec Ideal S512x1024 .f32) (g sh sc : Vec Ideal S1x1x1x1024 .f32) (r : Fin 512) (d : Fin 1024) :
    k0_pay1 (F := Ideal) (k0_pay45 sh) (k0_pay46 x g) (k0_pay47 sc) (ix2 r d)
      = Ffn.normed (fun k => x (ix2 r k)) (fun k => g (ix4 0 0 0 k)) (fun k => sh (ix4 0 0 0 k)) (fun k => sc (ix4 0 0 0 k)) d := by
  pointwise [k0_pay1, k0_pay45, k0_pay46, k0_pay47, Ffn.normed, Ffn.rms]

/-- A chunk of 256 hidden values, from two slices of the first weight that begin at lanes `o` and `2816 + o`. -/
theorem chunk_at (h : Vec Ideal S512x1024 .bf16) (w : Vec Ideal S1024x5632 .bf16) (wa wb : Vec Ideal S1024x256 .bf16) (o : ℕ)
    (ha : ∀ k (l : Fin 256) (hl : o + l.val < 5632), wa (ix2 k l) = w (ix2 k ⟨o + l.val, hl⟩))
    (hb : ∀ k (l : Fin 256) (hl : 2816 + (o + l.val) < 5632), wb (ix2 k l) = w (ix2 k ⟨2816 + (o + l.val), hl⟩))
    (r : Fin 512) (l : Fin 256) (f : Fin 2816) (hf : f.val = o + l.val) :
    k0_pay11 (F := Ideal) h wa wb (ix2 r l) = Ffn.act (fun k => h (ix2 r k)) (fun k f => w (ix2 k f)) f := by
  obtain ⟨f, hf'⟩ := f
  obtain rfl : f = o + l.val := hf
  have e1 : ∀ k, wa (ix2 k l) = w (ix2 k ⟨o + l.val, by omega⟩) := fun k => ha k l _
  have e2 : ∀ k, wb (ix2 k l) = w (ix2 k ⟨2816 + (o + l.val), by omega⟩) := fun k => hb k l _
  pointwise [k0_pay11, Ffn.act, e1, e2]

theorem proj_at (a : Vec Ideal S512x2816 .bf16) (w2 : Vec Ideal S2816x1024 .bf16) (r : Fin 512) (d : Fin 1024) :
    k0_pay27 (F := Ideal) a w2 (ix2 r d) = ∑ f, a (ix2 r f) * w2 (ix2 f d) := by
  pointwise [k0_pay27]

theorem add_at (x : Vec Ideal S512x1024 .f32) (gate : Vec Ideal S1x1x1x1024 .f32) (acc : Vec Ideal S512x1024 .f32) (r : Fin 512) (d : Fin 1024) :
    k0_pay28 (F := Ideal) x gate acc (ix2 r d)
      = x (ix2 r d) + Ideal.ofBits FTy.f32 1056964608#32 * gate (ix4 0 0 0 d) * acc (ix2 r d) := by
  pointwise [k0_pay28]

theorem pay44_eq : k0_pay44 (F := Ideal) = k0_pay27 := rfl
theorem pay2_eq : k0_pay2 (F := Ideal) = k0_pay28 := rfl

/-! The printed chunks are one function of the rows and two slices, cut at different lines. -/

section
variable (h : Vec Ideal S512x1024 .bf16) (a b : Vec Ideal S1024x256 .bf16)
theorem chunk16 : k0_pay16 (F := Ideal) h a b = k0_pay11 (F := Ideal) h a b := rfl
theorem chunk17 : k0_pay17 (F := Ideal) h a b = k0_pay11 (F := Ideal) h a b := rfl
theorem chunk18 : k0_pay18 (F := Ideal) h a b = k0_pay11 (F := Ideal) h a b := rfl
theorem chunk19 : k0_pay19 (F := Ideal) h a b = k0_pay11 (F := Ideal) h a b := rfl
theorem chunk22 : k0_pay22 (F := Ideal) h a b = k0_pay11 (F := Ideal) h a b := rfl
theorem chunk25 : k0_pay25 (F := Ideal) h a b = k0_pay11 (F := Ideal) h a b := rfl
theorem chunk26 : k0_pay26 (F := Ideal) h a b = k0_pay11 (F := Ideal) h a b := rfl
theorem chunk29 : k0_pay29 (F := Ideal) h a b = k0_pay11 (F := Ideal) h a b := rfl
theorem chunk30 : k0_pay30 (F := Ideal) h a b = k0_pay11 (F := Ideal) h a b := rfl
theorem chunk31 : k0_pay31 (F := Ideal) h a b = k0_pay11 (F := Ideal) h a b := rfl
theorem chunk35 : k0_pay35 (F := Ideal) h a b = k0_pay11 (F := Ideal) h a b := rfl
theorem chunk36 : k0_pay36 (F := Ideal) h a b = k0_pay11 (F := Ideal) h a b := rfl
theorem chunk37 : k0_pay37 (F := Ideal) h a b = k0_pay11 (F := Ideal) h a b := rfl
theorem chunk38 : k0_pay38 (F := Ideal) h a b = k0_pay11 (F := Ideal) h a b := rfl
theorem chunk41 : k0_pay41 (F := Ideal) h a b = k0_pay11 (F := Ideal) h a b := rfl
theorem chunk15 : k0_pay15 (F := Ideal) (k0_pay12 h a) (k0_pay13 h b) (k0_pay14 h a) = k0_pay11 (F := Ideal) h a b := rfl
theorem chunk21 : k0_pay21 (F := Ideal) h (k0_pay20 h a) b = k0_pay11 (F := Ideal) h a b := rfl
theorem chunk24 : k0_pay24 (F := Ideal) (k0_pay23 h a b) = k0_pay11 (F := Ideal) h a b := rfl
theorem chunk34 : k0_pay34 (F := Ideal) h (k0_pay32 h a) (k0_pay33 b) (constant S512x256 FTy.f32 0x00000000#32) = k0_pay11 (F := Ideal) h a b := rfl
theorem chunk40 : k0_pay40 (F := Ideal) h (k0_pay39 h a) b = k0_pay11 (F := Ideal) h a b := rfl
theorem chunk43 : k0_pay43 (F := Ideal) (k0_pay42 h a b) = k0_pay11 (F := Ideal) h a b := rfl
end

/-- The weights of the layer, out of the stacks of both layers' weights. -/
def w13 (c : Dev nD) (k : Fin 1024) (f : Fin 5632) : EReal := m ((c : Thread nD τ).loc main_arg3) (ix4 0 1 k f)
def w2 (c : Dev nD) (f : Fin 2816) (d : Fin 1024) : EReal := m ((c : Thread nD τ).loc main_arg4) (ix4 0 1 f d)

/-- The layer's result at row `i`, from the arrays the program was called with. -/
def res (c : Dev nD) (i : Fin 16384) : Fin 1024 → EReal :=
  Ffn.step (fun k => m ((c : Thread nD τ).loc main_arg0) (ix2 i k)) (fun k => m ((c : Thread nD τ).loc main_arg2) (ix3 0 2 k))
    (fun k => m ((c : Thread nD τ).loc main_arg1) (ix4 0 0 6 k)) (fun k => m ((c : Thread nD τ).loc main_arg1) (ix4 0 0 7 k))
    (fun k => m ((c : Thread nD τ).loc main_arg1) (ix4 0 0 8 k)) (w13 m c) (w2 m c)

/-- The normalised, modulated row `i` from the arrays. -/
def hid (c : Dev nD) (i : Fin 16384) : Fin 1024 → EReal :=
  Ffn.normed (fun k => m ((c : Thread nD τ).loc main_arg0) (ix2 i k)) (fun k => m ((c : Thread nD τ).loc main_arg2) (ix3 0 2 k))
    (fun k => m ((c : Thread nD τ).loc main_arg1) (ix4 0 0 6 k)) (fun k => m ((c : Thread nD τ).loc main_arg1) (ix4 0 0 7 k))

theorem idx : ∀ t : Fin cfg0.N, win0_0.index t = ![t.val, 0] ∧ win0_1.index t = ![min (2 * t.val + 2) 31, 0]
    ∧ win0_2.index t = ![0, 0, 0, 0] ∧ win0_3.index t = ![0, 2, 0, 0] ∧ win0_4.index t = ![0, 0] ∧ win0_5.index t = ![0, 0]
    ∧ win0_6.index t = ![1, 0, 0, min t.val 10] ∧ win0_7.index t = ![1, 0, t.val, 0] ∧ win0_8.index t = ![t.val, 0]
    ∧ win0_9.index t = ![0, min t.val 10] ∧ win0_10.index t = ![t.val, 0] :=
  (by decide +kernel : ∀ t : Fin grid0.N, _)

theorem x_blk (c : Dev nD) (t : Fin cfg0.N) (r : Fin 1024) (k : Fin 1024) (i : Fin 16384) (hi : i.val = 1024 * t.val + r.val) :
    iblk m c 0 t (ix2 r k) = m ((c : Thread nD τ).loc main_arg0) (ix2 i k) := by
  blk_point [iblk, V, idx t]
theorem n_blk (c : Dev nD) (t : Fin cfg0.N) (r : Fin 512) (k : Fin 1024) (i : Fin 16384) (hi : i.val = 512 * (min (2 * t.val + 2) 31) + r.val) :
    iblk m c 1 t (ix2 r k) = m ((c : Thread nD τ).loc main_arg0) (ix2 i k) := by
  blk_point [iblk, V, idx t]
theorem mod_blk (c : Dev nD) (t : Fin cfg0.N) (s : Fin 9) (k : Fin 1024) :
    iblk m c 2 t (ix4 0 0 s k) = m ((c : Thread nD τ).loc main_arg1) (ix4 0 0 s k) := by
  blk_point [iblk, V, idx t]
theorem gain_blk (c : Dev nD) (t : Fin cfg0.N) (k : Fin 1024) :
    iblk m c 3 t (ix4 0 0 0 k) = m ((c : Thread nD τ).loc main_arg2) (ix3 0 2 k) := by
  blk_point [iblk, V, idx t]
theorem w13_blk (c : Dev nD) (t : Fin cfg0.N) (k : Fin 1024) (f : Fin 5632) :
    iblk m c 4 t (ix2 k f) = w13 m c k f := by
  rw [w13]; blk_point [iblk, V, idx t]
theorem w2_blk (c : Dev nD) (t : Fin cfg0.N) (f : Fin 2816) (k : Fin 1024) :
    iblk m c 5 t (ix2 f k) = w2 m c f k := by
  rw [w2]; blk_point [iblk, V, idx t]
theorem out_core (c : Dev nD) (X : Vec Ideal S512x1024 .f32) (act : Vec Ideal S512x2816 .bf16) (w : Vec Ideal S2816x1024 .bf16)
    (gate : Vec Ideal S1x1x1x1024 .f32) (r : Fin 512) (d : Fin 1024) (i : Fin 16384)
    (hX : ∀ k, X (ix2 r k) = m ((c : Thread nD τ).loc main_arg0) (ix2 i k))
    (hg : ∀ k, gate (ix4 0 0 0 k) = m ((c : Thread nD τ).loc main_arg1) (ix4 0 0 8 k))
    (hw : ∀ f k, w (ix2 f k) = w2 m c f k)
    (ha : ∀ f, act (ix2 r f) = Ffn.act (hid m c i) (w13 m c) f) :
    k0_pay28 X gate (k0_pay27 act w) (ix2 r d) = res m c i d := by
  rw [add_at]
  simp only [proj_at, hX, hg, hw, ha]
  rfl

theorem cols_idx (w : Vec Ideal S1024x5632 .bf16) (o : ℕ) (inb) (k : Fin 1024) (l : Fin 256) (n : Fin 5632) (hn : n.val = o + l.val) :
    w ((Rect.unit (s := S1024x5632) ![0, o] ![1024, 256] inb).idx (ix2 k l)) = w (ix2 k n) := by
  refine congrArg w (funext fun a => ?_)
  fin_cases a
  · exact Fin.ext (by simp)
  · exact Fin.ext (by simp [hn])

/-- What one chunk holds at a lane, over rows already known to be the normalised rows. -/
theorem chunk_hid (c : Dev nD) (hn : Vec Ideal S512x1024 .bf16) (w : Vec Ideal S1024x5632 .bf16) (p : Vec Ideal S512x256 .bf16) (o o' : ℕ) (inb inb')
    (i : Fin 16384) (r : Fin 512) (ho : o' = 2816 + o)
    (hp : p = k0_pay11 hn (View.ld (Val := Elt Ideal) w (Rect.unit (s := S1024x5632) ![0, o] ![1024, 256] inb)) (View.ld (Val := Elt Ideal) w (Rect.unit (s := S1024x5632) ![0, o'] ![1024, 256] inb')))
    (hh : ∀ k, hn (ix2 r k) = hid m c i k) (hw : ∀ k f, w (ix2 k f) = w13 m c k f)
    (l : Fin 256) (f : Fin 2816) (hf : f.val = o + l.val) :
    p (ix2 r l) = Ffn.act (hid m c i) (w13 m c) f := by
  subst hp
  rw [chunk_at hn w _ _ o (fun k l hl => cols_idx w _ _ k l _ rfl) (fun k l hl => cols_idx w _ _ k l _ (by dsimp only; omega)) r l f hf]
  simp only [hh, hw]

/-- The rows the body normalises ahead and leaves for the next point: those of the next 512-row tile. -/
theorem carry_at (c : Dev nD) (t : Fin cfg0.N) (r : Fin 512) (k : Fin 1024) (i : Fin 16384)
    (hi : i.val = 512 * (min (2 * t.val + 2) 31) + r.val) : (outsAt0 m c t.val t.isLt).2.2.2 (ix2 r k) = hid m c i k := by
  by_cases ht : t.val % 16 = 0
  · rw [outsAt0_A m c t ht]; frame_out
    rw [carried_at, hid]
    congr 1 <;> funext k <;> blk_point [iblk, V, idx t]
  · rw [outsAt0_B m c t ht]; frame_out
    rw [carried_at, hid]
    congr 1 <;> funext k <;> blk_point [iblk, V, idx t]

theorem whole_idx (r : Fin 512) (f : Fin 2816) :
    (Rect.unit (s := S512x2816) ![0, 0] ![512, 2816] inb_S512x2816_S512x2816_0_0).toLoadRect.idx (ix2 r f) = ix2 r f := by
  funext a; fin_cases a <;> exact Fin.ext (by simp)

/-- One chunk's store: a lane inside it reads the chunk, a lane outside what was stored before. -/
theorem chunk_step (o : ℕ) (inb) (p : Vec Ideal S512x256 .bf16) (L : List (View.Piece (Elt Ideal) S512x2816 .bf16)) (r : Fin 512) (f : Fin 2816) (z : EReal)
    (h1 : ∀ l : Fin 256, f.val = o + l.val → p (ix2 r l) = z)
    (h2 : ¬(o ≤ f.val ∧ f.val < o + 256) → View.canon (Val := Elt Ideal) L (ix2 r f) = z) :
    View.canon (Val := Elt Ideal) (⟨Rect.unit ![0, o] ![512, 256] inb, p⟩ :: L) (ix2 r f) = z := by
  by_cases hm : o ≤ f.val ∧ f.val < o + 256
  · have e : (ix2 r f : S512x2816.Idx) = (Rect.unit (s := S512x2816) ![0, o] ![512, 256] inb).emb (ix2 r ⟨f.val - o, by omega⟩) := by
      funext a; fin_cases a
      · exact Fin.ext (by simp)
      · exact Fin.ext (by simp; omega)
    rw [e, View.canon_cons_emb]
    exact h1 ⟨f.val - o, by omega⟩ (by dsimp only; omega)
  · rw [View.canon_cons_of_not_mem]
    · exact h2 hm
    · intro hy
      obtain ⟨x, hx⟩ := LoadRect.exists_idx_of_mem _ hy
      apply hm
      have h := congrArg (fun y : S512x2816.Idx => (y 1).val) hx
      have hl : (x 1).val < 256 := (x 1).isLt
      have h' : o + 1 * (x 1).val = f.val := h
      omega

/-- The hidden rows read back whole, stored as eleven chunks of 256 lanes over whatever was there. -/
theorem hidden_at (v : View sig .tc .vmem S512x2816 .bf16) (L : List (View.Piece (Elt Ideal) S512x2816 .bf16)) (p0 p1 p2 p3 p4 p5 p6 p7 p8 p9 p10 : Vec Ideal S512x256 .bf16) (r : Fin 512) (q : Fin 2816 → EReal)
    (e0 : ∀ (l : Fin 256) (f : Fin 2816), f.val = 0 + l.val → p0 (ix2 r l) = q f)
    (e1 : ∀ (l : Fin 256) (f : Fin 2816), f.val = 256 + l.val → p1 (ix2 r l) = q f)
    (e2 : ∀ (l : Fin 256) (f : Fin 2816), f.val = 512 + l.val → p2 (ix2 r l) = q f)
    (e3 : ∀ (l : Fin 256) (f : Fin 2816), f.val = 768 + l.val → p3 (ix2 r l) = q f)
    (e4 : ∀ (l : Fin 256) (f : Fin 2816), f.val = 1024 + l.val → p4 (ix2 r l) = q f)
    (e5 : ∀ (l : Fin 256) (f : Fin 2816), f.val = 1280 + l.val → p5 (ix2 r l) = q f)
    (e6 : ∀ (l : Fin 256) (f : Fin 2816), f.val = 1536 + l.val → p6 (ix2 r l) = q f)
    (e7 : ∀ (l : Fin 256) (f : Fin 2816), f.val = 1792 + l.val → p7 (ix2 r l) = q f)
    (e8 : ∀ (l : Fin 256) (f : Fin 2816), f.val = 2048 + l.val → p8 (ix2 r l) = q f)
    (e9 : ∀ (l : Fin 256) (f : Fin 2816), f.val = 2304 + l.val → p9 (ix2 r l) = q f)
    (e10 : ∀ (l : Fin 256) (f : Fin 2816), f.val = 2560 + l.val → p10 (ix2 r l) = q f) (f : Fin 2816) :
    v.readCov (Val := Elt Ideal) (⟨Rect.unit ![0, 2560] ![512, 256] inb_S512x2816_S512x256_0_2560, p10⟩ :: ⟨Rect.unit ![0, 2304] ![512, 256] inb_S512x2816_S512x256_0_2304, p9⟩ :: ⟨Rect.unit ![0, 2048] ![512, 256] inb_S512x2816_S512x256_0_2048, p8⟩ :: ⟨Rect.unit ![0, 1792] ![512, 256] inb_S512x2816_S512x256_0_1792, p7⟩ :: ⟨Rect.unit ![0, 1536] ![512, 256] inb_S512x2816_S512x256_0_1536, p6⟩ :: ⟨Rect.unit ![0, 1280] ![512, 256] inb_S512x2816_S512x256_0_1280, p5⟩ :: ⟨Rect.unit ![0, 1024] ![512, 256] inb_S512x2816_S512x256_0_1024, p4⟩ :: ⟨Rect.unit ![0, 768] ![512, 256] inb_S512x2816_S512x256_0_768, p3⟩ :: ⟨Rect.unit ![0, 512] ![512, 256] inb_S512x2816_S512x256_0_512, p2⟩ :: ⟨Rect.unit ![0, 256] ![512, 256] inb_S512x2816_S512x256_0_256, p1⟩ :: ⟨Rect.unit ![0, 0] ![512, 256] inb_S512x2816_S512x256_0_0, p0⟩ :: L) (Rect.unit ![0, 0] ![512, 2816] inb_S512x2816_S512x2816_0_0).toLoadRect (by exact ix2 r f) = q f := by
  rw [View.readCov_eq_canon']
  simp only [whole_idx]
  refine chunk_step 2560 _ p10 _ r f _ (fun l h => e10 l f h) fun h10 => ?_
  refine chunk_step 2304 _ p9 _ r f _ (fun l h => e9 l f h) fun h9 => ?_
  refine chunk_step 2048 _ p8 _ r f _ (fun l h => e8 l f h) fun h8 => ?_
  refine chunk_step 1792 _ p7 _ r f _ (fun l h => e7 l f h) fun h7 => ?_
  refine chunk_step 1536 _ p6 _ r f _ (fun l h => e6 l f h) fun h6 => ?_
  refine chunk_step 1280 _ p5 _ r f _ (fun l h => e5 l f h) fun h5 => ?_
  refine chunk_step 1024 _ p4 _ r f _ (fun l h => e4 l f h) fun h4 => ?_
  refine chunk_step 768 _ p3 _ r f _ (fun l h => e3 l f h) fun h3 => ?_
  refine chunk_step 512 _ p2 _ r f _ (fun l h => e2 l f h) fun h2 => ?_
  refine chunk_step 256 _ p1 _ r f _ (fun l h => e1 l f h) fun h1 => ?_
  refine chunk_step 0 _ p0 _ r f _ (fun l h => e0 l f h) fun h0 => ?_
  omega

/-- The rows the body normalises from the first half of its own tile, and from the second. -/
theorem hn_at0 (c : Dev nD) (t : Fin cfg0.N) (i : Fin 16384) (k : Fin 1024) (x0 : Fin 512) (hi : i.val = 1024 * t.val + x0.val) :
    k0_pay5 (F := Ideal) (View.ld (iblk m c 0 t) (Rect.unit ![0, 0] ![512, 1024] inb_S1024x1024_S512x1024_0_0)) (iblk m c 3 t)
      (View.ld (iblk m c 2 t) (Rect.unit ![0, 0, 6, 0] ![1, 1, 1, 1024] inb_S1x1x9x1024_S1x1x1x1024_0_0_6_0))
      (View.ld (iblk m c 2 t) (Rect.unit ![0, 0, 7, 0] ![1, 1, 1, 1024] inb_S1x1x9x1024_S1x1x1x1024_0_0_7_0)) (ix2 x0 k)
      = hid m c i k := by
  rw [normed_at, hid]
  congr 1 <;> funext k <;> blk_point [iblk, V, idx t]

theorem hn_at1 (c : Dev nD) (t : Fin cfg0.N) (i : Fin 16384) (k : Fin 1024) (x0 : Fin 512) (hi : i.val = 1024 * t.val + (512 + x0.val)) :
    k0_pay5 (F := Ideal) (View.ld (iblk m c 0 t) (Rect.unit ![512, 0] ![512, 1024] inb_S1024x1024_S512x1024_512_0)) (iblk m c 3 t)
      (View.ld (iblk m c 2 t) (Rect.unit ![0, 0, 6, 0] ![1, 1, 1, 1024] inb_S1x1x9x1024_S1x1x1x1024_0_0_6_0))
      (View.ld (iblk m c 2 t) (Rect.unit ![0, 0, 7, 0] ![1, 1, 1, 1024] inb_S1x1x9x1024_S1x1x1x1024_0_0_7_0)) (ix2 x0 k)
      = hid m c i k := by
  rw [normed_at, hid]
  congr 1 <;> funext k <;> blk_point [iblk, V, idx t]

end Cert.Kernel3Ideal.Tile
-- ==== Proof.FfnCastOut.lean ====
module

public import proofs.«01_k».proof.Proof.Gen.Kernel3Ideal.Value
public import proofs.«01_k».proof.Proof.FfnCastTile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Tile

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- The block the first point writes: its rows are all normalised in the point itself. -/
theorem out_at_A (c : Dev nD) (t : Fin cfg0.N) (ht : t.val % 16 = 0) (y : S1024x1024.Idx) (i : Fin 16384) (hi : i.val = 1024 * t.val + (y 0).val) :
    (outsAt0 m c t.val t.isLt).1 y = res m c i (y 1) := by
  have hw := w13_blk m c t
  rw [outsAt0_A m c t ht]; frame_out
  canon_tiles x h
  all_goals idx_vars x
  all_goals rw [show y 1 = x1 from Fin.ext h1]
  case piece0 =>
      rw [pay44_eq, pay2_eq]
      simp only [normed_eq]
      refine out_core m c (View.ld (iblk m c 0 t) (Rect.unit ![512, 0] ![512, 1024] inb_S1024x1024_S512x1024_512_0)) _ _ _ x0 x1 i
        (fun k => by blk_point [iblk, V, idx t]) (fun k => by blk_point [iblk, V, idx t]) (w2_blk m c t) fun f => ?_
      have hh : ∀ k, _ = hid m c i k := fun k => hn_at1 m c t i k x0 (by omega)
      generalize k0_pay5 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk16, chunk17, chunk18, chunk19, chunk22, chunk25, chunk26, chunk29, chunk30, chunk31, chunk35, chunk36, chunk37, chunk38, chunk41, chunk15, chunk21, chunk24, chunk34, chunk40, chunk43]
      all_goals exact chunk_hid m c hn w _ _ _ _ _ i x0 rfl rfl hh hw
  case piece1 =>
      refine out_core m c (View.ld (iblk m c 0 t) (Rect.unit ![0, 0] ![512, 1024] inb_S1024x1024_S512x1024_0_0)) _ _ _ x0 x1 i
        (fun k => by blk_point [iblk, V, idx t]) (fun k => by blk_point [iblk, V, idx t]) (w2_blk m c t) fun f => ?_
      have hh : ∀ k, _ = hid m c i k := fun k => hn_at0 m c t i k x0 (by omega)
      generalize k0_pay5 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk16, chunk17, chunk18, chunk19, chunk22, chunk25, chunk26, chunk29, chunk30, chunk31, chunk35, chunk36, chunk37, chunk38, chunk41, chunk15, chunk21, chunk24, chunk34, chunk40, chunk43]
      all_goals exact chunk_hid m c hn w _ _ _ _ _ i x0 rfl rfl hh hw

set_option maxHeartbeats 4000000 in
/-- The block any later point writes: the first half's rows were normalised by the point before. -/
theorem out_at_B (c : Dev nD) (t : Fin cfg0.N) (ht : ¬t.val % 16 = 0) (y : S1024x1024.Idx) (i : Fin 16384) (hi : i.val = 1024 * t.val + (y 0).val) :
    (outsAt0 m c t.val t.isLt).1 y = res m c i (y 1) := by
  have hw := w13_blk m c t
  rw [outsAt0_B m c t ht]; frame_out
  simp only [read_unread_whole]
  canon_tiles x h
  all_goals idx_vars x
  all_goals rw [show y 1 = x1 from Fin.ext h1]
  case piece0 =>
      rw [pay44_eq, pay2_eq]
      simp only [normed_eq]
      refine out_core m c (View.ld (iblk m c 0 t) (Rect.unit ![512, 0] ![512, 1024] inb_S1024x1024_S512x1024_512_0)) _ _ _ x0 x1 i
        (fun k => by blk_point [iblk, V, idx t]) (fun k => by blk_point [iblk, V, idx t]) (w2_blk m c t) fun f => ?_
      have hh : ∀ k, _ = hid m c i k := fun k => hn_at1 m c t i k x0 (by omega)
      generalize k0_pay5 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk16, chunk17, chunk18, chunk19, chunk22, chunk25, chunk26, chunk29, chunk30, chunk31, chunk35, chunk36, chunk37, chunk38, chunk41, chunk15, chunk21, chunk24, chunk34, chunk40, chunk43]
      all_goals exact chunk_hid m c hn w _ _ _ _ _ i x0 rfl rfl hh hw
  case piece1 =>
      refine out_core m c (View.ld (iblk m c 0 t) (Rect.unit ![0, 0] ![512, 1024] inb_S1024x1024_S512x1024_0_0)) _ _ _ x0 x1 i
        (fun k => by blk_point [iblk, V, idx t]) (fun k => by blk_point [iblk, V, idx t]) (w2_blk m c t) fun f => ?_
      have hh : ∀ k, _ = hid m c i k := fun k => carry_at m c ⟨t.val - 1, by have := t.isLt; omega⟩ x0 k i (by have ht' : t.val < 16 := t.isLt; dsimp only; omega)
      generalize (outsAt0 m c (t.val - 1) _).2.2.2 = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk16, chunk17, chunk18, chunk19, chunk22, chunk25, chunk26, chunk29, chunk30, chunk31, chunk35, chunk36, chunk37, chunk38, chunk41, chunk15, chunk21, chunk24, chunk34, chunk40, chunk43]
      all_goals exact chunk_hid m c hn w _ _ _ _ _ i x0 rfl rfl hh hw

/-- THE RESULT ARRAY: the layer, row by row. -/
theorem final (c : Dev nD) : (dats m 0 c).arrAt 8 cfg0.N = fun i : S16384x1024.Idx => res m c (i 0) (i 1) := by
  refine (dats m 0 c).arrAt_eq_of_covers 8 _ (by decide +kernel) fun t hf y => ?_
  have h7 := (idx t).2.2.2.2.2.2.2.2.1
  have e1 : (win0_8.blk t).view.emb y 1 = y 1 := Fin.ext (by blk_simp [h7])
  have e0 : ((win0_8.blk t).view.emb y 0).val = 1024 * t.val + (y 0).val := by (blk_simp [h7]; omega)
  have key : (outsAt0 m c t.val t.isLt).1 y = res m c ((win0_8.blk t).view.emb y 0) (y 1) := by
    by_cases ht : t.val % 16 = 0
    · exact out_at_A m c t ht y _ e0
    · exact out_at_B m c t ht y _ e0
  blk_simp
  rw [after0_8]
  rw [key]
  exact congrArg _ e1.symm

theorem cast13_at (v : Vec Ideal S1x1x1024x512 .f32) (k : Fin 1024) (l : Fin 512) : k0_pay3 (F := Ideal) v (ix2 k l) = v (ix4 0 0 k l) := by
  pointwise [k0_pay3]
theorem cast2_at (v : Vec Ideal S1x1x176x1024 .f32) (k : Fin 176) (l : Fin 1024) : k0_pay4 (F := Ideal) v (ix2 k l) = v (ix4 0 0 k l) := by
  pointwise [k0_pay4]

/-- The next layer's first weight, cast a chunk of columns at a time. -/
theorem final13 (c : Dev nD) : (dats m 0 c).arrAt 9 cfg0.N = fun i : S1024x5632.Idx => m ((c : Thread nD τ).loc main_arg3) (ix4 1 0 (i 0) (i 1)) := by
  refine (dats m 0 c).arrAt_eq_of_covers 9 _ (by decide +kernel) fun t hf y => ?_
  have h7 := (idx t).2.2.2.2.2.2.2.2.2.1
  have e0 : (win0_9.blk t).view.emb y 0 = y 0 := Fin.ext (by blk_simp [h7])
  have e1 : ((win0_9.blk t).view.emb y 1).val = 512 * (min t.val 10) + (y 1).val := by (blk_simp [h7]; omega)
  have key : (outsAt0 m c t.val t.isLt).2.1 y = m ((c : Thread nD τ).loc main_arg3) (ix4 1 0 (y 0) ((win0_9.blk t).view.emb y 1)) := by
    generalize (win0_9.blk t).view.emb y 1 = z at e1
    by_cases ht : t.val % 16 = 0
    · rw [outsAt0_A m c t ht]; frame_out
      idx_vars y
      rw [cast13_at]
      blk_point [iblk, V, idx t]
    · rw [outsAt0_B m c t ht]; frame_out
      idx_vars y
      rw [cast13_at]
      blk_point [iblk, V, idx t]
  blk_simp
  rw [after0_9]
  rw [key]
  exact congrArg (fun q => m ((c : Thread nD τ).loc main_arg3) (ix4 1 0 q _)) e0.symm

/-- The next layer's second weight, cast a chunk of rows at a time. -/
theorem final2 (c : Dev nD) : (dats m 0 c).arrAt 10 cfg0.N = fun i : S2816x1024.Idx => m ((c : Thread nD τ).loc main_arg4) (ix4 1 0 (i 0) (i 1)) := by
  refine (dats m 0 c).arrAt_eq_of_covers 10 _ (by decide +kernel) fun t hf y => ?_
  have h7 := (idx t).2.2.2.2.2.2.2.2.2.2
  have e1 : (win0_10.blk t).view.emb y 1 = y 1 := Fin.ext (by blk_simp [h7])
  have e0 : ((win0_10.blk t).view.emb y 0).val = 176 * t.val + (y 0).val := by (blk_simp [h7]; omega)
  have key : (outsAt0 m c t.val t.isLt).2.2.1 y = m ((c : Thread nD τ).loc main_arg4) (ix4 1 0 ((win0_10.blk t).view.emb y 0) (y 1)) := by
    generalize (win0_10.blk t).view.emb y 0 = z at e0
    by_cases ht : t.val % 16 = 0
    · rw [outsAt0_A m c t ht]; frame_out
      idx_vars y
      rw [cast2_at]
      blk_point [iblk, V, idx t]
    · rw [outsAt0_B m c t ht]; frame_out
      idx_vars y
      rw [cast2_at]
      blk_point [iblk, V, idx t]
  blk_simp
  rw [after0_10]
  rw [key]
  exact congrArg (fun q => m ((c : Thread nD τ).loc main_arg4) (ix4 1 0 _ q)) e1.symm
end Cert.Kernel3Ideal.Tile
-- ==== Proof.FfnCastRef.lean ====
module

public import proofs.«01_k».proof.Proof.Gen.Reference3Ideal.Run
public import proofs.«01_k».proof.Proof.FfnCastOut

/-!
# The plain half-step with its two cast weights, and its agreement with the kernel
-/

@[expose] public section

set_option maxRecDepth 16384

noncomputable section

namespace Cert.FfnCastClaim

open Idealize.ShloMosaic Idealize.ShloMosaic.TcCoe Idealize.SL.Sem

/-- The reference's result at row `i`, lane `d`, is the layer's step on that row. -/
theorem ref_at (m : (ℓ : Loc Reference3Ideal.nD Reference3Ideal.τ Reference3Ideal.sig) → Buf (Elt Ideal) ℓ) (c : Dev Reference3Ideal.nD)
    (i : Fin 16384) (d : Fin 1024) :
    Reference3Ideal.Value.res_main_v46 (F := Ideal) m c (ix2 i d)
      = Ffn.step (fun k => m ((c.tc : Thread _ _).loc Reference3Ideal.main_arg0) (ix2 i k))
          (fun k => m ((c.tc : Thread _ _).loc Reference3Ideal.main_arg2) (ix3 0 2 k))
          (fun k => m ((c.tc : Thread _ _).loc Reference3Ideal.main_arg1) (ix4 0 0 6 k))
          (fun k => m ((c.tc : Thread _ _).loc Reference3Ideal.main_arg1) (ix4 0 0 7 k))
          (fun k => m ((c.tc : Thread _ _).loc Reference3Ideal.main_arg1) (ix4 0 0 8 k))
          (fun k f => m ((c.tc : Thread _ _).loc Reference3Ideal.main_arg3) (ix4 0 1 k f))
          (fun f d => m ((c.tc : Thread _ _).loc Reference3Ideal.main_arg4) (ix4 0 1 f d)) d := by
  pointwise [Reference3Ideal.Value.res_main_v46, Ffn.step, Ffn.mlp, Ffn.act, Ffn.normed, Ffn.rms]
  rfl

variable (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)

/-- The layer's rows agree where the arguments do. -/
theorem arr (e0 : m' ((c.tc : Thread _ _).loc Reference3Ideal.main_arg0) = m ((c.tc : Thread _ _).loc Kernel3Ideal.main_arg0))
    (e1 : m' ((c.tc : Thread _ _).loc Reference3Ideal.main_arg1) = m ((c.tc : Thread _ _).loc Kernel3Ideal.main_arg1))
    (e2 : m' ((c.tc : Thread _ _).loc Reference3Ideal.main_arg2) = m ((c.tc : Thread _ _).loc Kernel3Ideal.main_arg2))
    (e3 : m' ((c.tc : Thread _ _).loc Reference3Ideal.main_arg3) = m ((c.tc : Thread _ _).loc Kernel3Ideal.main_arg3))
    (e4 : m' ((c.tc : Thread _ _).loc Reference3Ideal.main_arg4) = m ((c.tc : Thread _ _).loc Kernel3Ideal.main_arg4)) :
    Reference3Ideal.Value.res_main_v46 (F := Ideal) m' c = (Kernel3Ideal.Gen.dats m 0 c).arrAt 8 (Kernel3Ideal.cfgs 0).N := by
  rw [Kernel3Ideal.Tile.final m c]
  funext i
  idx_vars i
  rw [ref_at, e0, e1, e2, e3, e4]
  rfl

open Reference3Ideal Reference3Ideal.Gen in
theorem arr13 (e3 : m' ((c.tc : Thread _ _).loc Reference3Ideal.main_arg3) = m ((c.tc : Thread _ _).loc Kernel3Ideal.main_arg3)) :
    (truncf .bf16 (shapeCast _ (extractStridedSlice S1x1x1024x5632 ![1, 0, 0, 0] (m' ((c.tc : Thread Reference3Ideal.nD Reference3Ideal.τ).loc Reference3Ideal.main_arg3)) slices_S2x2x1024x5632_S1x1x1024x5632_1_0_0_0) shapeCasts_S1x1x1024x5632_S1024x5632) bitsLt_bf16_f32 : FVec Ideal S1024x5632 .bf16)
      = (Kernel3Ideal.Gen.dats m 0 c).arrAt 9 (Kernel3Ideal.cfgs 0).N := by
  rw [Kernel3Ideal.Tile.final13 m c, e3]
  funext i
  idx_vars i
  pointwise []

open Reference3Ideal Reference3Ideal.Gen in
theorem arr2 (e4 : m' ((c.tc : Thread _ _).loc Reference3Ideal.main_arg4) = m ((c.tc : Thread _ _).loc Kernel3Ideal.main_arg4)) :
    (truncf .bf16 (shapeCast _ (extractStridedSlice S1x1x2816x1024 ![1, 0, 0, 0] (m' ((c.tc : Thread Reference3Ideal.nD Reference3Ideal.τ).loc Reference3Ideal.main_arg4)) slices_S2x2x2816x1024_S1x1x2816x1024_1_0_0_0) shapeCasts_S1x1x2816x1024_S2816x1024) bitsLt_bf16_f32 : FVec Ideal S2816x1024 .bf16)
      = (Kernel3Ideal.Gen.dats m 0 c).arrAt 10 (Kernel3Ideal.cfgs 0).N := by
  rw [Kernel3Ideal.Tile.final2 m c, e4]
  funext i
  idx_vars i
  pointwise []

end Cert.FfnCastClaim
-- ==== Proof.FfnOpenTile.lean ====
module

public import proofs.«01_k».proof.Proof.Gen.Kernel4Ideal.Value
public import proofs.«01_k».proof.Proof.FfnRow
public import Idealize.ShloMosaic.Lib.Pipeline.ValueKit
public import Idealize.ShloMosaic.Lib.Pointwise

@[expose] public section

set_option maxRecDepth 16384

noncomputable section

namespace Cert.Kernel4Ideal.Tile

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-! ## The body's steps on one row -/

theorem normed_at (x : Vec Ideal S512x1024 .f32) (g sh sc : Vec Ideal S1x1x1x1024 .f32) (r : Fin 512) (d : Fin 1024) :
    k0_pay5 (F := Ideal) x g sh sc (ix2 r d)
      = Ffn.normed (fun k => x (ix2 r k)) (fun k => g (ix4 0 0 0 k)) (fun k => sh (ix4 0 0 0 k)) (fun k => sc (ix4 0 0 0 k)) d := by
  pointwise [k0_pay5, Ffn.normed, Ffn.rms]

theorem normed_eq (x : Vec Ideal S512x1024 .f32) (g sh sc : Vec Ideal S1x1x1x1024 .f32) :
    k0_pay10 (F := Ideal) x (k0_pay6 g) (k0_pay7 sh) (k0_pay8 sc) (k0_pay9 x) = k0_pay5 (F := Ideal) x g sh sc := rfl

theorem carried_at (x : Vec Ideal S512x1024 .f32) (g sh sc : Vec Ideal S1x1x1x1024 .f32) (r : Fin 512) (d : Fin 1024) :
    k0_pay1 (F := Ideal) (k0_pay45 sh) (k0_pay46 x g) (k0_pay47 sc) (ix2 r d)
      = Ffn.normed (fun k => x (ix2 r k)) (fun k => g (ix4 0 0 0 k)) (fun k => sh (ix4 0 0 0 k)) (fun k => sc (ix4 0 0 0 k)) d := by
  pointwise [k0_pay1, k0_pay45, k0_pay46, k0_pay47, Ffn.normed, Ffn.rms]

/-- A chunk of 256 hidden values, from two slices of the first weight that begin at lanes `o` and `2816 + o`. -/
theorem chunk_at (h : Vec Ideal S512x1024 .bf16) (w : Vec Ideal S1024x5632 .bf16) (wa wb : Vec Ideal S1024x256 .bf16) (o : ℕ)
    (ha : ∀ k (l : Fin 256) (hl : o + l.val < 5632), wa (ix2 k l) = w (ix2 k ⟨o + l.val, hl⟩))
    (hb : ∀ k (l : Fin 256) (hl : 2816 + (o + l.val) < 5632), wb (ix2 k l) = w (ix2 k ⟨2816 + (o + l.val), hl⟩))
    (r : Fin 512) (l : Fin 256) (f : Fin 2816) (hf : f.val = o + l.val) :
    k0_pay11 (F := Ideal) h wa wb (ix2 r l) = Ffn.act (fun k => h (ix2 r k)) (fun k f => w (ix2 k f)) f := by
  obtain ⟨f, hf'⟩ := f
  obtain rfl : f = o + l.val := hf
  have e1 : ∀ k, wa (ix2 k l) = w (ix2 k ⟨o + l.val, by omega⟩) := fun k => ha k l _
  have e2 : ∀ k, wb (ix2 k l) = w (ix2 k ⟨2816 + (o + l.val), by omega⟩) := fun k => hb k l _
  pointwise [k0_pay11, Ffn.act, e1, e2]

theorem proj_at (a : Vec Ideal S512x2816 .bf16) (w2 : Vec Ideal S2816x1024 .bf16) (r : Fin 512) (d : Fin 1024) :
    k0_pay27 (F := Ideal) a w2 (ix2 r d) = ∑ f, a (ix2 r f) * w2 (ix2 f d) := by
  pointwise [k0_pay27]

theorem add_at (x : Vec Ideal S512x1024 .f32) (gate : Vec Ideal S1x1x1x1024 .f32) (acc : Vec Ideal S512x1024 .f32) (r : Fin 512) (d : Fin 1024) :
    k0_pay28 (F := Ideal) x gate acc (ix2 r d)
      = x (ix2 r d) + Ideal.ofBits FTy.f32 1056964608#32 * gate (ix4 0 0 0 d) * acc (ix2 r d) := by
  pointwise [k0_pay28]

theorem pay44_eq : k0_pay44 (F := Ideal) = k0_pay27 := rfl
theorem pay2_eq : k0_pay2 (F := Ideal) = k0_pay28 := rfl

/-! The printed chunks are one function of the rows and two slices, cut at different lines. -/

section
variable (h : Vec Ideal S512x1024 .bf16) (a b : Vec Ideal S1024x256 .bf16)
theorem chunk16 : k0_pay16 (F := Ideal) h a b = k0_pay11 (F := Ideal) h a b := rfl
theorem chunk17 : k0_pay17 (F := Ideal) h a b = k0_pay11 (F := Ideal) h a b := rfl
theorem chunk18 : k0_pay18 (F := Ideal) h a b = k0_pay11 (F := Ideal) h a b := rfl
theorem chunk19 : k0_pay19 (F := Ideal) h a b = k0_pay11 (F := Ideal) h a b := rfl
theorem chunk22 : k0_pay22 (F := Ideal) h a b = k0_pay11 (F := Ideal) h a b := rfl
theorem chunk25 : k0_pay25 (F := Ideal) h a b = k0_pay11 (F := Ideal) h a b := rfl
theorem chunk26 : k0_pay26 (F := Ideal) h a b = k0_pay11 (F := Ideal) h a b := rfl
theorem chunk29 : k0_pay29 (F := Ideal) h a b = k0_pay11 (F := Ideal) h a b := rfl
theorem chunk30 : k0_pay30 (F := Ideal) h a b = k0_pay11 (F := Ideal) h a b := rfl
theorem chunk31 : k0_pay31 (F := Ideal) h a b = k0_pay11 (F := Ideal) h a b := rfl
theorem chunk35 : k0_pay35 (F := Ideal) h a b = k0_pay11 (F := Ideal) h a b := rfl
theorem chunk36 : k0_pay36 (F := Ideal) h a b = k0_pay11 (F := Ideal) h a b := rfl
theorem chunk37 : k0_pay37 (F := Ideal) h a b = k0_pay11 (F := Ideal) h a b := rfl
theorem chunk38 : k0_pay38 (F := Ideal) h a b = k0_pay11 (F := Ideal) h a b := rfl
theorem chunk41 : k0_pay41 (F := Ideal) h a b = k0_pay11 (F := Ideal) h a b := rfl
theorem chunk15 : k0_pay15 (F := Ideal) (k0_pay12 h a) (k0_pay13 h b) (k0_pay14 h a) = k0_pay11 (F := Ideal) h a b := rfl
theorem chunk21 : k0_pay21 (F := Ideal) h (k0_pay20 h a) b = k0_pay11 (F := Ideal) h a b := rfl
theorem chunk24 : k0_pay24 (F := Ideal) (k0_pay23 h a b) = k0_pay11 (F := Ideal) h a b := rfl
theorem chunk34 : k0_pay34 (F := Ideal) h (k0_pay32 h a) (k0_pay33 b) (constant S512x256 FTy.f32 0x00000000#32) = k0_pay11 (F := Ideal) h a b := rfl
theorem chunk40 : k0_pay40 (F := Ideal) h (k0_pay39 h a) b = k0_pay11 (F := Ideal) h a b := rfl
theorem chunk43 : k0_pay43 (F := Ideal) (k0_pay42 h a b) = k0_pay11 (F := Ideal) h a b := rfl
end

/-- The weights of the layer, out of the stacks of both layers' weights. -/
def w13 (c : Dev nD) (k : Fin 1024) (f : Fin 5632) : EReal := m ((c : Thread nD τ).loc main_arg3) (ix4 1 0 k f)
def w2 (c : Dev nD) (f : Fin 2816) (d : Fin 1024) : EReal := m ((c : Thread nD τ).loc main_arg4) (ix4 1 0 f d)

/-- The layer's result at row `i`, from the arrays the program was called with. -/
def res (c : Dev nD) (i : Fin 16384) : Fin 1024 → EReal :=
  Ffn.step (fun k => m ((c : Thread nD τ).loc main_arg0) (ix2 i k)) (fun k => m ((c : Thread nD τ).loc main_arg2) (ix3 1 0 k))
    (fun k => m ((c : Thread nD τ).loc main_arg1) (ix4 1 0 0 k)) (fun k => m ((c : Thread nD τ).loc main_arg1) (ix4 1 0 1 k))
    (fun k => m ((c : Thread nD τ).loc main_arg1) (ix4 1 0 2 k)) (w13 m c) (w2 m c)

/-- The normalised, modulated row `i` from the arrays. -/
def hid (c : Dev nD) (i : Fin 16384) : Fin 1024 → EReal :=
  Ffn.normed (fun k => m ((c : Thread nD τ).loc main_arg0) (ix2 i k)) (fun k => m ((c : Thread nD τ).loc main_arg2) (ix3 1 0 k))
    (fun k => m ((c : Thread nD τ).loc main_arg1) (ix4 1 0 0 k)) (fun k => m ((c : Thread nD τ).loc main_arg1) (ix4 1 0 1 k))

theorem idx : ∀ t : Fin cfg0.N, win0_0.index t = ![t.val, 0] ∧ win0_1.index t = ![min (2 * t.val + 2) 31, 0]
    ∧ win0_2.index t = ![1, 0, 0, 0] ∧ win0_3.index t = ![1, 0, 0, 0] ∧ win0_4.index t = ![0, 0] ∧ win0_5.index t = ![0, 0]
    ∧ win0_6.index t = ![1, 1, 0, min t.val 10] ∧ win0_7.index t = ![1, 1, t.val, 0] ∧ win0_8.index t = ![t.val, 0]
    ∧ win0_9.index t = ![0, min t.val 10] ∧ win0_10.index t = ![t.val, 0] :=
  (by decide +kernel : ∀ t : Fin grid0.N, _)

theorem x_blk (c : Dev nD) (t : Fin cfg0.N) (r : Fin 1024) (k : Fin 1024) (i : Fin 16384) (hi : i.val = 1024 * t.val + r.val) :
    iblk m c 0 t (ix2 r k) = m ((c : Thread nD τ).loc main_arg0) (ix2 i k) := by
  blk_point [iblk, V, idx t]
theorem n_blk (c : Dev nD) (t : Fin cfg0.N) (r : Fin 512) (k : Fin 1024) (i : Fin 16384) (hi : i.val = 512 * (min (2 * t.val + 2) 31) + r.val) :
    iblk m c 1 t (ix2 r k) = m ((c : Thread nD τ).loc main_arg0) (ix2 i k) := by
  blk_point [iblk, V, idx t]
theorem mod_blk (c : Dev nD) (t : Fin cfg0.N) (s : Fin 9) (k : Fin 1024) :
    iblk m c 2 t (ix4 0 0 s k) = m ((c : Thread nD τ).loc main_arg1) (ix4 1 0 s k) := by
  blk_point [iblk, V, idx t]
theorem gain_blk (c : Dev nD) (t : Fin cfg0.N) (k : Fin 1024) :
    iblk m c 3 t (ix4 0 0 0 k) = m ((c : Thread nD τ).loc main_arg2) (ix3 1 0 k) := by
  blk_point [iblk, V, idx t]
theorem w13_blk (c : Dev nD) (t : Fin cfg0.N) (k : Fin 1024) (f : Fin 5632) :
    iblk m c 4 t (ix2 k f) = w13 m c k f := by
  rw [w13]; blk_point [iblk, V, idx t]
theorem w2_blk (c : Dev nD) (t : Fin cfg0.N) (f : Fin 2816) (k : Fin 1024) :
    iblk m c 5 t (ix2 f k) = w2 m c f k := by
  rw [w2]; blk_point [iblk, V, idx t]
theorem out_core (c : Dev nD) (X : Vec Ideal S512x1024 .f32) (act : Vec Ideal S512x2816 .bf16) (w : Vec Ideal S2816x1024 .bf16)
    (gate : Vec Ideal S1x1x1x1024 .f32) (r : Fin 512) (d : Fin 1024) (i : Fin 16384)
    (hX : ∀ k, X (ix2 r k) = m ((c : Thread nD τ).loc main_arg0) (ix2 i k))
    (hg : ∀ k, gate (ix4 0 0 0 k) = m ((c : Thread nD τ).loc main_arg1) (ix4 1 0 2 k))
    (hw : ∀ f k, w (ix2 f k) = w2 m c f k)
    (ha : ∀ f, act (ix2 r f) = Ffn.act (hid m c i) (w13 m c) f) :
    k0_pay28 X gate (k0_pay27 act w) (ix2 r d) = res m c i d := by
  rw [add_at]
  simp only [proj_at, hX, hg, hw, ha]
  rfl

theorem cols_idx (w : Vec Ideal S1024x5632 .bf16) (o : ℕ) (inb) (k : Fin 1024) (l : Fin 256) (n : Fin 5632) (hn : n.val = o + l.val) :
    w ((Rect.unit (s := S1024x5632) ![0, o] ![1024, 256] inb).idx (ix2 k l)) = w (ix2 k n) := by
  refine congrArg w (funext fun a => ?_)
  fin_cases a
  · exact Fin.ext (by simp)
  · exact Fin.ext (by simp [hn])

/-- What one chunk holds at a lane, over rows already known to be the normalised rows. -/
theorem chunk_hid (c : Dev nD) (hn : Vec Ideal S512x1024 .bf16) (w : Vec Ideal S1024x5632 .bf16) (p : Vec Ideal S512x256 .bf16) (o o' : ℕ) (inb inb')
    (i : Fin 16384) (r : Fin 512) (ho : o' = 2816 + o)
    (hp : p = k0_pay11 hn (View.ld (Val := Elt Ideal) w (Rect.unit (s := S1024x5632) ![0, o] ![1024, 256] inb)) (View.ld (Val := Elt Ideal) w (Rect.unit (s := S1024x5632) ![0, o'] ![1024, 256] inb')))
    (hh : ∀ k, hn (ix2 r k) = hid m c i k) (hw : ∀ k f, w (ix2 k f) = w13 m c k f)
    (l : Fin 256) (f : Fin 2816) (hf : f.val = o + l.val) :
    p (ix2 r l) = Ffn.act (hid m c i) (w13 m c) f := by
  subst hp
  rw [chunk_at hn w _ _ o (fun k l hl => cols_idx w _ _ k l _ rfl) (fun k l hl => cols_idx w _ _ k l _ (by dsimp only; omega)) r l f hf]
  simp only [hh, hw]

/-- The rows the body normalises ahead and leaves for the next point: those of the next 512-row tile. -/
theorem carry_at (c : Dev nD) (t : Fin cfg0.N) (r : Fin 512) (k : Fin 1024) (i : Fin 16384)
    (hi : i.val = 512 * (min (2 * t.val + 2) 31) + r.val) : (outsAt0 m c t.val t.isLt).2.2.2 (ix2 r k) = hid m c i k := by
  by_cases ht : t.val % 16 = 0
  · rw [outsAt0_A m c t ht]; frame_out
    rw [carried_at, hid]
    congr 1 <;> funext k <;> blk_point [iblk, V, idx t]
  · rw [outsAt0_B m c t ht]; frame_out
    rw [carried_at, hid]
    congr 1 <;> funext k <;> blk_point [iblk, V, idx t]

theorem whole_idx (r : Fin 512) (f : Fin 2816) :
    (Rect.unit (s := S512x2816) ![0, 0] ![512, 2816] inb_S512x2816_S512x2816_0_0).toLoadRect.idx (ix2 r f) = ix2 r f := by
  funext a; fin_cases a <;> exact Fin.ext (by simp)

/-- One chunk's store: a lane inside it reads the chunk, a lane outside what was stored before. -/
theorem chunk_step (o : ℕ) (inb) (p : Vec Ideal S512x256 .bf16) (L : List (View.Piece (Elt Ideal) S512x2816 .bf16)) (r : Fin 512) (f : Fin 2816) (z : EReal)
    (h1 : ∀ l : Fin 256, f.val = o + l.val → p (ix2 r l) = z)
    (h2 : ¬(o ≤ f.val ∧ f.val < o + 256) → View.canon (Val := Elt Ideal) L (ix2 r f) = z) :
    View.canon (Val := Elt Ideal) (⟨Rect.unit ![0, o] ![512, 256] inb, p⟩ :: L) (ix2 r f) = z := by
  by_cases hm : o ≤ f.val ∧ f.val < o + 256
  · have e : (ix2 r f : S512x2816.Idx) = (Rect.unit (s := S512x2816) ![0, o] ![512, 256] inb).emb (ix2 r ⟨f.val - o, by omega⟩) := by
      funext a; fin_cases a
      · exact Fin.ext (by simp)
      · exact Fin.ext (by simp; omega)
    rw [e, View.canon_cons_emb]
    exact h1 ⟨f.val - o, by omega⟩ (by dsimp only; omega)
  · rw [View.canon_cons_of_not_mem]
    · exact h2 hm
    · intro hy
      obtain ⟨x, hx⟩ := LoadRect.exists_idx_of_mem _ hy
      apply hm
      have h := congrArg (fun y : S512x2816.Idx => (y 1).val) hx
      have hl : (x 1).val < 256 := (x 1).isLt
      have h' : o + 1 * (x 1).val = f.val := h
      omega

/-- The hidden rows read back whole, stored as eleven chunks of 256 lanes over whatever was there. -/
theorem hidden_at (v : View sig .tc .vmem S512x2816 .bf16) (L : List (View.Piece (Elt Ideal) S512x2816 .bf16)) (p0 p1 p2 p3 p4 p5 p6 p7 p8 p9 p10 : Vec Ideal S512x256 .bf16) (r : Fin 512) (q : Fin 2816 → EReal)
    (e0 : ∀ (l : Fin 256) (f : Fin 2816), f.val = 0 + l.val → p0 (ix2 r l) = q f)
    (e1 : ∀ (l : Fin 256) (f : Fin 2816), f.val = 256 + l.val → p1 (ix2 r l) = q f)
    (e2 : ∀ (l : Fin 256) (f : Fin 2816), f.val = 512 + l.val → p2 (ix2 r l) = q f)
    (e3 : ∀ (l : Fin 256) (f : Fin 2816), f.val = 768 + l.val → p3 (ix2 r l) = q f)
    (e4 : ∀ (l : Fin 256) (f : Fin 2816), f.val = 1024 + l.val → p4 (ix2 r l) = q f)
    (e5 : ∀ (l : Fin 256) (f : Fin 2816), f.val = 1280 + l.val → p5 (ix2 r l) = q f)
    (e6 : ∀ (l : Fin 256) (f : Fin 2816), f.val = 1536 + l.val → p6 (ix2 r l) = q f)
    (e7 : ∀ (l : Fin 256) (f : Fin 2816), f.val = 1792 + l.val → p7 (ix2 r l) = q f)
    (e8 : ∀ (l : Fin 256) (f : Fin 2816), f.val = 2048 + l.val → p8 (ix2 r l) = q f)
    (e9 : ∀ (l : Fin 256) (f : Fin 2816), f.val = 2304 + l.val → p9 (ix2 r l) = q f)
    (e10 : ∀ (l : Fin 256) (f : Fin 2816), f.val = 2560 + l.val → p10 (ix2 r l) = q f) (f : Fin 2816) :
    v.readCov (Val := Elt Ideal) (⟨Rect.unit ![0, 2560] ![512, 256] inb_S512x2816_S512x256_0_2560, p10⟩ :: ⟨Rect.unit ![0, 2304] ![512, 256] inb_S512x2816_S512x256_0_2304, p9⟩ :: ⟨Rect.unit ![0, 2048] ![512, 256] inb_S512x2816_S512x256_0_2048, p8⟩ :: ⟨Rect.unit ![0, 1792] ![512, 256] inb_S512x2816_S512x256_0_1792, p7⟩ :: ⟨Rect.unit ![0, 1536] ![512, 256] inb_S512x2816_S512x256_0_1536, p6⟩ :: ⟨Rect.unit ![0, 1280] ![512, 256] inb_S512x2816_S512x256_0_1280, p5⟩ :: ⟨Rect.unit ![0, 1024] ![512, 256] inb_S512x2816_S512x256_0_1024, p4⟩ :: ⟨Rect.unit ![0, 768] ![512, 256] inb_S512x2816_S512x256_0_768, p3⟩ :: ⟨Rect.unit ![0, 512] ![512, 256] inb_S512x2816_S512x256_0_512, p2⟩ :: ⟨Rect.unit ![0, 256] ![512, 256] inb_S512x2816_S512x256_0_256, p1⟩ :: ⟨Rect.unit ![0, 0] ![512, 256] inb_S512x2816_S512x256_0_0, p0⟩ :: L) (Rect.unit ![0, 0] ![512, 2816] inb_S512x2816_S512x2816_0_0).toLoadRect (by exact ix2 r f) = q f := by
  rw [View.readCov_eq_canon']
  simp only [whole_idx]
  refine chunk_step 2560 _ p10 _ r f _ (fun l h => e10 l f h) fun h10 => ?_
  refine chunk_step 2304 _ p9 _ r f _ (fun l h => e9 l f h) fun h9 => ?_
  refine chunk_step 2048 _ p8 _ r f _ (fun l h => e8 l f h) fun h8 => ?_
  refine chunk_step 1792 _ p7 _ r f _ (fun l h => e7 l f h) fun h7 => ?_
  refine chunk_step 1536 _ p6 _ r f _ (fun l h => e6 l f h) fun h6 => ?_
  refine chunk_step 1280 _ p5 _ r f _ (fun l h => e5 l f h) fun h5 => ?_
  refine chunk_step 1024 _ p4 _ r f _ (fun l h => e4 l f h) fun h4 => ?_
  refine chunk_step 768 _ p3 _ r f _ (fun l h => e3 l f h) fun h3 => ?_
  refine chunk_step 512 _ p2 _ r f _ (fun l h => e2 l f h) fun h2 => ?_
  refine chunk_step 256 _ p1 _ r f _ (fun l h => e1 l f h) fun h1 => ?_
  refine chunk_step 0 _ p0 _ r f _ (fun l h => e0 l f h) fun h0 => ?_
  omega

/-- The rows the body normalises from the first half of its own tile, and from the second. -/
theorem hn_at0 (c : Dev nD) (t : Fin cfg0.N) (i : Fin 16384) (k : Fin 1024) (x0 : Fin 512) (hi : i.val = 1024 * t.val + x0.val) :
    k0_pay5 (F := Ideal) (View.ld (iblk m c 0 t) (Rect.unit ![0, 0] ![512, 1024] inb_S1024x1024_S512x1024_0_0)) (iblk m c 3 t)
      (View.ld (iblk m c 2 t) (Rect.unit ![0, 0, 0, 0] ![1, 1, 1, 1024] inb_S1x1x9x1024_S1x1x1x1024_0_0_0_0))
      (View.ld (iblk m c 2 t) (Rect.unit ![0, 0, 1, 0] ![1, 1, 1, 1024] inb_S1x1x9x1024_S1x1x1x1024_0_0_1_0)) (ix2 x0 k)
      = hid m c i k := by
  rw [normed_at, hid]
  congr 1 <;> funext k <;> blk_point [iblk, V, idx t]

theorem hn_at1 (c : Dev nD) (t : Fin cfg0.N) (i : Fin 16384) (k : Fin 1024) (x0 : Fin 512) (hi : i.val = 1024 * t.val + (512 + x0.val)) :
    k0_pay5 (F := Ideal) (View.ld (iblk m c 0 t) (Rect.unit ![512, 0] ![512, 1024] inb_S1024x1024_S512x1024_512_0)) (iblk m c 3 t)
      (View.ld (iblk m c 2 t) (Rect.unit ![0, 0, 0, 0] ![1, 1, 1, 1024] inb_S1x1x9x1024_S1x1x1x1024_0_0_0_0))
      (View.ld (iblk m c 2 t) (Rect.unit ![0, 0, 1, 0] ![1, 1, 1, 1024] inb_S1x1x9x1024_S1x1x1x1024_0_0_1_0)) (ix2 x0 k)
      = hid m c i k := by
  rw [normed_at, hid]
  congr 1 <;> funext k <;> blk_point [iblk, V, idx t]

end Cert.Kernel4Ideal.Tile
-- ==== Proof.FfnOpenOut.lean ====
module

public import proofs.«01_k».proof.Proof.Gen.Kernel4Ideal.Value
public import proofs.«01_k».proof.Proof.FfnOpenTile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Tile

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- The block the first point writes: its rows are all normalised in the point itself. -/
theorem out_at_A (c : Dev nD) (t : Fin cfg0.N) (ht : t.val % 16 = 0) (y : S1024x1024.Idx) (i : Fin 16384) (hi : i.val = 1024 * t.val + (y 0).val) :
    (outsAt0 m c t.val t.isLt).1 y = res m c i (y 1) := by
  have hw := w13_blk m c t
  rw [outsAt0_A m c t ht]; frame_out
  canon_tiles x h
  all_goals idx_vars x
  all_goals rw [show y 1 = x1 from Fin.ext h1]
  case piece0 =>
      rw [pay44_eq, pay2_eq]
      simp only [normed_eq]
      refine out_core m c (View.ld (iblk m c 0 t) (Rect.unit ![512, 0] ![512, 1024] inb_S1024x1024_S512x1024_512_0)) _ _ _ x0 x1 i
        (fun k => by blk_point [iblk, V, idx t]) (fun k => by blk_point [iblk, V, idx t]) (w2_blk m c t) fun f => ?_
      have hh : ∀ k, _ = hid m c i k := fun k => hn_at1 m c t i k x0 (by omega)
      generalize k0_pay5 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk16, chunk17, chunk18, chunk19, chunk22, chunk25, chunk26, chunk29, chunk30, chunk31, chunk35, chunk36, chunk37, chunk38, chunk41, chunk15, chunk21, chunk24, chunk34, chunk40, chunk43]
      all_goals exact chunk_hid m c hn w _ _ _ _ _ i x0 rfl rfl hh hw
  case piece1 =>
      refine out_core m c (View.ld (iblk m c 0 t) (Rect.unit ![0, 0] ![512, 1024] inb_S1024x1024_S512x1024_0_0)) _ _ _ x0 x1 i
        (fun k => by blk_point [iblk, V, idx t]) (fun k => by blk_point [iblk, V, idx t]) (w2_blk m c t) fun f => ?_
      have hh : ∀ k, _ = hid m c i k := fun k => hn_at0 m c t i k x0 (by omega)
      generalize k0_pay5 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk16, chunk17, chunk18, chunk19, chunk22, chunk25, chunk26, chunk29, chunk30, chunk31, chunk35, chunk36, chunk37, chunk38, chunk41, chunk15, chunk21, chunk24, chunk34, chunk40, chunk43]
      all_goals exact chunk_hid m c hn w _ _ _ _ _ i x0 rfl rfl hh hw

set_option maxHeartbeats 4000000 in
/-- The block any later point writes: the first half's rows were normalised by the point before. -/
theorem out_at_B (c : Dev nD) (t : Fin cfg0.N) (ht : ¬t.val % 16 = 0) (y : S1024x1024.Idx) (i : Fin 16384) (hi : i.val = 1024 * t.val + (y 0).val) :
    (outsAt0 m c t.val t.isLt).1 y = res m c i (y 1) := by
  have hw := w13_blk m c t
  rw [outsAt0_B m c t ht]; frame_out
  simp only [read_unread_whole]
  canon_tiles x h
  all_goals idx_vars x
  all_goals rw [show y 1 = x1 from Fin.ext h1]
  case piece0 =>
      rw [pay44_eq, pay2_eq]
      simp only [normed_eq]
      refine out_core m c (View.ld (iblk m c 0 t) (Rect.unit ![512, 0] ![512, 1024] inb_S1024x1024_S512x1024_512_0)) _ _ _ x0 x1 i
        (fun k => by blk_point [iblk, V, idx t]) (fun k => by blk_point [iblk, V, idx t]) (w2_blk m c t) fun f => ?_
      have hh : ∀ k, _ = hid m c i k := fun k => hn_at1 m c t i k x0 (by omega)
      generalize k0_pay5 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk16, chunk17, chunk18, chunk19, chunk22, chunk25, chunk26, chunk29, chunk30, chunk31, chunk35, chunk36, chunk37, chunk38, chunk41, chunk15, chunk21, chunk24, chunk34, chunk40, chunk43]
      all_goals exact chunk_hid m c hn w _ _ _ _ _ i x0 rfl rfl hh hw
  case piece1 =>
      refine out_core m c (View.ld (iblk m c 0 t) (Rect.unit ![0, 0] ![512, 1024] inb_S1024x1024_S512x1024_0_0)) _ _ _ x0 x1 i
        (fun k => by blk_point [iblk, V, idx t]) (fun k => by blk_point [iblk, V, idx t]) (w2_blk m c t) fun f => ?_
      have hh : ∀ k, _ = hid m c i k := fun k => carry_at m c ⟨t.val - 1, by have := t.isLt; omega⟩ x0 k i (by have ht' : t.val < 16 := t.isLt; dsimp only; omega)
      generalize (outsAt0 m c (t.val - 1) _).2.2.2 = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk16, chunk17, chunk18, chunk19, chunk22, chunk25, chunk26, chunk29, chunk30, chunk31, chunk35, chunk36, chunk37, chunk38, chunk41, chunk15, chunk21, chunk24, chunk34, chunk40, chunk43]
      all_goals exact chunk_hid m c hn w _ _ _ _ _ i x0 rfl rfl hh hw

/-- THE RESULT ARRAY: the layer, row by row. -/
theorem final (c : Dev nD) : (dats m 0 c).arrAt 8 cfg0.N = fun i : S16384x1024.Idx => res m c (i 0) (i 1) := by
  refine (dats m 0 c).arrAt_eq_of_covers 8 _ (by decide +kernel) fun t hf y => ?_
  have h7 := (idx t).2.2.2.2.2.2.2.2.1
  have e1 : (win0_8.blk t).view.emb y 1 = y 1 := Fin.ext (by blk_simp [h7])
  have e0 : ((win0_8.blk t).view.emb y 0).val = 1024 * t.val + (y 0).val := by (blk_simp [h7]; omega)
  have key : (outsAt0 m c t.val t.isLt).1 y = res m c ((win0_8.blk t).view.emb y 0) (y 1) := by
    by_cases ht : t.val % 16 = 0
    · exact out_at_A m c t ht y _ e0
    · exact out_at_B m c t ht y _ e0
  blk_simp
  rw [after0_8]
  rw [key]
  exact congrArg _ e1.symm

theorem cast13_at (v : Vec Ideal S1x1x1024x512 .f32) (k : Fin 1024) (l : Fin 512) : k0_pay3 (F := Ideal) v (ix2 k l) = v (ix4 0 0 k l) := by
  pointwise [k0_pay3]
theorem cast2_at (v : Vec Ideal S1x1x176x1024 .f32) (k : Fin 176) (l : Fin 1024) : k0_pay4 (F := Ideal) v (ix2 k l) = v (ix4 0 0 k l) := by
  pointwise [k0_pay4]

/-- The layer's other first weight, cast a chunk of columns at a time. -/
theorem final13 (c : Dev nD) : (dats m 0 c).arrAt 9 cfg0.N = fun i : S1024x5632.Idx => m ((c : Thread nD τ).loc main_arg3) (ix4 1 1 (i 0) (i 1)) := by
  refine (dats m 0 c).arrAt_eq_of_covers 9 _ (by decide +kernel) fun t hf y => ?_
  have h7 := (idx t).2.2.2.2.2.2.2.2.2.1
  have e0 : (win0_9.blk t).view.emb y 0 = y 0 := Fin.ext (by blk_simp [h7])
  have e1 : ((win0_9.blk t).view.emb y 1).val = 512 * (min t.val 10) + (y 1).val := by (blk_simp [h7]; omega)
  have key : (outsAt0 m c t.val t.isLt).2.1 y = m ((c : Thread nD τ).loc main_arg3) (ix4 1 1 (y 0) ((win0_9.blk t).view.emb y 1)) := by
    generalize (win0_9.blk t).view.emb y 1 = z at e1
    by_cases ht : t.val % 16 = 0
    · rw [outsAt0_A m c t ht]; frame_out
      idx_vars y
      rw [cast13_at]
      blk_point [iblk, V, idx t]
    · rw [outsAt0_B m c t ht]; frame_out
      idx_vars y
      rw [cast13_at]
      blk_point [iblk, V, idx t]
  blk_simp
  rw [after0_9]
  rw [key]
  exact congrArg (fun q => m ((c : Thread nD τ).loc main_arg3) (ix4 1 1 q _)) e0.symm

/-- The layer's other second weight, cast a chunk of rows at a time. -/
theorem final2 (c : Dev nD) : (dats m 0 c).arrAt 10 cfg0.N = fun i : S2816x1024.Idx => m ((c : Thread nD τ).loc main_arg4) (ix4 1 1 (i 0) (i 1)) := by
  refine (dats m 0 c).arrAt_eq_of_covers 10 _ (by decide +kernel) fun t hf y => ?_
  have h7 := (idx t).2.2.2.2.2.2.2.2.2.2
  have e1 : (win0_10.blk t).view.emb y 1 = y 1 := Fin.ext (by blk_simp [h7])
  have e0 : ((win0_10.blk t).view.emb y 0).val = 176 * t.val + (y 0).val := by (blk_simp [h7]; omega)
  have key : (outsAt0 m c t.val t.isLt).2.2.1 y = m ((c : Thread nD τ).loc main_arg4) (ix4 1 1 ((win0_10.blk t).view.emb y 0) (y 1)) := by
    generalize (win0_10.blk t).view.emb y 0 = z at e0
    by_cases ht : t.val % 16 = 0
    · rw [outsAt0_A m c t ht]; frame_out
      idx_vars y
      rw [cast2_at]
      blk_point [iblk, V, idx t]
    · rw [outsAt0_B m c t ht]; frame_out
      idx_vars y
      rw [cast2_at]
      blk_point [iblk, V, idx t]
  blk_simp
  rw [after0_10]
  rw [key]
  exact congrArg (fun q => m ((c : Thread nD τ).loc main_arg4) (ix4 1 1 _ q)) e1.symm
end Cert.Kernel4Ideal.Tile
-- ==== Proof.FfnOpenRef.lean ====
module

public import proofs.«01_k».proof.Proof.Gen.Reference4Ideal.Run
public import proofs.«01_k».proof.Proof.FfnOpenOut

/-!
# The plain half-step with its two cast weights, and its agreement with the kernel
-/

@[expose] public section

set_option maxRecDepth 16384

noncomputable section

namespace Cert.FfnOpenClaim

open Idealize.ShloMosaic Idealize.ShloMosaic.TcCoe Idealize.SL.Sem

/-- The reference's result at row `i`, lane `d`, is the layer's step on that row. -/
theorem ref_at (m : (ℓ : Loc Reference4Ideal.nD Reference4Ideal.τ Reference4Ideal.sig) → Buf (Elt Ideal) ℓ) (c : Dev Reference4Ideal.nD)
    (i : Fin 16384) (d : Fin 1024) :
    Reference4Ideal.Value.res_main_v46 (F := Ideal) m c (ix2 i d)
      = Ffn.step (fun k => m ((c.tc : Thread _ _).loc Reference4Ideal.main_arg0) (ix2 i k))
          (fun k => m ((c.tc : Thread _ _).loc Reference4Ideal.main_arg2) (ix3 1 0 k))
          (fun k => m ((c.tc : Thread _ _).loc Reference4Ideal.main_arg1) (ix4 1 0 0 k))
          (fun k => m ((c.tc : Thread _ _).loc Reference4Ideal.main_arg1) (ix4 1 0 1 k))
          (fun k => m ((c.tc : Thread _ _).loc Reference4Ideal.main_arg1) (ix4 1 0 2 k))
          (fun k f => m ((c.tc : Thread _ _).loc Reference4Ideal.main_arg3) (ix4 1 0 k f))
          (fun f d => m ((c.tc : Thread _ _).loc Reference4Ideal.main_arg4) (ix4 1 0 f d)) d := by
  pointwise [Reference4Ideal.Value.res_main_v46, Ffn.step, Ffn.mlp, Ffn.act, Ffn.normed, Ffn.rms]
  rfl

variable (m : (ℓ : Loc Kernel4Ideal.nD Kernel4Ideal.τ Kernel4Ideal.sig) → Buf (Elt Ideal) ℓ)
    (m' : (ℓ : Loc Reference4Ideal.nD Reference4Ideal.τ Reference4Ideal.sig) → Buf (Elt Ideal) ℓ) (c : Dev Kernel4Ideal.nD)

/-- The layer's rows agree where the arguments do. -/
theorem arr (e0 : m' ((c.tc : Thread _ _).loc Reference4Ideal.main_arg0) = m ((c.tc : Thread _ _).loc Kernel4Ideal.main_arg0))
    (e1 : m' ((c.tc : Thread _ _).loc Reference4Ideal.main_arg1) = m ((c.tc : Thread _ _).loc Kernel4Ideal.main_arg1))
    (e2 : m' ((c.tc : Thread _ _).loc Reference4Ideal.main_arg2) = m ((c.tc : Thread _ _).loc Kernel4Ideal.main_arg2))
    (e3 : m' ((c.tc : Thread _ _).loc Reference4Ideal.main_arg3) = m ((c.tc : Thread _ _).loc Kernel4Ideal.main_arg3))
    (e4 : m' ((c.tc : Thread _ _).loc Reference4Ideal.main_arg4) = m ((c.tc : Thread _ _).loc Kernel4Ideal.main_arg4)) :
    Reference4Ideal.Value.res_main_v46 (F := Ideal) m' c = (Kernel4Ideal.Gen.dats m 0 c).arrAt 8 (Kernel4Ideal.cfgs 0).N := by
  rw [Kernel4Ideal.Tile.final m c]
  funext i
  idx_vars i
  rw [ref_at, e0, e1, e2, e3, e4]
  rfl

open Reference4Ideal Reference4Ideal.Gen in
theorem arr13 (e3 : m' ((c.tc : Thread _ _).loc Reference4Ideal.main_arg3) = m ((c.tc : Thread _ _).loc Kernel4Ideal.main_arg3)) :
    (truncf .bf16 (shapeCast _ (extractStridedSlice S1x1x1024x5632 ![1, 1, 0, 0] (m' ((c.tc : Thread Reference4Ideal.nD Reference4Ideal.τ).loc Reference4Ideal.main_arg3)) slices_S2x2x1024x5632_S1x1x1024x5632_1_1_0_0) shapeCasts_S1x1x1024x5632_S1024x5632) bitsLt_bf16_f32 : FVec Ideal S1024x5632 .bf16)
      = (Kernel4Ideal.Gen.dats m 0 c).arrAt 9 (Kernel4Ideal.cfgs 0).N := by
  rw [Kernel4Ideal.Tile.final13 m c, e3]
  funext i
  idx_vars i
  pointwise []

open Reference4Ideal Reference4Ideal.Gen in
theorem arr2 (e4 : m' ((c.tc : Thread _ _).loc Reference4Ideal.main_arg4) = m ((c.tc : Thread _ _).loc Kernel4Ideal.main_arg4)) :
    (truncf .bf16 (shapeCast _ (extractStridedSlice S1x1x2816x1024 ![1, 1, 0, 0] (m' ((c.tc : Thread Reference4Ideal.nD Reference4Ideal.τ).loc Reference4Ideal.main_arg4)) slices_S2x2x2816x1024_S1x1x2816x1024_1_1_0_0) shapeCasts_S1x1x2816x1024_S2816x1024) bitsLt_bf16_f32 : FVec Ideal S2816x1024 .bf16)
      = (Kernel4Ideal.Gen.dats m 0 c).arrAt 10 (Kernel4Ideal.cfgs 0).N := by
  rw [Kernel4Ideal.Tile.final2 m c, e4]
  funext i
  idx_vars i
  pointwise []

end Cert.FfnOpenClaim
-- ==== Proof.FfnInTile.lean ====
module

public import proofs.«01_k».proof.Proof.Gen.Kernel5Ideal.Value
public import proofs.«01_k».proof.Proof.FfnRow
public import Idealize.ShloMosaic.Lib.Pipeline.ValueKit
public import Idealize.ShloMosaic.Lib.Pointwise

@[expose] public section

set_option maxRecDepth 16384

noncomputable section

namespace Cert.Kernel5Ideal.Tile

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-! ## The body's steps on one row -/

theorem normed_at (x : Vec Ideal S512x1024 .f32) (g sh sc : Vec Ideal S1x1x1x1024 .f32) (r : Fin 512) (d : Fin 1024) :
    k0_pay6 (F := Ideal) x g sh sc (ix2 r d)
      = Ffn.normed (fun k => x (ix2 r k)) (fun k => g (ix4 0 0 0 k)) (fun k => sh (ix4 0 0 0 k)) (fun k => sc (ix4 0 0 0 k)) d := by
  pointwise [k0_pay6, Ffn.normed, Ffn.rms]

theorem normed_eq (x : Vec Ideal S512x1024 .f32) (g sh sc : Vec Ideal S1x1x1x1024 .f32) :
    k0_pay10 (F := Ideal) x (k0_pay7 g) (k0_pay8 sh) (k0_pay9 sc) = k0_pay6 (F := Ideal) x g sh sc := rfl

theorem carried_at (x : Vec Ideal S512x1024 .f32) (g sh sc : Vec Ideal S1x1x1x1024 .f32) (r : Fin 512) (d : Fin 1024) :
    k0_pay1 (F := Ideal) x (k0_pay45 g) (k0_pay46 sh) (k0_pay47 sc) (k0_pay48 x) (Scalar.ofBits .f32 0x358637BD#32) (ix2 r d)
      = Ffn.normed (fun k => x (ix2 r k)) (fun k => g (ix4 0 0 0 k)) (fun k => sh (ix4 0 0 0 k)) (fun k => sc (ix4 0 0 0 k)) d := by
  pointwise [k0_pay1, k0_pay45, k0_pay46, k0_pay47, k0_pay48, Ffn.normed, Ffn.rms]

/-- A chunk of 256 hidden values, from two slices of the first weight that begin at lanes `o` and `2816 + o`. -/
theorem chunk_at (h : Vec Ideal S512x1024 .bf16) (w : Vec Ideal S1024x5632 .bf16) (wa wb : Vec Ideal S1024x256 .bf16) (o : ℕ)
    (ha : ∀ k (l : Fin 256) (hl : o + l.val < 5632), wa (ix2 k l) = w (ix2 k ⟨o + l.val, hl⟩))
    (hb : ∀ k (l : Fin 256) (hl : 2816 + (o + l.val) < 5632), wb (ix2 k l) = w (ix2 k ⟨2816 + (o + l.val), hl⟩))
    (r : Fin 512) (l : Fin 256) (f : Fin 2816) (hf : f.val = o + l.val) :
    k0_pay11 (F := Ideal) h wa wb (ix2 r l) = Ffn.act (fun k => h (ix2 r k)) (fun k f => w (ix2 k f)) f := by
  obtain ⟨f, hf'⟩ := f
  obtain rfl : f = o + l.val := hf
  have e1 : ∀ k, wa (ix2 k l) = w (ix2 k ⟨o + l.val, by omega⟩) := fun k => ha k l _
  have e2 : ∀ k, wb (ix2 k l) = w (ix2 k ⟨2816 + (o + l.val), by omega⟩) := fun k => hb k l _
  pointwise [k0_pay11, Ffn.act, e1, e2]

theorem proj_at (a : Vec Ideal S512x2816 .bf16) (w2 : Vec Ideal S2816x1024 .bf16) (r : Fin 512) (d : Fin 1024) :
    k0_pay27 (F := Ideal) a w2 (ix2 r d) = ∑ f, a (ix2 r f) * w2 (ix2 f d) := by
  pointwise [k0_pay27]

theorem add_at (x : Vec Ideal S512x1024 .f32) (gate : Vec Ideal S1x1x1x1024 .f32) (acc : Vec Ideal S512x1024 .f32) (r : Fin 512) (d : Fin 1024) :
    k0_pay28 (F := Ideal) x gate acc (ix2 r d)
      = x (ix2 r d) + Ideal.ofBits FTy.f32 1056964608#32 * gate (ix4 0 0 0 d) * acc (ix2 r d) := by
  pointwise [k0_pay28]

theorem pay44_eq : k0_pay44 (F := Ideal) = k0_pay27 := rfl
theorem pay2_eq : k0_pay2 (F := Ideal) = k0_pay28 := rfl

/-! The printed chunks are one function of the rows and two slices, cut at different lines. -/

section
variable (h : Vec Ideal S512x1024 .bf16) (a b : Vec Ideal S1024x256 .bf16)
theorem chunk12 : k0_pay12 (F := Ideal) h a b = k0_pay11 (F := Ideal) h a b := rfl
theorem chunk13 : k0_pay13 (F := Ideal) h a b = k0_pay11 (F := Ideal) h a b := rfl
theorem chunk18 : k0_pay18 (F := Ideal) h a b = k0_pay11 (F := Ideal) h a b := rfl
theorem chunk19 : k0_pay19 (F := Ideal) h a b = k0_pay11 (F := Ideal) h a b := rfl
theorem chunk20 : k0_pay20 (F := Ideal) h a b = k0_pay11 (F := Ideal) h a b := rfl
theorem chunk21 : k0_pay21 (F := Ideal) h a b = k0_pay11 (F := Ideal) h a b := rfl
theorem chunk24 : k0_pay24 (F := Ideal) h a b = k0_pay11 (F := Ideal) h a b := rfl
theorem chunk31 : k0_pay31 (F := Ideal) h a b = k0_pay11 (F := Ideal) h a b := rfl
theorem chunk32 : k0_pay32 (F := Ideal) h a b = k0_pay11 (F := Ideal) h a b := rfl
theorem chunk33 : k0_pay33 (F := Ideal) h a b = k0_pay11 (F := Ideal) h a b := rfl
theorem chunk34 : k0_pay34 (F := Ideal) h a b = k0_pay11 (F := Ideal) h a b := rfl
theorem chunk38 : k0_pay38 (F := Ideal) h a b = k0_pay11 (F := Ideal) h a b := rfl
theorem chunk39 : k0_pay39 (F := Ideal) h a b = k0_pay11 (F := Ideal) h a b := rfl
theorem chunk40 : k0_pay40 (F := Ideal) h a b = k0_pay11 (F := Ideal) h a b := rfl
theorem chunk41 : k0_pay41 (F := Ideal) h a b = k0_pay11 (F := Ideal) h a b := rfl
theorem chunk17 : k0_pay17 (F := Ideal) (k0_pay14 h a) (k0_pay15 h b) (k0_pay16 h a) = k0_pay11 (F := Ideal) h a b := rfl
theorem chunk23 : k0_pay23 (F := Ideal) h (k0_pay22 h a) b = k0_pay11 (F := Ideal) h a b := rfl
theorem chunk26 : k0_pay26 (F := Ideal) (k0_pay25 h a b) = k0_pay11 (F := Ideal) h a b := rfl
theorem chunk30 : k0_pay30 (F := Ideal) (k0_pay29 h a b) = k0_pay11 (F := Ideal) h a b := rfl
theorem chunk37 : k0_pay37 (F := Ideal) h (k0_pay35 h a) (k0_pay36 b) (constant S512x256 FTy.f32 0x00000000#32) = k0_pay11 (F := Ideal) h a b := rfl
theorem chunk43 : k0_pay43 (F := Ideal) h (k0_pay42 h a) b = k0_pay11 (F := Ideal) h a b := rfl
end

/-- The weights of the layer, out of the stacks of both layers' weights. -/
def w13 (c : Dev nD) (k : Fin 1024) (f : Fin 5632) : EReal := m ((c : Thread nD τ).loc main_arg3) (ix4 0 0 k f)
def w2 (c : Dev nD) (f : Fin 2816) (d : Fin 1024) : EReal := m ((c : Thread nD τ).loc main_arg4) (ix4 0 0 f d)

/-- The layer's result at row `i`, from the arrays the program was called with. -/
def res (c : Dev nD) (i : Fin 16384) : Fin 1024 → EReal :=
  Ffn.step (fun k => m ((c : Thread nD τ).loc main_arg0) (ix2 i k)) (fun k => m ((c : Thread nD τ).loc main_arg2) (ix3 0 0 k))
    (fun k => m ((c : Thread nD τ).loc main_arg1) (ix4 0 0 0 k)) (fun k => m ((c : Thread nD τ).loc main_arg1) (ix4 0 0 1 k))
    (fun k => m ((c : Thread nD τ).loc main_arg1) (ix4 0 0 2 k)) (w13 m c) (w2 m c)

/-- The normalised, modulated row `i` from the arrays. -/
def hid (c : Dev nD) (i : Fin 16384) : Fin 1024 → EReal :=
  Ffn.normed (fun k => m ((c : Thread nD τ).loc main_arg0) (ix2 i k)) (fun k => m ((c : Thread nD τ).loc main_arg2) (ix3 0 0 k))
    (fun k => m ((c : Thread nD τ).loc main_arg1) (ix4 0 0 0 k)) (fun k => m ((c : Thread nD τ).loc main_arg1) (ix4 0 0 1 k))

theorem idx : ∀ t : Fin cfg0.N, win0_0.index t = ![t.val, 0] ∧ win0_1.index t = ![min (2 * t.val + 2) 31, 0]
    ∧ win0_2.index t = ![0, 0, 0, 0] ∧ win0_3.index t = ![0, 0, 0, 0] ∧ win0_4.index t = ![0, 0] ∧ win0_5.index t = ![0, 0]
    ∧ win0_6.index t = ![0, 1, 0, min t.val 10] ∧ win0_7.index t = ![0, 1, t.val, 0] ∧ win0_8.index t = ![0, 0, t.val]
    ∧ win0_9.index t = ![t.val, 0] ∧ win0_10.index t = ![0, min t.val 10] ∧ win0_11.index t = ![t.val, 0]
    ∧ win0_12.index t = ![0, t.val] :=
  (by decide +kernel : ∀ t : Fin grid0.N, _)

theorem x_blk (c : Dev nD) (t : Fin cfg0.N) (r : Fin 1024) (k : Fin 1024) (i : Fin 16384) (hi : i.val = 1024 * t.val + r.val) :
    iblk m c 0 t (ix2 r k) = m ((c : Thread nD τ).loc main_arg0) (ix2 i k) := by
  blk_point [iblk, V, idx t]
theorem n_blk (c : Dev nD) (t : Fin cfg0.N) (r : Fin 512) (k : Fin 1024) (i : Fin 16384) (hi : i.val = 512 * (min (2 * t.val + 2) 31) + r.val) :
    iblk m c 1 t (ix2 r k) = m ((c : Thread nD τ).loc main_arg0) (ix2 i k) := by
  blk_point [iblk, V, idx t]
theorem mod_blk (c : Dev nD) (t : Fin cfg0.N) (s : Fin 9) (k : Fin 1024) :
    iblk m c 2 t (ix4 0 0 s k) = m ((c : Thread nD τ).loc main_arg1) (ix4 0 0 s k) := by
  blk_point [iblk, V, idx t]
theorem gain_blk (c : Dev nD) (t : Fin cfg0.N) (k : Fin 1024) :
    iblk m c 3 t (ix4 0 0 0 k) = m ((c : Thread nD τ).loc main_arg2) (ix3 0 0 k) := by
  blk_point [iblk, V, idx t]
theorem w13_blk (c : Dev nD) (t : Fin cfg0.N) (k : Fin 1024) (f : Fin 5632) :
    iblk m c 4 t (ix2 k f) = w13 m c k f := by
  rw [w13]; blk_point [iblk, V, idx t]
theorem w2_blk (c : Dev nD) (t : Fin cfg0.N) (f : Fin 2816) (k : Fin 1024) :
    iblk m c 5 t (ix2 f k) = w2 m c f k := by
  rw [w2]; blk_point [iblk, V, idx t]
theorem out_core (c : Dev nD) (X : Vec Ideal S512x1024 .f32) (act : Vec Ideal S512x2816 .bf16) (w : Vec Ideal S2816x1024 .bf16)
    (gate : Vec Ideal S1x1x1x1024 .f32) (r : Fin 512) (d : Fin 1024) (i : Fin 16384)
    (hX : ∀ k, X (ix2 r k) = m ((c : Thread nD τ).loc main_arg0) (ix2 i k))
    (hg : ∀ k, gate (ix4 0 0 0 k) = m ((c : Thread nD τ).loc main_arg1) (ix4 0 0 2 k))
    (hw : ∀ f k, w (ix2 f k) = w2 m c f k)
    (ha : ∀ f, act (ix2 r f) = Ffn.act (hid m c i) (w13 m c) f) :
    k0_pay28 X gate (k0_pay27 act w) (ix2 r d) = res m c i d := by
  rw [add_at]
  simp only [proj_at, hX, hg, hw, ha]
  rfl

theorem cols_idx (w : Vec Ideal S1024x5632 .bf16) (o : ℕ) (inb) (k : Fin 1024) (l : Fin 256) (n : Fin 5632) (hn : n.val = o + l.val) :
    w ((Rect.unit (s := S1024x5632) ![0, o] ![1024, 256] inb).idx (ix2 k l)) = w (ix2 k n) := by
  refine congrArg w (funext fun a => ?_)
  fin_cases a
  · exact Fin.ext (by simp)
  · exact Fin.ext (by simp [hn])

/-- What one chunk holds at a lane, over rows already known to be the normalised rows. -/
theorem chunk_hid (c : Dev nD) (hn : Vec Ideal S512x1024 .bf16) (w : Vec Ideal S1024x5632 .bf16) (p : Vec Ideal S512x256 .bf16) (o o' : ℕ) (inb inb')
    (i : Fin 16384) (r : Fin 512) (ho : o' = 2816 + o)
    (hp : p = k0_pay11 hn (View.ld (Val := Elt Ideal) w (Rect.unit (s := S1024x5632) ![0, o] ![1024, 256] inb)) (View.ld (Val := Elt Ideal) w (Rect.unit (s := S1024x5632) ![0, o'] ![1024, 256] inb')))
    (hh : ∀ k, hn (ix2 r k) = hid m c i k) (hw : ∀ k f, w (ix2 k f) = w13 m c k f)
    (l : Fin 256) (f : Fin 2816) (hf : f.val = o + l.val) :
    p (ix2 r l) = Ffn.act (hid m c i) (w13 m c) f := by
  subst hp
  rw [chunk_at hn w _ _ o (fun k l hl => cols_idx w _ _ k l _ rfl) (fun k l hl => cols_idx w _ _ k l _ (by dsimp only; omega)) r l f hf]
  simp only [hh, hw]

/-- The rows the body normalises ahead and leaves for the next point: those of the next 512-row tile. -/
theorem carry_at (c : Dev nD) (t : Fin cfg0.N) (r : Fin 512) (k : Fin 1024) (i : Fin 16384)
    (hi : i.val = 512 * (min (2 * t.val + 2) 31) + r.val) : (outsAt0 m c t.val t.isLt).2.2.2.2 (ix2 r k) = hid m c i k := by
  by_cases ht : t.val % 16 = 0
  · rw [outsAt0_A m c t ht]; frame_out
    rw [carried_at, hid]
    congr 1 <;> funext k <;> blk_point [iblk, V, idx t]
  · rw [outsAt0_B m c t ht]; frame_out
    rw [carried_at, hid]
    congr 1 <;> funext k <;> blk_point [iblk, V, idx t]

theorem whole_idx (r : Fin 512) (f : Fin 2816) :
    (Rect.unit (s := S512x2816) ![0, 0] ![512, 2816] inb_S512x2816_S512x2816_0_0).toLoadRect.idx (ix2 r f) = ix2 r f := by
  funext a; fin_cases a <;> exact Fin.ext (by simp)

/-- One chunk's store: a lane inside it reads the chunk, a lane outside what was stored before. -/
theorem chunk_step (o : ℕ) (inb) (p : Vec Ideal S512x256 .bf16) (L : List (View.Piece (Elt Ideal) S512x2816 .bf16)) (r : Fin 512) (f : Fin 2816) (z : EReal)
    (h1 : ∀ l : Fin 256, f.val = o + l.val → p (ix2 r l) = z)
    (h2 : ¬(o ≤ f.val ∧ f.val < o + 256) → View.canon (Val := Elt Ideal) L (ix2 r f) = z) :
    View.canon (Val := Elt Ideal) (⟨Rect.unit ![0, o] ![512, 256] inb, p⟩ :: L) (ix2 r f) = z := by
  by_cases hm : o ≤ f.val ∧ f.val < o + 256
  · have e : (ix2 r f : S512x2816.Idx) = (Rect.unit (s := S512x2816) ![0, o] ![512, 256] inb).emb (ix2 r ⟨f.val - o, by omega⟩) := by
      funext a; fin_cases a
      · exact Fin.ext (by simp)
      · exact Fin.ext (by simp; omega)
    rw [e, View.canon_cons_emb]
    exact h1 ⟨f.val - o, by omega⟩ (by dsimp only; omega)
  · rw [View.canon_cons_of_not_mem]
    · exact h2 hm
    · intro hy
      obtain ⟨x, hx⟩ := LoadRect.exists_idx_of_mem _ hy
      apply hm
      have h := congrArg (fun y : S512x2816.Idx => (y 1).val) hx
      have hl : (x 1).val < 256 := (x 1).isLt
      have h' : o + 1 * (x 1).val = f.val := h
      omega

/-- The hidden rows read back whole, stored as eleven chunks of 256 lanes over whatever was there. -/
theorem hidden_at (v : View sig .tc .vmem S512x2816 .bf16) (L : List (View.Piece (Elt Ideal) S512x2816 .bf16)) (p0 p1 p2 p3 p4 p5 p6 p7 p8 p9 p10 : Vec Ideal S512x256 .bf16) (r : Fin 512) (q : Fin 2816 → EReal)
    (e0 : ∀ (l : Fin 256) (f : Fin 2816), f.val = 0 + l.val → p0 (ix2 r l) = q f)
    (e1 : ∀ (l : Fin 256) (f : Fin 2816), f.val = 256 + l.val → p1 (ix2 r l) = q f)
    (e2 : ∀ (l : Fin 256) (f : Fin 2816), f.val = 512 + l.val → p2 (ix2 r l) = q f)
    (e3 : ∀ (l : Fin 256) (f : Fin 2816), f.val = 768 + l.val → p3 (ix2 r l) = q f)
    (e4 : ∀ (l : Fin 256) (f : Fin 2816), f.val = 1024 + l.val → p4 (ix2 r l) = q f)
    (e5 : ∀ (l : Fin 256) (f : Fin 2816), f.val = 1280 + l.val → p5 (ix2 r l) = q f)
    (e6 : ∀ (l : Fin 256) (f : Fin 2816), f.val = 1536 + l.val → p6 (ix2 r l) = q f)
    (e7 : ∀ (l : Fin 256) (f : Fin 2816), f.val = 1792 + l.val → p7 (ix2 r l) = q f)
    (e8 : ∀ (l : Fin 256) (f : Fin 2816), f.val = 2048 + l.val → p8 (ix2 r l) = q f)
    (e9 : ∀ (l : Fin 256) (f : Fin 2816), f.val = 2304 + l.val → p9 (ix2 r l) = q f)
    (e10 : ∀ (l : Fin 256) (f : Fin 2816), f.val = 2560 + l.val → p10 (ix2 r l) = q f) (f : Fin 2816) :
    v.readCov (Val := Elt Ideal) (⟨Rect.unit ![0, 2560] ![512, 256] inb_S512x2816_S512x256_0_2560, p10⟩ :: ⟨Rect.unit ![0, 2304] ![512, 256] inb_S512x2816_S512x256_0_2304, p9⟩ :: ⟨Rect.unit ![0, 2048] ![512, 256] inb_S512x2816_S512x256_0_2048, p8⟩ :: ⟨Rect.unit ![0, 1792] ![512, 256] inb_S512x2816_S512x256_0_1792, p7⟩ :: ⟨Rect.unit ![0, 1536] ![512, 256] inb_S512x2816_S512x256_0_1536, p6⟩ :: ⟨Rect.unit ![0, 1280] ![512, 256] inb_S512x2816_S512x256_0_1280, p5⟩ :: ⟨Rect.unit ![0, 1024] ![512, 256] inb_S512x2816_S512x256_0_1024, p4⟩ :: ⟨Rect.unit ![0, 768] ![512, 256] inb_S512x2816_S512x256_0_768, p3⟩ :: ⟨Rect.unit ![0, 512] ![512, 256] inb_S512x2816_S512x256_0_512, p2⟩ :: ⟨Rect.unit ![0, 256] ![512, 256] inb_S512x2816_S512x256_0_256, p1⟩ :: ⟨Rect.unit ![0, 0] ![512, 256] inb_S512x2816_S512x256_0_0, p0⟩ :: L) (Rect.unit ![0, 0] ![512, 2816] inb_S512x2816_S512x2816_0_0).toLoadRect (by exact ix2 r f) = q f := by
  rw [View.readCov_eq_canon']
  simp only [whole_idx]
  refine chunk_step 2560 _ p10 _ r f _ (fun l h => e10 l f h) fun h10 => ?_
  refine chunk_step 2304 _ p9 _ r f _ (fun l h => e9 l f h) fun h9 => ?_
  refine chunk_step 2048 _ p8 _ r f _ (fun l h => e8 l f h) fun h8 => ?_
  refine chunk_step 1792 _ p7 _ r f _ (fun l h => e7 l f h) fun h7 => ?_
  refine chunk_step 1536 _ p6 _ r f _ (fun l h => e6 l f h) fun h6 => ?_
  refine chunk_step 1280 _ p5 _ r f _ (fun l h => e5 l f h) fun h5 => ?_
  refine chunk_step 1024 _ p4 _ r f _ (fun l h => e4 l f h) fun h4 => ?_
  refine chunk_step 768 _ p3 _ r f _ (fun l h => e3 l f h) fun h3 => ?_
  refine chunk_step 512 _ p2 _ r f _ (fun l h => e2 l f h) fun h2 => ?_
  refine chunk_step 256 _ p1 _ r f _ (fun l h => e1 l f h) fun h1 => ?_
  refine chunk_step 0 _ p0 _ r f _ (fun l h => e0 l f h) fun h0 => ?_
  omega

/-- The rows the body normalises from the first half of its own tile, and from the second. -/
theorem hn_at0 (c : Dev nD) (t : Fin cfg0.N) (i : Fin 16384) (k : Fin 1024) (x0 : Fin 512) (hi : i.val = 1024 * t.val + x0.val) :
    k0_pay6 (F := Ideal) (View.ld (iblk m c 0 t) (Rect.unit ![0, 0] ![512, 1024] inb_S1024x1024_S512x1024_0_0)) (iblk m c 3 t)
      (View.ld (iblk m c 2 t) (Rect.unit ![0, 0, 0, 0] ![1, 1, 1, 1024] inb_S1x1x9x1024_S1x1x1x1024_0_0_0_0))
      (View.ld (iblk m c 2 t) (Rect.unit ![0, 0, 1, 0] ![1, 1, 1, 1024] inb_S1x1x9x1024_S1x1x1x1024_0_0_1_0)) (ix2 x0 k)
      = hid m c i k := by
  rw [normed_at, hid]
  congr 1 <;> funext k <;> blk_point [iblk, V, idx t]

theorem hn_at1 (c : Dev nD) (t : Fin cfg0.N) (i : Fin 16384) (k : Fin 1024) (x0 : Fin 512) (hi : i.val = 1024 * t.val + (512 + x0.val)) :
    k0_pay6 (F := Ideal) (View.ld (iblk m c 0 t) (Rect.unit ![512, 0] ![512, 1024] inb_S1024x1024_S512x1024_512_0)) (iblk m c 3 t)
      (View.ld (iblk m c 2 t) (Rect.unit ![0, 0, 0, 0] ![1, 1, 1, 1024] inb_S1x1x9x1024_S1x1x1x1024_0_0_0_0))
      (View.ld (iblk m c 2 t) (Rect.unit ![0, 0, 1, 0] ![1, 1, 1, 1024] inb_S1x1x9x1024_S1x1x1x1024_0_0_1_0)) (ix2 x0 k)
      = hid m c i k := by
  rw [normed_at, hid]
  congr 1 <;> funext k <;> blk_point [iblk, V, idx t]

end Cert.Kernel5Ideal.Tile
-- ==== Proof.FfnInOut.lean ====
module

public import proofs.«01_k».proof.Proof.Gen.Kernel5Ideal.Value
public import proofs.«01_k».proof.Proof.FfnInTile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Tile

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- The block the first point writes: its rows are all normalised in the point itself. -/
theorem out_at_A (c : Dev nD) (t : Fin cfg0.N) (ht : t.val % 16 = 0) (y : S1024x1024.Idx) (i : Fin 16384) (hi : i.val = 1024 * t.val + (y 0).val) :
    (outsAt0 m c t.val t.isLt).1 y = res m c i (y 1) := by
  have hw := w13_blk m c t
  rw [outsAt0_A m c t ht]; frame_out
  canon_tiles x h
  all_goals idx_vars x
  all_goals rw [show y 1 = x1 from Fin.ext h1]
  case piece0 =>
      rw [pay44_eq, pay2_eq]
      simp only [normed_eq]
      refine out_core m c (View.ld (iblk m c 0 t) (Rect.unit ![512, 0] ![512, 1024] inb_S1024x1024_S512x1024_512_0)) _ _ _ x0 x1 i
        (fun k => by blk_point [iblk, V, idx t]) (fun k => by blk_point [iblk, V, idx t]) (w2_blk m c t) fun f => ?_
      have hh : ∀ k, _ = hid m c i k := fun k => hn_at1 m c t i k x0 (by omega)
      generalize k0_pay6 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk12, chunk13, chunk18, chunk19, chunk20, chunk21, chunk24, chunk31, chunk32, chunk33, chunk34, chunk38, chunk39, chunk40, chunk41, chunk17, chunk23, chunk26, chunk30, chunk37, chunk43]
      all_goals exact chunk_hid m c hn w _ _ _ _ _ i x0 rfl rfl hh hw
  case piece1 =>
      refine out_core m c (View.ld (iblk m c 0 t) (Rect.unit ![0, 0] ![512, 1024] inb_S1024x1024_S512x1024_0_0)) _ _ _ x0 x1 i
        (fun k => by blk_point [iblk, V, idx t]) (fun k => by blk_point [iblk, V, idx t]) (w2_blk m c t) fun f => ?_
      have hh : ∀ k, _ = hid m c i k := fun k => hn_at0 m c t i k x0 (by omega)
      generalize k0_pay6 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk12, chunk13, chunk18, chunk19, chunk20, chunk21, chunk24, chunk31, chunk32, chunk33, chunk34, chunk38, chunk39, chunk40, chunk41, chunk17, chunk23, chunk26, chunk30, chunk37, chunk43]
      all_goals exact chunk_hid m c hn w _ _ _ _ _ i x0 rfl rfl hh hw

set_option maxHeartbeats 4000000 in
/-- The block any later point writes: the first half's rows were normalised by the point before. -/
theorem out_at_B (c : Dev nD) (t : Fin cfg0.N) (ht : ¬t.val % 16 = 0) (y : S1024x1024.Idx) (i : Fin 16384) (hi : i.val = 1024 * t.val + (y 0).val) :
    (outsAt0 m c t.val t.isLt).1 y = res m c i (y 1) := by
  have hw := w13_blk m c t
  rw [outsAt0_B m c t ht]; frame_out
  simp only [read_unread_whole]
  canon_tiles x h
  all_goals idx_vars x
  all_goals rw [show y 1 = x1 from Fin.ext h1]
  case piece0 =>
      rw [pay44_eq, pay2_eq]
      simp only [normed_eq]
      refine out_core m c (View.ld (iblk m c 0 t) (Rect.unit ![512, 0] ![512, 1024] inb_S1024x1024_S512x1024_512_0)) _ _ _ x0 x1 i
        (fun k => by blk_point [iblk, V, idx t]) (fun k => by blk_point [iblk, V, idx t]) (w2_blk m c t) fun f => ?_
      have hh : ∀ k, _ = hid m c i k := fun k => hn_at1 m c t i k x0 (by omega)
      generalize k0_pay6 (F := Ideal) _ (iblk m c 3 t) _ _ = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk12, chunk13, chunk18, chunk19, chunk20, chunk21, chunk24, chunk31, chunk32, chunk33, chunk34, chunk38, chunk39, chunk40, chunk41, chunk17, chunk23, chunk26, chunk30, chunk37, chunk43]
      all_goals exact chunk_hid m c hn w _ _ _ _ _ i x0 rfl rfl hh hw
  case piece1 =>
      refine out_core m c (View.ld (iblk m c 0 t) (Rect.unit ![0, 0] ![512, 1024] inb_S1024x1024_S512x1024_0_0)) _ _ _ x0 x1 i
        (fun k => by blk_point [iblk, V, idx t]) (fun k => by blk_point [iblk, V, idx t]) (w2_blk m c t) fun f => ?_
      have hh : ∀ k, _ = hid m c i k := fun k => carry_at m c ⟨t.val - 1, by have := t.isLt; omega⟩ x0 k i (by have ht' : t.val < 16 := t.isLt; dsimp only; omega)
      generalize (outsAt0 m c (t.val - 1) _).2.2.2.2 = hn at hh ⊢
      obtain ⟨w, hwe⟩ : ∃ w : Vec Ideal S1024x5632 .bf16, w = iblk m c 4 t := ⟨_, rfl⟩
      rw [← hwe] at hw ⊢
      clear hwe
      refine hidden_at _ _ _ _ _ _ _ _ _ _ _ _ _ x0 _ ?_ ?_ ?_ ?_ ?_ ?_ ?_ ?_ ?_ ?_ ?_ f
      all_goals try simp only [chunk12, chunk13, chunk18, chunk19, chunk20, chunk21, chunk24, chunk31, chunk32, chunk33, chunk34, chunk38, chunk39, chunk40, chunk41, chunk17, chunk23, chunk26, chunk30, chunk37, chunk43]
      all_goals exact chunk_hid m c hn w _ _ _ _ _ i x0 rfl rfl hh hw

/-- THE RESULT ARRAY: the layer, row by row. -/
theorem final (c : Dev nD) : (dats m 0 c).arrAt 9 cfg0.N = fun i : S16384x1024.Idx => res m c (i 0) (i 1) := by
  refine (dats m 0 c).arrAt_eq_of_covers 9 _ (by decide +kernel) fun t hf y => ?_
  have h7 := (idx t).2.2.2.2.2.2.2.2.2.1
  have e1 : (win0_9.blk t).view.emb y 1 = y 1 := Fin.ext (by blk_simp [h7])
  have e0 : ((win0_9.blk t).view.emb y 0).val = 1024 * t.val + (y 0).val := by (blk_simp [h7]; omega)
  have key : (outsAt0 m c t.val t.isLt).1 y = res m c ((win0_9.blk t).view.emb y 0) (y 1) := by
    by_cases ht : t.val % 16 = 0
    · exact out_at_A m c t ht y _ e0
    · exact out_at_B m c t ht y _ e0
  blk_simp
  rw [after0_9]
  rw [key]
  exact congrArg _ e1.symm

theorem cast13_at (v : Vec Ideal S1x1x1024x512 .f32) (k : Fin 1024) (l : Fin 512) : k0_pay3 (F := Ideal) v (ix2 k l) = v (ix4 0 0 k l) := by
  pointwise [k0_pay3]
theorem cast2_at (v : Vec Ideal S1x1x176x1024 .f32) (k : Fin 176) (l : Fin 1024) : k0_pay4 (F := Ideal) v (ix2 k l) = v (ix4 0 0 k l) := by
  pointwise [k0_pay4]

/-- The layer's other first weight, cast a chunk of columns at a time. -/
theorem final13 (c : Dev nD) : (dats m 0 c).arrAt 10 cfg0.N = fun i : S1024x5632.Idx => m ((c : Thread nD τ).loc main_arg3) (ix4 0 1 (i 0) (i 1)) := by
  refine (dats m 0 c).arrAt_eq_of_covers 10 _ (by decide +kernel) fun t hf y => ?_
  have h7 := (idx t).2.2.2.2.2.2.2.2.2.2.1
  have e0 : (win0_10.blk t).view.emb y 0 = y 0 := Fin.ext (by blk_simp [h7])
  have e1 : ((win0_10.blk t).view.emb y 1).val = 512 * (min t.val 10) + (y 1).val := by (blk_simp [h7]; omega)
  have key : (outsAt0 m c t.val t.isLt).2.1 y = m ((c : Thread nD τ).loc main_arg3) (ix4 0 1 (y 0) ((win0_10.blk t).view.emb y 1)) := by
    generalize (win0_10.blk t).view.emb y 1 = z at e1
    by_cases ht : t.val % 16 = 0
    · rw [outsAt0_A m c t ht]; frame_out
      idx_vars y
      rw [cast13_at]
      blk_point [iblk, V, idx t]
    · rw [outsAt0_B m c t ht]; frame_out
      idx_vars y
      rw [cast13_at]
      blk_point [iblk, V, idx t]
  blk_simp
  rw [after0_10]
  rw [key]
  exact congrArg (fun q => m ((c : Thread nD τ).loc main_arg3) (ix4 0 1 q _)) e0.symm

/-- The layer's other second weight, cast a chunk of rows at a time. -/
theorem final2 (c : Dev nD) : (dats m 0 c).arrAt 11 cfg0.N = fun i : S2816x1024.Idx => m ((c : Thread nD τ).loc main_arg4) (ix4 0 1 (i 0) (i 1)) := by
  refine (dats m 0 c).arrAt_eq_of_covers 11 _ (by decide +kernel) fun t hf y => ?_
  have h7 := (idx t).2.2.2.2.2.2.2.2.2.2.2.1
  have e1 : (win0_11.blk t).view.emb y 1 = y 1 := Fin.ext (by blk_simp [h7])
  have e0 : ((win0_11.blk t).view.emb y 0).val = 176 * t.val + (y 0).val := by (blk_simp [h7]; omega)
  have key : (outsAt0 m c t.val t.isLt).2.2.1 y = m ((c : Thread nD τ).loc main_arg4) (ix4 0 1 ((win0_11.blk t).view.emb y 0) (y 1)) := by
    generalize (win0_11.blk t).view.emb y 0 = z at e0
    by_cases ht : t.val % 16 = 0
    · rw [outsAt0_A m c t ht]; frame_out
      idx_vars y
      rw [cast2_at]
      blk_point [iblk, V, idx t]
    · rw [outsAt0_B m c t ht]; frame_out
      idx_vars y
      rw [cast2_at]
      blk_point [iblk, V, idx t]
  blk_simp
  rw [after0_11]
  rw [key]
  exact congrArg (fun q => m ((c : Thread nD τ).loc main_arg4) (ix4 0 1 _ q)) e1.symm

theorem castIn_at (v : Vec Ideal S1x1024x128 .f32) (k : Fin 1024) (l : Fin 128) : k0_pay5 (F := Ideal) v (ix2 k l) = v (ix3 0 k l) := by
  pointwise [k0_pay5]

/-- The mixer's input projection, cast a chunk of columns at a time. -/
theorem finalIn (c : Dev nD) : (dats m 0 c).arrAt 12 cfg0.N = fun i : S1024x2048.Idx => m ((c : Thread nD τ).loc main_arg5) (ix3 0 (i 0) (i 1)) := by
  refine (dats m 0 c).arrAt_eq_of_covers 12 _ (by decide +kernel) fun t hf y => ?_
  have h7 := (idx t).2.2.2.2.2.2.2.2.2.2.2.2
  have e0 : (win0_12.blk t).view.emb y 0 = y 0 := Fin.ext (by blk_simp [h7])
  have e1 : ((win0_12.blk t).view.emb y 1).val = 128 * t.val + (y 1).val := by (blk_simp [h7]; omega)
  have key : (outsAt0 m c t.val t.isLt).2.2.2.1 y = m ((c : Thread nD τ).loc main_arg5) (ix3 0 (y 0) ((win0_12.blk t).view.emb y 1)) := by
    generalize (win0_12.blk t).view.emb y 1 = z at e1
    by_cases ht : t.val % 16 = 0
    · rw [outsAt0_A m c t ht]; frame_out
      idx_vars y
      rw [castIn_at]
      blk_point [iblk, V, idx t]
    · rw [outsAt0_B m c t ht]; frame_out
      idx_vars y
      rw [castIn_at]
      blk_point [iblk, V, idx t]
  blk_simp
  rw [after0_12]
  rw [key]
  exact congrArg (fun q => m ((c : Thread nD τ).loc main_arg5) (ix3 0 q _)) e0.symm

end Cert.Kernel5Ideal.Tile
-- ==== Proof.FfnInRef.lean ====
module

public import proofs.«01_k».proof.Proof.Gen.Reference5Ideal.Run
public import proofs.«01_k».proof.Proof.FfnInOut

/-!
# The plain half-step with its cast weights, and its agreement with the kernel
-/

@[expose] public section

set_option maxRecDepth 16384

noncomputable section

namespace Cert.FfnInClaim

open Idealize.ShloMosaic Idealize.ShloMosaic.TcCoe Idealize.SL.Sem

/-- The reference's result at row `i`, lane `d`, is the layer's step on that row. -/
theorem ref_at (m : (ℓ : Loc Reference5Ideal.nD Reference5Ideal.τ Reference5Ideal.sig) → Buf (Elt Ideal) ℓ) (c : Dev Reference5Ideal.nD)
    (i : Fin 16384) (d : Fin 1024) :
    Reference5Ideal.Value.res_main_v46 (F := Ideal) m c (ix2 i d)
      = Ffn.step (fun k => m ((c.tc : Thread _ _).loc Reference5Ideal.main_arg0) (ix2 i k))
          (fun k => m ((c.tc : Thread _ _).loc Reference5Ideal.main_arg2) (ix3 0 0 k))
          (fun k => m ((c.tc : Thread _ _).loc Reference5Ideal.main_arg1) (ix4 0 0 0 k))
          (fun k => m ((c.tc : Thread _ _).loc Reference5Ideal.main_arg1) (ix4 0 0 1 k))
          (fun k => m ((c.tc : Thread _ _).loc Reference5Ideal.main_arg1) (ix4 0 0 2 k))
          (fun k f => m ((c.tc : Thread _ _).loc Reference5Ideal.main_arg3) (ix4 0 0 k f))
          (fun f d => m ((c.tc : Thread _ _).loc Reference5Ideal.main_arg4) (ix4 0 0 f d)) d := by
  pointwise [Reference5Ideal.Value.res_main_v46, Ffn.step, Ffn.mlp, Ffn.act, Ffn.normed, Ffn.rms]
  rfl

variable (m : (ℓ : Loc Kernel5Ideal.nD Kernel5Ideal.τ Kernel5Ideal.sig) → Buf (Elt Ideal) ℓ)
    (m' : (ℓ : Loc Reference5Ideal.nD Reference5Ideal.τ Reference5Ideal.sig) → Buf (Elt Ideal) ℓ) (c : Dev Kernel5Ideal.nD)

/-- The layer's rows agree where the arguments do. -/
theorem arr (e0 : m' ((c.tc : Thread _ _).loc Reference5Ideal.main_arg0) = m ((c.tc : Thread _ _).loc Kernel5Ideal.main_arg0))
    (e1 : m' ((c.tc : Thread _ _).loc Reference5Ideal.main_arg1) = m ((c.tc : Thread _ _).loc Kernel5Ideal.main_arg1))
    (e2 : m' ((c.tc : Thread _ _).loc Reference5Ideal.main_arg2) = m ((c.tc : Thread _ _).loc Kernel5Ideal.main_arg2))
    (e3 : m' ((c.tc : Thread _ _).loc Reference5Ideal.main_arg3) = m ((c.tc : Thread _ _).loc Kernel5Ideal.main_arg3))
    (e4 : m' ((c.tc : Thread _ _).loc Reference5Ideal.main_arg4) = m ((c.tc : Thread _ _).loc Kernel5Ideal.main_arg4)) :
    Reference5Ideal.Value.res_main_v46 (F := Ideal) m' c = (Kernel5Ideal.Gen.dats m 0 c).arrAt 9 (Kernel5Ideal.cfgs 0).N := by
  rw [Kernel5Ideal.Tile.final m c]
  funext i
  idx_vars i
  rw [ref_at, e0, e1, e2, e3, e4]
  rfl

open Reference5Ideal Reference5Ideal.Gen in
theorem arr13 (e3 : m' ((c.tc : Thread _ _).loc Reference5Ideal.main_arg3) = m ((c.tc : Thread _ _).loc Kernel5Ideal.main_arg3)) :
    (truncf .bf16 (shapeCast _ (extractStridedSlice S1x1x1024x5632 ![0, 1, 0, 0] (m' ((c.tc : Thread Reference5Ideal.nD Reference5Ideal.τ).loc Reference5Ideal.main_arg3)) slices_S2x2x1024x5632_S1x1x1024x5632_0_1_0_0) shapeCasts_S1x1x1024x5632_S1024x5632) bitsLt_bf16_f32 : FVec Ideal S1024x5632 .bf16)
      = (Kernel5Ideal.Gen.dats m 0 c).arrAt 10 (Kernel5Ideal.cfgs 0).N := by
  rw [Kernel5Ideal.Tile.final13 m c, e3]
  funext i
  idx_vars i
  pointwise []

open Reference5Ideal Reference5Ideal.Gen in
theorem arr2 (e4 : m' ((c.tc : Thread _ _).loc Reference5Ideal.main_arg4) = m ((c.tc : Thread _ _).loc Kernel5Ideal.main_arg4)) :
    (truncf .bf16 (shapeCast _ (extractStridedSlice S1x1x2816x1024 ![0, 1, 0, 0] (m' ((c.tc : Thread Reference5Ideal.nD Reference5Ideal.τ).loc Reference5Ideal.main_arg4)) slices_S2x2x2816x1024_S1x1x2816x1024_0_1_0_0) shapeCasts_S1x1x2816x1024_S2816x1024) bitsLt_bf16_f32 : FVec Ideal S2816x1024 .bf16)
      = (Kernel5Ideal.Gen.dats m 0 c).arrAt 11 (Kernel5Ideal.cfgs 0).N := by
  rw [Kernel5Ideal.Tile.final2 m c, e4]
  funext i
  idx_vars i
  pointwise []

open Reference5Ideal Reference5Ideal.Gen in
theorem in_at (v : FVec Ideal S1x1024x2048 .f32) (k : Fin 1024) (l : Fin 2048) :
    (truncf .bf16 (shapeCast S1024x2048 v shapeCasts_S1x1024x2048_S1024x2048) bitsLt_bf16_f32 : FVec Ideal S1024x2048 .bf16) (ix2 k l)
      = v (ix3 0 k l) := by
  pointwise []

open Reference5Ideal Reference5Ideal.Gen in
theorem arrIn (e5 : m' ((c.tc : Thread _ _).loc Reference5Ideal.main_arg5) = m ((c.tc : Thread _ _).loc Kernel5Ideal.main_arg5)) :
    (truncf .bf16 (shapeCast _ (m' ((c.tc : Thread Reference5Ideal.nD Reference5Ideal.τ).loc Reference5Ideal.main_arg5)) shapeCasts_S1x1024x2048_S1024x2048) bitsLt_bf16_f32 : FVec Ideal S1024x2048 .bf16)
      = (Kernel5Ideal.Gen.dats m 0 c).arrAt 12 (Kernel5Ideal.cfgs 0).N := by
  rw [Kernel5Ideal.Tile.finalIn m c, e5]
  funext i
  idx_vars i
  exact in_at _ _ _

end Cert.FfnInClaim
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.AttnClaim
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.FfnRef
public import proofs.«01_k».proof.Proof.FfnCastRef
public import proofs.«01_k».proof.Proof.FfnOpenRef
public import proofs.«01_k».proof.Proof.FfnInRef
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The attention kernels and the plain attention step leave the same array, where queries, keys and biases are finite. -/
theorem attn [hK : Cert.KernelIdeal.Facts] [hR : Cert.ReferenceIdeal.Facts] [hP : Cert.Pre_finite.Facts] :
    Cert.algebraic_KernelIdeal_ReferenceIdeal_pre_finite := by
  intro m g m' g' hpre hagree
  refine ⟨fun c => (fun i => Cert.KernelIdeal.Gen.outv m c (i 0) (i 1) : Cert.KernelIdeal.S16384x1024.Idx → EReal),
    Cert.KernelIdeal.Gen.run_out m g, ?_⟩
  run_from Cert.ReferenceIdeal.Value.run m' g'
  obtain ⟨a0, a1, a2, a3, a4, a5, a6, a7, a8, a9⟩ := hagree c
  exact Cert.AttnClaim.arr m c m' hpre a0 a1 a2 a3 a4 a5 a6 a7 a8 a9

theorem frame_R [hR : Cert.ReferenceIdeal.Facts] : Cert.quiescent_ReferenceIdeal := by
  intro m g hpre
  run_from Cert.ReferenceIdeal.Value.run m g
  · exact fun _ => ⟨trivial, trivial, trivial, trivial, trivial, trivial, trivial, trivial, trivial, trivial⟩
  · exact sem_eq_zero_of_no_sems rfl _

theorem frame_R_pre [hR : Cert.ReferenceIdeal.Facts] [hP : Cert.Pre_finite.Facts] : Cert.quiescent_ReferenceIdeal_pre_finite :=
  fun m g _ => frame_R m g trivial

/-- The feed-forward kernel and the plain layer leave the same array. -/
theorem ffn [hK : Cert.Kernel2Ideal.Facts] [hR : Cert.Reference2Ideal.Facts] : Cert.algebraic_Kernel2Ideal_Reference2Ideal := by
  pair_intro
  · run_from Cert.Kernel2Ideal.Gen.run_main m g
  · run_from Cert.Reference2Ideal.Value.run m' g'
    all_goals (obtain ⟨a0, a1, a2, a3, a4, a5⟩ := hagree c; exact Cert.FfnClaim.arr m m' c a0 a1 a2 a3 a4 a5)

theorem frame_R2 [hR : Cert.Reference2Ideal.Facts] : Cert.quiescent_Reference2Ideal := by
  intro m g hpre
  run_from Cert.Reference2Ideal.Value.run m g
  · exact fun _ => ⟨trivial, trivial, trivial, trivial, trivial, trivial⟩
  · exact sem_eq_zero_of_no_sems rfl _

/-- The feed-forward kernel that also casts the next weights, and the plain step with its casts, leave the same arrays. -/
theorem ffn_cast [hK : Cert.Kernel3Ideal.Facts] [hR : Cert.Reference3Ideal.Facts] : Cert.algebraic_Kernel3Ideal_Reference3Ideal := by
  pair_intro
  · run_from Cert.Kernel3Ideal.Gen.run_main m g
  · run_from Cert.Reference3Ideal.Value.run m' g'
    · obtain ⟨a0, a1, a2, a3, a4⟩ := hagree c; exact Cert.FfnCastClaim.arr m m' c a0 a1 a2 a3 a4
    · obtain ⟨a0, a1, a2, a3, a4⟩ := hagree c; rw [← a3]; exact Cert.FfnCastClaim.arr13 m m' c a3
    · obtain ⟨a0, a1, a2, a3, a4⟩ := hagree c; rw [← a4]; exact Cert.FfnCastClaim.arr2 m m' c a4

theorem frame_R3 [hR : Cert.Reference3Ideal.Facts] : Cert.quiescent_Reference3Ideal := by
  intro m g hpre
  run_from Cert.Reference3Ideal.Value.run m g
  · exact fun _ => ⟨trivial, trivial, trivial, trivial, trivial⟩
  · exact sem_eq_zero_of_no_sems rfl _

/-- The feed-forward kernel that opens the second layer, and the plain step, leave the same arrays. -/
theorem ffn_open [hK : Cert.Kernel4Ideal.Facts] [hR : Cert.Reference4Ideal.Facts] : Cert.algebraic_Kernel4Ideal_Reference4Ideal := by
  pair_intro
  · run_from Cert.Kernel4Ideal.Gen.run_main m g
  · run_from Cert.Reference4Ideal.Value.run m' g'
    · obtain ⟨a0, a1, a2, a3, a4⟩ := hagree c; exact Cert.FfnOpenClaim.arr m m' c a0 a1 a2 a3 a4
    · obtain ⟨a0, a1, a2, a3, a4⟩ := hagree c; rw [← a3]; exact Cert.FfnOpenClaim.arr13 m m' c a3
    · obtain ⟨a0, a1, a2, a3, a4⟩ := hagree c; rw [← a4]; exact Cert.FfnOpenClaim.arr2 m m' c a4

theorem frame_R4 [hR : Cert.Reference4Ideal.Facts] : Cert.quiescent_Reference4Ideal := by
  intro m g hpre
  run_from Cert.Reference4Ideal.Value.run m g
  · exact fun _ => ⟨trivial, trivial, trivial, trivial, trivial⟩
  · exact sem_eq_zero_of_no_sems rfl _

set_option maxHeartbeats 4000000 in
/-- The feed-forward kernel that opens the first layer, and the plain step, leave the same arrays. -/
theorem ffn_in [hK : Cert.Kernel5Ideal.Facts] [hR : Cert.Reference5Ideal.Facts] : Cert.algebraic_Kernel5Ideal_Reference5Ideal := by
  pair_intro
  · run_from Cert.Kernel5Ideal.Gen.run_main m g
  · refine θ_run_mono (Cert.Reference5Ideal.Value.run m' g') ?_
    intro r hr c
    obtain ⟨h0, h1, h2, h3, k⟩ := hr c
    obtain ⟨a0, a1, a2, a3, a4, a5⟩ := hagree c
    exact ⟨h0.trans (Cert.FfnInClaim.arr m m' c a0 a1 a2 a3 a4), h1.trans (Cert.FfnInClaim.arr13 m m' c a3),
      h2.trans (Cert.FfnInClaim.arr2 m m' c a4), h3.trans (Cert.FfnInClaim.arrIn m m' c a5), k⟩

theorem frame_R5 [hR : Cert.Reference5Ideal.Facts] : Cert.quiescent_Reference5Ideal := by
  intro m g hpre
  run_from Cert.Reference5Ideal.Value.run m g
  · exact fun _ => ⟨trivial, trivial, trivial, trivial, trivial, trivial⟩
  · exact sem_eq_zero_of_no_sems rfl _

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_R,
  frame_R_pre,
  fun m ρ _ => Cert.Kernel2.Gen.frame m ρ,
  fun m ρ _ => Cert.Kernel2Ideal.Gen.frame m ρ,
  frame_R2,
  fun m ρ _ => Cert.Kernel3.Gen.frame m ρ,
  fun m ρ _ => Cert.Kernel3Ideal.Gen.frame m ρ,
  frame_R3,
  fun m ρ _ => Cert.Kernel4.Gen.frame m ρ,
  fun m ρ _ => Cert.Kernel4Ideal.Gen.frame m ρ,
  frame_R4,
  fun m ρ _ => Cert.Kernel5.Gen.frame m ρ,
  fun m ρ _ => Cert.Kernel5Ideal.Gen.frame m ρ,
  frame_R5,
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "qscale" .f32 0x3E38AA3B#32 (((Real.log 256)⁻¹ : ℝ) : EReal) rfl⟩,
  attn,
  trivial,
  ffn,
  trivial,
  ffn_cast,
  trivial,
  ffn_open,
  trivial,
  ffn_in⟩

end Cert.Proof

end
